-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MoeKernel [hPre_routed : Cert.Pre_routed.Facts] (m : (ℓ : Loc Cert.MoeKernel.nD Cert.MoeKernel.τ Cert.MoeKernel.sig) → Buf (Elt Bits) ℓ) : Prop :=
  ∀ c : Dev Cert.MoeKernel.nD,
    (Cert.Pre_routed.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5)) (m ((c.tc : Thread Cert.MoeKernel.nD Cert.MoeKernel.τ).loc Cert.MoeKernel.main_arg6)) (m ((c.tc : Thread Cert.MoeKernel.nD Cert.MoeKernel.τ).loc Cert.MoeKernel.main_arg7)) (m ((c.tc : Thread Cert.MoeKernel.nD Cert.MoeKernel.τ).loc Cert.MoeKernel.main_arg8))) = (fun _ => 1#1)

def Pre_MoeKernelIdeal [hPre_routed : Cert.Pre_routed.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_routed.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5)) (m ((c.tc : Thread Cert.MoeKernelIdeal.nD Cert.MoeKernelIdeal.τ).loc Cert.MoeKernelIdeal.main_arg6)) (m ((c.tc : Thread Cert.MoeKernelIdeal.nD Cert.MoeKernelIdeal.τ).loc Cert.MoeKernelIdeal.main_arg7)) (m ((c.tc : Thread Cert.MoeKernelIdeal.nD Cert.MoeKernelIdeal.τ).loc Cert.MoeKernelIdeal.main_arg8))) = (fun _ => 1#1)

def Pre_MoeReferenceIdeal [hPre_routed : Cert.Pre_routed.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_routed.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MoeKernel [hMoeKernel : Cert.MoeKernel.Facts] [hPre_routed : Cert.Pre_routed.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5)
      ∧ r.2.mem ((c.tc : Thread Cert.MoeKernel.nD Cert.MoeKernel.τ).loc Cert.MoeKernel.main_arg6) = m ((c.tc : Thread Cert.MoeKernel.nD Cert.MoeKernel.τ).loc Cert.MoeKernel.main_arg6)
      ∧ r.2.mem ((c.tc : Thread Cert.MoeKernel.nD Cert.MoeKernel.τ).loc Cert.MoeKernel.main_arg7) = m ((c.tc : Thread Cert.MoeKernel.nD Cert.MoeKernel.τ).loc Cert.MoeKernel.main_arg7)
      ∧ r.2.mem ((c.tc : Thread Cert.MoeKernel.nD Cert.MoeKernel.τ).loc Cert.MoeKernel.main_arg8) = m ((c.tc : Thread Cert.MoeKernel.nD Cert.MoeKernel.τ).loc Cert.MoeKernel.main_arg8))
      ∧ r.2.sem = fun _ => 0)

def quiescent_MoeKernelIdeal [hMoeKernelIdeal : Cert.MoeKernelIdeal.Facts] [hPre_routed : Cert.Pre_routed.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
      ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6)
      ∧ r.2.mem ((c.tc : Thread Cert.MoeKernelIdeal.nD Cert.MoeKernelIdeal.τ).loc Cert.MoeKernelIdeal.main_arg7) = m ((c.tc : Thread Cert.MoeKernelIdeal.nD Cert.MoeKernelIdeal.τ).loc Cert.MoeKernelIdeal.main_arg7)
      ∧ r.2.mem ((c.tc : Thread Cert.MoeKernelIdeal.nD Cert.MoeKernelIdeal.τ).loc Cert.MoeKernelIdeal.main_arg8) = m ((c.tc : Thread Cert.MoeKernelIdeal.nD Cert.MoeKernelIdeal.τ).loc Cert.MoeKernelIdeal.main_arg8))
      ∧ r.2.sem = fun _ => 0)

def quiescent_MoeReferenceIdeal [hMoeReferenceIdeal : Cert.MoeReferenceIdeal.Facts] [hPre_routed : Cert.Pre_routed.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] [hPre_routed : Cert.Pre_routed.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)
      ∧ m' ((c.tc : Thread Cert.MoeReferenceIdeal.nD Cert.MoeReferenceIdeal.τ).loc Cert.MoeReferenceIdeal.main_arg6) = m ((c.tc : Thread Cert.MoeKernelIdeal.nD Cert.MoeKernelIdeal.τ).loc Cert.MoeKernelIdeal.main_arg6)
      ∧ m' ((c.tc : Thread Cert.MoeReferenceIdeal.nD Cert.MoeReferenceIdeal.τ).loc Cert.MoeReferenceIdeal.main_arg7) = m ((c.tc : Thread Cert.MoeKernelIdeal.nD Cert.MoeKernelIdeal.τ).loc Cert.MoeKernelIdeal.main_arg7)
      ∧ m' ((c.tc : Thread Cert.MoeReferenceIdeal.nD Cert.MoeReferenceIdeal.τ).loc Cert.MoeReferenceIdeal.main_arg8) = m ((c.tc : Thread Cert.MoeKernelIdeal.nD Cert.MoeKernelIdeal.τ).loc Cert.MoeKernelIdeal.main_arg8)) →
    ∃ (v0 : (c : Dev Cert.MoeKernelIdeal.nD) → Buf (Elt Ideal) ((c.tc : Thread Cert.MoeKernelIdeal.nD Cert.MoeKernelIdeal.τ).loc Cert.MoeKernelIdeal.main_v4)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v4) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5)
          ∧ r.2.mem ((c.tc : Thread Cert.MoeKernelIdeal.nD Cert.MoeKernelIdeal.τ).loc Cert.MoeKernelIdeal.main_arg6) = m ((c.tc : Thread Cert.MoeKernelIdeal.nD Cert.MoeKernelIdeal.τ).loc Cert.MoeKernelIdeal.main_arg6)
          ∧ r.2.mem ((c.tc : Thread Cert.MoeKernelIdeal.nD Cert.MoeKernelIdeal.τ).loc Cert.MoeKernelIdeal.main_arg7) = m ((c.tc : Thread Cert.MoeKernelIdeal.nD Cert.MoeKernelIdeal.τ).loc Cert.MoeKernelIdeal.main_arg7)
          ∧ r.2.mem ((c.tc : Thread Cert.MoeKernelIdeal.nD Cert.MoeKernelIdeal.τ).loc Cert.MoeKernelIdeal.main_arg8) = m ((c.tc : Thread Cert.MoeKernelIdeal.nD Cert.MoeKernelIdeal.τ).loc Cert.MoeKernelIdeal.main_arg8))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v76) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)) →
    ∃ (v0 : (c : Dev Cert.MergeKernelIdeal.nD) → Buf (Elt Ideal) ((c.tc : Thread Cert.MergeKernelIdeal.nD Cert.MergeKernelIdeal.τ).loc Cert.MergeKernelIdeal.main_v10_0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v10_0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v51) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v67_1)) (v1 : (c : Dev Cert.ProjKernelIdeal.nD) → Buf (Elt Ideal) ((c.tc : Thread Cert.ProjKernelIdeal.nD Cert.ProjKernelIdeal.τ).loc Cert.ProjKernelIdeal.main_v67_2)) (v2 : (c : Dev Cert.ProjKernelIdeal.nD) → Buf (Elt Ideal) ((c.tc : Thread Cert.ProjKernelIdeal.nD Cert.ProjKernelIdeal.τ).loc Cert.ProjKernelIdeal.main_v67_3)) (v3 : (c : Dev Cert.ProjKernelIdeal.nD) → Buf (Elt Ideal) ((c.tc : Thread Cert.ProjKernelIdeal.nD Cert.ProjKernelIdeal.τ).loc Cert.ProjKernelIdeal.main_v67_4)) (v4 : (c : Dev Cert.ProjKernelIdeal.nD) → Buf (Elt Ideal) ((c.tc : Thread Cert.ProjKernelIdeal.nD Cert.ProjKernelIdeal.τ).loc Cert.ProjKernelIdeal.main_v67_5)) (v5 : (c : Dev Cert.ProjKernelIdeal.nD) → Buf (Elt Ideal) ((c.tc : Thread Cert.ProjKernelIdeal.nD Cert.ProjKernelIdeal.τ).loc Cert.ProjKernelIdeal.main_v67_6)) (v6 : (c : Dev Cert.ProjKernelIdeal.nD) → Buf (Elt Ideal) ((c.tc : Thread Cert.ProjKernelIdeal.nD Cert.ProjKernelIdeal.τ).loc Cert.ProjKernelIdeal.main_v67_7)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v67_1) = v0 c
          ∧ r.2.mem ((c.tc : Thread Cert.ProjKernelIdeal.nD Cert.ProjKernelIdeal.τ).loc Cert.ProjKernelIdeal.main_v67_2) = v1 c
          ∧ r.2.mem ((c.tc : Thread Cert.ProjKernelIdeal.nD Cert.ProjKernelIdeal.τ).loc Cert.ProjKernelIdeal.main_v67_3) = v2 c
          ∧ r.2.mem ((c.tc : Thread Cert.ProjKernelIdeal.nD Cert.ProjKernelIdeal.τ).loc Cert.ProjKernelIdeal.main_v67_4) = v3 c
          ∧ r.2.mem ((c.tc : Thread Cert.ProjKernelIdeal.nD Cert.ProjKernelIdeal.τ).loc Cert.ProjKernelIdeal.main_v67_5) = v4 c
          ∧ r.2.mem ((c.tc : Thread Cert.ProjKernelIdeal.nD Cert.ProjKernelIdeal.τ).loc Cert.ProjKernelIdeal.main_v67_6) = v5 c
          ∧ r.2.mem ((c.tc : Thread Cert.ProjKernelIdeal.nD Cert.ProjKernelIdeal.τ).loc Cert.ProjKernelIdeal.main_v67_7) = v6 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v48) = v0 c
          ∧ r.2.mem ((c.tc : Thread Cert.ProjReferenceIdeal.nD Cert.ProjReferenceIdeal.τ).loc Cert.ProjReferenceIdeal.main_v49) = v1 c
          ∧ r.2.mem ((c.tc : Thread Cert.ProjReferenceIdeal.nD Cert.ProjReferenceIdeal.τ).loc Cert.ProjReferenceIdeal.main_v50) = v2 c
          ∧ r.2.mem ((c.tc : Thread Cert.ProjReferenceIdeal.nD Cert.ProjReferenceIdeal.τ).loc Cert.ProjReferenceIdeal.main_v5) = v3 c
          ∧ r.2.mem ((c.tc : Thread Cert.ProjReferenceIdeal.nD Cert.ProjReferenceIdeal.τ).loc Cert.ProjReferenceIdeal.main_v51) = v4 c
          ∧ r.2.mem ((c.tc : Thread Cert.ProjReferenceIdeal.nD Cert.ProjReferenceIdeal.τ).loc Cert.ProjReferenceIdeal.main_v52) = v5 c
          ∧ r.2.mem ((c.tc : Thread Cert.ProjReferenceIdeal.nD Cert.ProjReferenceIdeal.τ).loc Cert.ProjReferenceIdeal.main_v53) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def Claim : Prop :=
  ∃ (hKernel : Cert.Kernel.Facts) (hKernelIdeal : Cert.KernelIdeal.Facts) (hReferenceIdeal : Cert.ReferenceIdeal.Facts) (hMoeKernel : Cert.MoeKernel.Facts) (hMoeKernelIdeal : Cert.MoeKernelIdeal.Facts) (hMoeReferenceIdeal : Cert.MoeReferenceIdeal.Facts) (hMergeKernel : Cert.MergeKernel.Facts) (hMergeKernelIdeal : Cert.MergeKernelIdeal.Facts) (hMergeReferenceIdeal : Cert.MergeReferenceIdeal.Facts) (hProjKernel : Cert.ProjKernel.Facts) (hProjKernelIdeal : Cert.ProjKernelIdeal.Facts) (hProjReferenceIdeal : Cert.ProjReferenceIdeal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MoeKernel (hMoeKernel := hMoeKernel) (hPre_routed := hPre_routed)
    ∧ quiescent_MoeKernelIdeal (hMoeKernelIdeal := hMoeKernelIdeal) (hPre_routed := hPre_routed)
    ∧ quiescent_MoeReferenceIdeal (hMoeReferenceIdeal := hMoeReferenceIdeal) (hPre_routed := hPre_routed)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MoeKernel_MoeKernelIdeal
    ∧ algebraic_MoeKernelIdeal_MoeReferenceIdeal (hMoeKernelIdeal := hMoeKernelIdeal) (hMoeReferenceIdeal := hMoeReferenceIdeal) (hPre_routed := hPre_routed)
    ∧ preserves_MergeKernel_MergeKernelIdeal
    ∧ algebraic_MergeKernelIdeal_MergeReferenceIdeal (hMergeKernelIdeal := hMergeKernelIdeal) (hMergeReferenceIdeal := hMergeReferenceIdeal)
    ∧ preserves_ProjKernel_ProjKernelIdeal
    ∧ algebraic_ProjKernelIdeal_ProjReferenceIdeal (hProjKernelIdeal := hProjKernelIdeal) (hProjReferenceIdeal := hProjReferenceIdeal)
-- ==== Pre_finite.lean ====
abbrev S32x2048x512 : Shape := ⟨3, ![32, 2048, 512]⟩
abbrev S8x257 : Shape := ⟨2, ![8, 257]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S32x2048x512 .bf16) (main_arg1 : FVec F S32x2048x512 .bf16) (main_arg2 : FVec F S32x2048x512 .bf16) (main_arg3 : FVec F S8x257 .f32) : IVec S_ 1 :=
  let main_v0 : FVec F S32x2048x512 .f32 := (extf .f32 · bitsLt_bf16_f32) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x2048x512 .f32 := (extf .f32 · bitsLt_bf16_f32) main_arg1
  let main_v6 : FVec F S32x2048x512 .f32 := Host.absf main_v5
  let main_cst_0 : FVec F S_ .f32 := constant S_ .f32 0x7F800000#32
  let main_v7 : FVec F S32x2048x512 .f32 := broadcastInDim S32x2048x512 ![] bcast_S_S32x2048x512 main_cst_0
  let main_v8 : IVec S32x2048x512 1 := cmpf .olt main_v6 main_v7
  let main_c_1 : IVec S_ 1 := constantI S_ 1 1#1
  let main_v9 : IVec S_ 1 := (fun x v => Host.reduce IntOp.andi x v reducesTo_S32x2048x512_S_d0_1_2 h_S_) main_v8 main_c_1
  let main_v10 : IVec S_ 1 := andi main_v4 main_v9
  let main_v11 : FVec F S8x257 .f32 := Host.absf main_arg3
  let main_cst_2 : FVec F S_ .f32 := constant S_ .f32 0x7F800000#32
  let main_v12 : FVec F S8x257 .f32 := broadcastInDim S8x257 ![] bcast_S_S8x257 main_cst_2
  let main_v13 : IVec S8x257 1 := cmpf .olt main_v11 main_v12
  let main_c_3 : IVec S_ 1 := constantI S_ 1 1#1
  let main_v14 : IVec S_ 1 := (fun x v => Host.reduce IntOp.andi x v reducesTo_S8x257_S_d0_1 h_S_) main_v13 main_c_3
  let main_v15 : IVec S_ 1 := andi main_v10 main_v14
  main_v15
-- ==== Pre_routed.lean ====
abbrev S544 : Shape := ⟨1, ![544]⟩
abbrev S1 : Shape := ⟨1, ![1]⟩
abbrev S278528x1024 : Shape := ⟨2, ![278528, 1024]⟩
abbrev S32x1024x1024 : Shape := ⟨3, ![32, 1024, 1024]⟩
abbrev S32x1024 : Shape := ⟨2, ![32, 1024]⟩
abbrev S_ : Shape := ⟨0, ![]⟩

class Facts : Prop where
  bcast_S_S544 : S_.BroadcastsInDim S544 (![] : Fin 0 → Fin S544.rank)
  reducesTo_S544_S_d0 : S544.ReducesTo [0] S_
  h_S_ : 0 < S_.numel
  shapeCasts_S1_S_ : S1.ShapeCasts S_

variable [Facts]

def fn {F : FTy → Type} [FloatOps F] (main_arg0 : IVec S544 32) (main_arg1 : IVec S1 32) (main_arg2 : FVec F S278528x1024 .f32) (main_arg3 : FVec F S32x1024x1024 .f32) (main_arg4 : FVec F S32x1024 .f32) (main_arg5 : FVec F S32x1024x1024 .f32) (main_arg6 : FVec F S32x1024 .f32) (main_arg7 : FVec F S32x1024x1024 .f32) (main_arg8 : FVec F S32x1024 .f32) : IVec S_ 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 32#32
  let main_v2 : IVec S544 32 := broadcastInDim S544 ![] bcast_S_S544 main_c_0
  let main_v3 : IVec S544 1 := cmpi .slt main_arg0 main_v2
  let main_v4 : IVec S544 1 := andi main_v1 main_v3
  let main_c_1 : IVec S_ 1 := constantI S_ 1 1#1
  let main_v5 : IVec S_ 1 := (fun x v => Host.reduce IntOp.andi x v reducesTo_S544_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 544#32
  let main_v10 : IVec S_ 1 := cmpi .sle main_v9 main_c_3
  let main_v11 : IVec S_ 1 := andi main_v8 main_v10
  main_v11
-- ==== Kernel.lean ====
abbrev S32x2048x512 : Shape := ⟨3, ![32, 2048, 512]⟩
abbrev S8x257 : Shape := ⟨2, ![8, 257]⟩
abbrev S1536 : Shape := ⟨1, ![1536]⟩
abbrev S_ : Shape := ⟨0, ![]⟩
abbrev S1536x1 : Shape := ⟨2, ![1536, 1]⟩
abbrev S8x1536 : Shape := ⟨2, ![8, 1536]⟩
abbrev S1x512x512 : Shape := ⟨3, ![1, 512, 512]⟩
abbrev S8x512x1024 : Shape := ⟨3, ![8, 512, 1024]⟩
abbrev S512x1024 : Shape := ⟨2, ![512, 1024]⟩
abbrev S1x1536 : Shape := ⟨2, ![1, 1536]⟩
abbrev S512x1536 : Shape := ⟨2, ![512, 1536]⟩
abbrev S512x512 : Shape := ⟨2, ![512, 512]⟩
abbrev S512x2048 : Shape := ⟨2, ![512, 2048]⟩
abbrev S1x512x1024 : Shape := ⟨3, ![1, 512, 1024]⟩
abbrev S1024x512 : Shape := ⟨2, ![1024, 512]⟩
abbrev S1x1024 : Shape := ⟨2, ![1, 1024]⟩
abbrev S1x128 : Shape := ⟨2, ![1, 128]⟩
abbrev S512x128 : Shape := ⟨2, ![512, 128]⟩
abbrev S1024x128 : Shape := ⟨2, ![1024, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 13
  | .vmem => 14
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S8x257, .f32⟩
  | .hbm, ⟨4, _⟩ => ⟨S1536, .i32⟩
  | .hbm, ⟨5, _⟩ => ⟨S1536, .i1⟩
  | .hbm, ⟨6, _⟩ => ⟨S_, .i32⟩
  | .hbm, ⟨7, _⟩ => ⟨S1536, .i32⟩
  | .hbm, ⟨8, _⟩ => ⟨S1536, .i32⟩
  | .hbm, ⟨9, _⟩ => ⟨S1536, .i32⟩
  | .hbm, ⟨10, _⟩ => ⟨S1536x1, .i32⟩
  | .hbm, ⟨11, _⟩ => ⟨S8x1536, .f32⟩
  | .hbm, ⟨12, _⟩ => ⟨S32x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S8x1536, .f32⟩
  | .local _ .vmem, ⟨11, _⟩ => ⟨S1x512x512, .bf16⟩
  | .local _ .vmem, ⟨12, _⟩ => ⟨S1x512x512, .bf16⟩
  | .local _ .vmem, ⟨13, _⟩ => ⟨S8x512x1024, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v5 : BitVec 32 := Scalar.muli arg1 c512_i32
  v5
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x2048x512 : Shape := ⟨3, ![32, 2048, 512]⟩
abbrev S8x257 : Shape := ⟨2, ![8, 257]⟩
abbrev S32x32x64x8x64 : Shape := ⟨5, ![32, 32, 64, 8, 64]⟩
abbrev S32x2048x8x64 : Shape := ⟨4, ![32, 2048, 8, 64]⟩
abbrev S_ : Shape := ⟨0, ![]⟩
abbrev S32x2560x8x64 : Shape := ⟨4, ![32, 2560, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S32x576x1 : Shape := ⟨3, ![32, 576, 1]⟩
abbrev S32x32x576x8x64 : Shape := ⟨5, ![32, 32, 576, 8, 64]⟩
abbrev S32x32x8x64x576 : Shape := ⟨5, ![32, 32, 8, 64, 576]⟩
abbrev S1x1x8x64x576 : Shape := ⟨5, ![1, 1, 8, 64, 576]⟩
abbrev S1x32x1x1x576 : Shape := ⟨5, ![1, 32, 1, 1, 576]⟩
abbrev S32x32x8x64 : Shape := ⟨4, ![32, 32, 8, 64]⟩
abbrev S32x32x8x64x1 : Shape := ⟨5, ![32, 32, 8, 64, 1]⟩
abbrev S32x32x8x64x64 : Shape := ⟨5, ![32, 32, 8, 64, 64]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S32x2048x512, .bf16⟩
  | .hbm, ⟨3, _⟩ => ⟨S8x257, .f32⟩
  | .hbm, ⟨4, _⟩ => ⟨S32x2048x512, .f32⟩
  | .hbm, ⟨5, _⟩ => ⟨S32x32x64x8x64, .f32⟩
  | .hbm, ⟨6, _⟩ => ⟨S32x2048x512, .f32⟩
  | .hbm, ⟨7, _⟩ => ⟨S32x2048x8x64, .f32⟩
  | .hbm, ⟨8, _⟩ => ⟨S32x2048x512, .f32⟩
  | .hbm, ⟨9, _⟩ => ⟨S32x2048x8x64, .f32⟩
  | .hbm, ⟨10, _⟩ => ⟨S_, .i32⟩
  | .hbm, ⟨11, _⟩ => ⟨S_, .f32⟩
  | .hbm, ⟨12, _⟩ => ⟨S32x2560x8x64, .f32⟩
  | .hbm, ⟨13, _⟩ => ⟨S_, .i32⟩
  | .hbm, ⟨14, _⟩ => ⟨S_, .f32⟩
  | .hbm, ⟨15, _⟩ => ⟨S32x2560x8x64, .f32⟩
  | .hbm, ⟨16, _⟩ => ⟨S64, .i32⟩
  | .hbm, ⟨17, _⟩ => ⟨S64x1, .i32⟩
  | .hbm, ⟨18, _⟩ => ⟨S576, .i32⟩
  | .hbm, ⟨19, _⟩ => ⟨S1x576, .i32⟩
  | .hbm, ⟨20, _⟩ => ⟨S64x576, .i32⟩
  | .hbm, ⟨21, _⟩ => ⟨S64x576, .i32⟩
  | .hbm, ⟨22, _⟩ => ⟨S64x576, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i1⟩
  | .hbm, ⟨40, _⟩ => ⟨S_, .i32⟩
  | .hbm, ⟨41, _⟩ => ⟨S64x576, .i32⟩
  | .hbm, ⟨42, _⟩ => ⟨S64x576, .i32⟩
  | .hbm, ⟨43, _⟩ => ⟨S64x576, .i32⟩
  | .hbm, ⟨44, _⟩ => ⟨S64x576x1, .i32⟩
  | .hbm, ⟨45, _⟩ => ⟨S8x64x576, .f32⟩
  | .hbm, ⟨46, _⟩ => ⟨S32, .i32⟩
  | .hbm, ⟨47, _⟩ => ⟨S32x1, .i32⟩
  | .hbm, ⟨48, _⟩ => ⟨S_, .i32⟩
  | .hbm, ⟨49, _⟩ => ⟨S32x1, .i32⟩
  | .hbm, ⟨50, _⟩ => ⟨S32x1, .i32⟩
  | .hbm, ⟨51, _⟩ => ⟨S576, .i32⟩
  | .hbm, ⟨52, _⟩ => ⟨S1x576, .i32⟩
  | .hbm, ⟨53, _⟩ => ⟨S32x576, .i32⟩
  | .hbm, ⟨54, _⟩ => ⟨S32x576, .i32⟩
  | .hbm, ⟨55, _⟩ => ⟨S32x576, .i32⟩
  | .hbm, ⟨56, _⟩ => ⟨S_, .i32⟩
  | .hbm, ⟨57, _⟩ => ⟨S32x576, .i32⟩
  | .hbm, ⟨58, _⟩ => ⟨S32x576, .i1⟩
  | .hbm, ⟨59, _⟩ => ⟨S_, .i32⟩
  | .hbm, ⟨60, _⟩ => ⟨S32x576, .i32⟩
  | .hbm, ⟨61, _⟩ => ⟨S32x576, .i32⟩
  | .hbm, ⟨62, _⟩ => ⟨S32x576, .i32⟩
  | .hbm, ⟨63, _⟩ => ⟨S32x576x1, .i32⟩
  | .hbm, ⟨64, _⟩ => ⟨S32x32x576x8x64, .f32⟩
  | .hbm, ⟨65, _⟩ => ⟨S_, .i32⟩
  | .hbm, ⟨66, _⟩ => ⟨S32x576, .i32⟩
  | .hbm, ⟨67, _⟩ => ⟨S32x576, .i1⟩
  | .hbm, ⟨68, _⟩ => ⟨S_, .i32⟩
  | .hbm, ⟨69, _⟩ => ⟨S32x576, .i32⟩
  | .hbm, ⟨70, _⟩ => ⟨S32x576, .i32⟩
  | .hbm, ⟨71, _⟩ => ⟨S32x576, .i32⟩
  | .hbm, ⟨72, _⟩ => ⟨S32x576x1, .i32⟩
  | .hbm, ⟨73, _⟩ => ⟨S32x32x576x8x64, .f32⟩
  | .hbm, ⟨74, _⟩ => ⟨S32x32x8x64x576, .f32⟩
  | .hbm, ⟨75, _⟩ => ⟨S_, .f32⟩
  | .hbm, ⟨76, _⟩ => ⟨S32x32x8x64x576, .f32⟩
  | .hbm, ⟨77, _⟩ => ⟨S32x32x8x64x576, .f32⟩
  | .hbm, ⟨78, _⟩ => ⟨S1x1x8x64x576, .f32⟩
  | .hbm, ⟨79, _⟩ => ⟨S32x32x8x64x576, .f32⟩
  | .hbm, ⟨80, _⟩ => ⟨S32x32x8x64x576, .f32⟩
  | .hbm, ⟨81, _⟩ => ⟨S_, .i32⟩
  | .hbm, ⟨82, _⟩ => ⟨S32x576, .i32⟩
  | .hbm, ⟨83, _⟩ => ⟨S32x576, .i32⟩
  | .hbm, ⟨84, _⟩ => ⟨S_, .i32⟩
  | .hbm, ⟨85, _⟩ => ⟨S32x576, .i32⟩
  | .hbm, ⟨86, _⟩ => ⟨S32x576, .i1⟩
  | .hbm, ⟨87, _⟩ => ⟨S1x32x1x1x576, .i1⟩
  | .hbm, ⟨88, _⟩ => ⟨S_, .f32⟩
  | .hbm, ⟨89, _⟩ => ⟨S_, .f32⟩
  | .hbm, ⟨90, _⟩ => ⟨S32x32x8x64x576, .i1⟩
  | .hbm, ⟨91, _⟩ => ⟨S32x32x8x64x576, .f32⟩
  | .hbm, ⟨92, _⟩ => ⟨S32x32x8x64x576, .f32⟩
  | .hbm, ⟨93, _⟩ => ⟨S_, .f32⟩
  | .hbm, ⟨94, _⟩ => ⟨S32x32x8x64, .f32⟩
  | .hbm, ⟨95, _⟩ => ⟨S_, .f32⟩
  | .hbm, ⟨96, _⟩ => ⟨S32x32x8x64, .f32⟩
  | .hbm, ⟨97, _⟩ => ⟨S32x32x8x64, .f32⟩
  | .hbm, ⟨98, _⟩ => ⟨S32x32x8x64x1, .f32⟩
  | .hbm, ⟨99, _⟩ => ⟨S32x32x8x64x576, .f32⟩
  | .hbm, ⟨100, _⟩ => ⟨S32x32x8x64x576, .f32⟩
  | .hbm, ⟨101, _⟩ => ⟨S32x32x8x64x576, .f32⟩
  | .hbm, ⟨102, _⟩ => ⟨S_, .f32⟩
  | .hbm, ⟨103, _⟩ => ⟨S32x32x8x64, .f32⟩
  | .hbm, ⟨104, _⟩ => ⟨S32x32x8x64x1, .f32⟩
  | .hbm, ⟨105, _⟩ => ⟨S32x32x8x64x576, .f32⟩
  | .hbm, ⟨106, _⟩ => ⟨S32x32x8x64x576, .f32⟩
  | .hbm, ⟨107, _⟩ => ⟨S32x32x8x64x64, .f32⟩
  | .hbm, ⟨108, _⟩ => ⟨S32x32x64x8x64, .f32⟩
  | .hbm, ⟨109, _⟩ => ⟨S32x2048x512, .f32⟩
  | .hbm, ⟨110, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_c_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_14 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v61 : Ref sig .tc := ⟨.hbm, 92, rfl⟩
abbrev main_cst_15 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== MoeKernel.lean ====
abbrev S544 : Shape := ⟨1, ![544]⟩
abbrev S1 : Shape := ⟨1, ![1]⟩
abbrev S278528x1024 : Shape := ⟨2, ![278528, 1024]⟩
abbrev S32x1024x1024 : Shape := ⟨3, ![32, 1024, 1024]⟩
abbrev S32x1024 : Shape := ⟨2, ![32, 1024]⟩
abbrev S2228224x128 : Shape := ⟨2, ![2228224, 128]⟩
abbrev S32x1x1024 : Shape := ⟨3, ![32, 1, 1024]⟩
abbrev S4096x128 : Shape := ⟨2, ![4096, 128]⟩
abbrev S1x1024x1024 : Shape := ⟨3, ![1, 1024, 1024]⟩
abbrev S1x1x1024 : Shape := ⟨3, ![1, 1, 1024]⟩
abbrev S1024x1024 : Shape := ⟨2, ![1024, 1024]⟩
abbrev S512x128 : Shape := ⟨2, ![512, 128]⟩
abbrev S512x1024 : Shape := ⟨2, ![512, 1024]⟩
abbrev S1x1024 : Shape := ⟨2, ![1, 1024]⟩

abbrev nBuf : Space → Nat
  | .hbm => 12
  | .vmem => 19
  | .smem => 2
  | _ => 0

abbrev bufTy : (tb : Table) → Fin (tcTables nBuf tb) → BufTy
  | .hbm, ⟨0, _⟩ => ⟨S278528x1024, .f32⟩
  | .hbm, ⟨1, _⟩ => ⟨S32x1024x1024, .f32⟩
  | .hbm, ⟨2, _⟩ => ⟨S32x1024, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S2228224x128, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S2228224x128, .f32⟩
  | .local _ .vmem, ⟨0, _⟩ => ⟨S4096x128, .f32⟩
  | .local _ .vmem, ⟨1, _⟩ => ⟨S4096x128, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S4096x128, .f32⟩
  | .local _ .vmem, ⟨15, _⟩ => ⟨S4096x128, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S544, .i32⟩
  | .local _ .smem, ⟨1, _⟩ => ⟨S1, .i32⟩
  | _, _ => ⟨S278528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v13 : BitVec 32 := Scalar.extui v1
  let c0_i32_2 : BitVec 32 := 0#32
  let v14 : BitVec 1 := Scalar.cmpi .ne v13 c0_i32_2
  v14

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v15 : BitVec 1 := Scalar.xori v1 v_true
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MoeReferenceIdeal.lean ====
abbrev S544 : Shape := ⟨1, ![544]⟩
abbrev S1 : Shape := ⟨1, ![1]⟩
abbrev S278528x1024 : Shape := ⟨2, ![278528, 1024]⟩
abbrev S32x1024x1024 : Shape := ⟨3, ![32, 1024, 1024]⟩
abbrev S32x1024 : Shape := ⟨2, ![32, 1024]⟩
abbrev S544x512x1024 : Shape := ⟨3, ![544, 512, 1024]⟩
abbrev S_ : Shape := ⟨0, ![]⟩
abbrev S544x1 : Shape := ⟨2, ![544, 1]⟩
abbrev S544x1024x1024 : Shape := ⟨3, ![544, 1024, 1024]⟩
abbrev S544x1024 : Shape := ⟨2, ![544, 1024]⟩
abbrev S544x1x1024 : Shape := ⟨3, ![544, 1, 1024]⟩
abbrev S544x1x1 : Shape := ⟨3, ![544, 1, 1]⟩
abbrev S2228224x128 : Shape := ⟨2, ![2228224, 128]⟩

abbrev nBuf : Space → Nat
  | .hbm => 114
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S278528x1024, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024, .f32⟩
  | .hbm, ⟨7, _⟩ => ⟨S32x1024x1024, .f32⟩
  | .hbm, ⟨8, _⟩ => ⟨S32x1024, .f32⟩
  | .hbm, ⟨9, _⟩ => ⟨S544x512x1024, .f32⟩
  | .hbm, ⟨10, _⟩ => ⟨S_, .i32⟩
  | .hbm, ⟨11, _⟩ => ⟨S544, .i32⟩
  | .hbm, ⟨12, _⟩ => ⟨S544, .i1⟩
  | .hbm, ⟨13, _⟩ => ⟨S_, .i32⟩
  | .hbm, ⟨14, _⟩ => ⟨S544, .i32⟩
  | .hbm, ⟨15, _⟩ => ⟨S544, .i32⟩
  | .hbm, ⟨16, _⟩ => ⟨S544, .i32⟩
  | .hbm, ⟨17, _⟩ => ⟨S544x1, .i32⟩
  | .hbm, ⟨18, _⟩ => ⟨S544x1024x1024, .f32⟩
  | .hbm, ⟨19, _⟩ => ⟨S544x512x1024, .f32⟩
  | .hbm, ⟨20, _⟩ => ⟨S_, .i32⟩
  | .hbm, ⟨21, _⟩ => ⟨S544, .i32⟩
  | .hbm, ⟨22, _⟩ => ⟨S544, .i1⟩
  | .hbm, ⟨23, _⟩ => ⟨S_, .i32⟩
  | .hbm, ⟨24, _⟩ => ⟨S544, .i32⟩
  | .hbm, ⟨25, _⟩ => ⟨S544, .i32⟩
  | .hbm, ⟨26, _⟩ => ⟨S544, .i32⟩
  | .hbm, ⟨27, _⟩ => ⟨S544x1, .i32⟩
  | .hbm, ⟨28, _⟩ => ⟨S544x1024, .f32⟩
  | .hbm, ⟨29, _⟩ => ⟨S544x1x1024, .f32⟩
  | .hbm, ⟨30, _⟩ => ⟨S544x512x1024, .f32⟩
  | .hbm, ⟨31, _⟩ => ⟨S544x512x1024, .f32⟩
  | .hbm, ⟨32, _⟩ => ⟨S_, .f32⟩
  | .hbm, ⟨33, _⟩ => ⟨S544x512x1024, .f32⟩
  | .hbm, ⟨34, _⟩ => ⟨S544x512x1024, .f32⟩
  | .hbm, ⟨35, _⟩ => ⟨S_, .i32⟩
  | .hbm, ⟨36, _⟩ => ⟨S544, .i32⟩
  | .hbm, ⟨37, _⟩ => ⟨S544, .i1⟩
  | .hbm, ⟨38, _⟩ => ⟨S_, .i32⟩
  | .hbm, ⟨39, _⟩ => ⟨S544, .i32⟩
  | .hbm, ⟨40, _⟩ => ⟨S544, .i32⟩
  | .hbm, ⟨41, _⟩ => ⟨S544, .i32⟩
  | .hbm, ⟨42, _⟩ => ⟨S544x1, .i32⟩
  | .hbm, ⟨43, _⟩ => ⟨S544x1024x1024, .f32⟩
  | .hbm, ⟨44, _⟩ => ⟨S544x512x1024, .f32⟩
  | .hbm, ⟨45, _⟩ => ⟨S_, .i32⟩
  | .hbm, ⟨46, _⟩ => ⟨S544, .i32⟩
  | .hbm, ⟨47, _⟩ => ⟨S544, .i1⟩
  | .hbm, ⟨48, _⟩ => ⟨S_, .i32⟩
  | .hbm, ⟨49, _⟩ => ⟨S544, .i32⟩
  | .hbm, ⟨50, _⟩ => ⟨S544, .i32⟩
  | .hbm, ⟨51, _⟩ => ⟨S544, .i32⟩
  | .hbm, ⟨52, _⟩ => ⟨S544x1, .i32⟩
  | .hbm, ⟨53, _⟩ => ⟨S544x1024, .f32⟩
  | .hbm, ⟨54, _⟩ => ⟨S544x1x1024, .f32⟩
  | .hbm, ⟨55, _⟩ => ⟨S544x512x1024, .f32⟩
  | .hbm, ⟨56, _⟩ => ⟨S544x512x1024, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S544x512x1024, .f32⟩
  | .hbm, ⟨61, _⟩ => ⟨S544x512x1024, .f32⟩
  | .hbm, ⟨62, _⟩ => ⟨S_, .f32⟩
  | .hbm, ⟨63, _⟩ => ⟨S544x512x1024, .f32⟩
  | .hbm, ⟨64, _⟩ => ⟨S544x512x1024, .f32⟩
  | .hbm, ⟨65, _⟩ => ⟨S_, .f32⟩
  | .hbm, ⟨66, _⟩ => ⟨S544x512x1024, .f32⟩
  | .hbm, ⟨67, _⟩ => ⟨S544x512x1024, .f32⟩
  | .hbm, ⟨68, _⟩ => ⟨S_, .f32⟩
  | .hbm, ⟨69, _⟩ => ⟨S544x512x1024, .f32⟩
  | .hbm, ⟨70, _⟩ => ⟨S544x512x1024, .f32⟩
  | .hbm, ⟨71, _⟩ => ⟨S544x512x1024, .f32⟩
  | .hbm, ⟨72, _⟩ => ⟨S544x512x1024, .f32⟩
  | .hbm, ⟨73, _⟩ => ⟨S_, .f32⟩
  | .hbm, ⟨74, _⟩ => ⟨S544x512x1024, .f32⟩
  | .hbm, ⟨75, _⟩ => ⟨S544x512x1024, .f32⟩
  | .hbm, ⟨76, _⟩ => ⟨S_, .f32⟩
  | .hbm, ⟨77, _⟩ => ⟨S544x512x1024, .f32⟩
  | .hbm, ⟨78, _⟩ => ⟨S544x512x1024, .f32⟩
  | .hbm, ⟨79, _⟩ => ⟨S544x512x1024, .f32⟩
  | .hbm, ⟨80, _⟩ => ⟨S544x512x1024, .f32⟩
  | .hbm, ⟨81, _⟩ => ⟨S_, .i32⟩
  | .hbm, ⟨82, _⟩ => ⟨S544, .i32⟩
  | .hbm, ⟨83, _⟩ => ⟨S544, .i1⟩
  | .hbm, ⟨84, _⟩ => ⟨S_, .i32⟩
  | .hbm, ⟨85, _⟩ => ⟨S544, .i32⟩
  | .hbm, ⟨86, _⟩ => ⟨S544, .i32⟩
  | .hbm, ⟨87, _⟩ => ⟨S544, .i32⟩
  | .hbm, ⟨88, _⟩ => ⟨S544x1, .i32⟩
  | .hbm, ⟨89, _⟩ => ⟨S544x1024x1024, .f32⟩
  | .hbm, ⟨90, _⟩ => ⟨S544x512x1024, .f32⟩
  | .hbm, ⟨91, _⟩ => ⟨S_, .i32⟩
  | .hbm, ⟨92, _⟩ => ⟨S544, .i32⟩
  | .hbm, ⟨93, _⟩ => ⟨S544, .i1⟩
  | .hbm, ⟨94, _⟩ => ⟨S_, .i32⟩
  | .hbm, ⟨95, _⟩ => ⟨S544, .i32⟩
  | .hbm, ⟨96, _⟩ => ⟨S544, .i32⟩
  | .hbm, ⟨97, _⟩ => ⟨S544, .i32⟩
  | .hbm, ⟨98, _⟩ => ⟨S544x1, .i32⟩
  | .hbm, ⟨99, _⟩ => ⟨S544x1024, .f32⟩
  | .hbm, ⟨100, _⟩ => ⟨S544x1x1024, .f32⟩
  | .hbm, ⟨101, _⟩ => ⟨S544x512x1024, .f32⟩
  | .hbm, ⟨102, _⟩ => ⟨S544x512x1024, .f32⟩
  | .hbm, ⟨103, _⟩ => ⟨S544, .i32⟩
  | .hbm, ⟨104, _⟩ => ⟨S_, .i32⟩
  | .hbm, ⟨105, _⟩ => ⟨S544, .i32⟩
  | .hbm, ⟨106, _⟩ => ⟨S544, .i1⟩
  | .hbm, ⟨107, _⟩ => ⟨S544x1x1, .i1⟩
  | .hbm, ⟨108, _⟩ => ⟨S_, .f32⟩
  | .hbm, ⟨109, _⟩ => ⟨S_, .f32⟩
  | .hbm, ⟨110, _⟩ => ⟨S544x512x1024, .i1⟩
  | .hbm, ⟨111, _⟩ => ⟨S544x512x1024, .f32⟩
  | .hbm, ⟨112, _⟩ => ⟨S544x512x1024, .f32⟩
  | .hbm, ⟨113, _⟩ => ⟨S2228224x128, .f32⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== MergeKernel.lean ====
abbrev S65536x1024 : Shape := ⟨2, ![65536, 1024]⟩
abbrev S65536x512 : Shape := ⟨2, ![65536, 512]⟩
abbrev S1024x4808 : Shape := ⟨2, ![1024, 4808]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1024x2048 : Shape := ⟨2, ![1024, 2048]⟩
abbrev S1x1024 : Shape := ⟨2, ![1, 1024]⟩
abbrev S32x1024 : Shape := ⟨2, ![32, 1024]⟩
abbrev S32x1 : Shape := ⟨2, ![32, 1]⟩
abbrev S524288x128 : Shape := ⟨2, ![524288, 128]⟩
abbrev S4x65536 : Shape := ⟨2, ![4, 65536]⟩
abbrev S1024x512 : Shape := ⟨2, ![1024, 512]⟩
abbrev S8192x128 : Shape := ⟨2, ![8192, 128]⟩
abbrev S4x1024 : Shape := ⟨2, ![4, 1024]⟩
abbrev S1024x1 : Shape := ⟨2, ![1024, 1]⟩
abbrev S1024x128 : Shape := ⟨2, ![1024, 128]⟩

abbrev nBuf : Space → Nat
  | .hbm => 24
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x4808, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S1024x2048, .f32⟩
  | .hbm, ⟨12, _⟩ => ⟨S1024x2048, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S32x1024, .f32⟩
  | .hbm, ⟨19, _⟩ => ⟨S32x1024, .bf16⟩
  | .hbm, ⟨20, _⟩ => ⟨S32x1, .f32⟩
  | .hbm, ⟨21, _⟩ => ⟨S524288x128, .f32⟩
  | .hbm, ⟨22, _⟩ => ⟨S4x65536, .i32⟩
  | .hbm, ⟨23, _⟩ => ⟨S4x65536, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S32x1024, .bf16⟩
  | .local _ .vmem, ⟨13, _⟩ => ⟨S32x1, .f32⟩
  | .local _ .vmem, ⟨14, _⟩ => ⟨S8192x128, .f32⟩
  | .local _ .vmem, ⟨15, _⟩ => ⟨S8192x128, .f32⟩
  | .local _ .vmem, ⟨16, _⟩ => ⟨S4x1024, .i32⟩
  | .local _ .vmem, ⟨17, _⟩ => ⟨S4x1024, .i32⟩
  | .local _ .vmem, ⟨18, _⟩ => ⟨S4x1024, .f32⟩
  | .local _ .vmem, ⟨19, _⟩ => ⟨S4x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S65536x1024 : Shape := ⟨2, ![65536, 1024]⟩
abbrev S65536x512 : Shape := ⟨2, ![65536, 512]⟩
abbrev S1024x4808 : Shape := ⟨2, ![1024, 4808]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1024x2048 : Shape := ⟨2, ![1024, 2048]⟩
abbrev S65536x2048 : Shape := ⟨2, ![65536, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S524288x128 : Shape := ⟨2, ![524288, 128]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x4808, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S1024x2048, .f32⟩
  | .hbm, ⟨12, _⟩ => ⟨S65536x2048, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x512, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1024, .f32⟩
  | .hbm, ⟨33, _⟩ => ⟨S65536x1024, .f32⟩
  | .hbm, ⟨34, _⟩ => ⟨S65536x512, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S65536x1, .f32⟩
  | .hbm, ⟨64, _⟩ => ⟨S65536x1024, .f32⟩
  | .hbm, ⟨65, _⟩ => ⟨S65536x1024, .f32⟩
  | .hbm, ⟨66, _⟩ => ⟨S1x1024, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S524288x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== ProjKernel.lean ====
abbrev S65536x1024 : Shape := ⟨2, ![65536, 1024]⟩
abbrev S1024x4808 : Shape := ⟨2, ![1024, 4808]⟩
abbrev S128 : Shape := ⟨1, ![128]⟩
abbrev S64 : Shape := ⟨1, ![64]⟩
abbrev S8x64x128 : Shape := ⟨3, ![8, 64, 128]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S_ : Shape := ⟨0, ![]⟩
abbrev S1024x2944 : Shape := ⟨2, ![1024, 2944]⟩
abbrev S512x1024 : Shape := ⟨2, ![512, 1024]⟩
abbrev S1x64x128 : Shape := ⟨3, ![1, 64, 128]⟩
abbrev S64x128 : Shape := ⟨2, ![64, 128]⟩
abbrev S1 : Shape := ⟨1, ![1]⟩
abbrev S2 : Shape := ⟨1, ![2]⟩
abbrev S1x128 : Shape := ⟨2, ![1, 128]⟩
abbrev S1x64 : Shape := ⟨2, ![1, 64]⟩
abbrev S65536x512 : Shape := ⟨2, ![65536, 512]⟩
abbrev S65536x128 : Shape := ⟨2, ![65536, 128]⟩
abbrev S65536x64 : Shape := ⟨2, ![65536, 64]⟩
abbrev S65536x8 : Shape := ⟨2, ![65536, 8]⟩
abbrev S1024 : Shape := ⟨1, ![1024]⟩
abbrev S1024x1 : Shape := ⟨2, ![1024, 1]⟩

abbrev nBuf : Space → Nat
  | .hbm => 102
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S1024x4808, .f32⟩
  | .hbm, ⟨2, _⟩ => ⟨S128, .f32⟩
  | .hbm, ⟨3, _⟩ => ⟨S64, .f32⟩
  | .hbm, ⟨4, _⟩ => ⟨S64, .f32⟩
  | .hbm, ⟨5, _⟩ => ⟨S8x64x128, .f32⟩
  | .hbm, ⟨6, _⟩ => ⟨S1024x512, .f32⟩
  | .hbm, ⟨7, _⟩ => ⟨S1024x128, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x1024, .f32⟩
  | .hbm, ⟨15, _⟩ => ⟨S1024x1024, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x2944, .f32⟩
  | .hbm, ⟨23, _⟩ => ⟨S1024x2944, .bf16⟩
  | .hbm, ⟨24, _⟩ => ⟨S_, .f32⟩
  | .hbm, ⟨25, _⟩ => ⟨S512x1024, .f32⟩
  | .hbm, ⟨26, _⟩ => ⟨S1x64x128, .f32⟩
  | .hbm, ⟨27, _⟩ => ⟨S64x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S512x1024, .f32⟩
  | .hbm, ⟨34, _⟩ => ⟨S1x64x128, .f32⟩
  | .hbm, ⟨35, _⟩ => ⟨S64x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S512x1024, .f32⟩
  | .hbm, ⟨42, _⟩ => ⟨S1x64x128, .f32⟩
  | .hbm, ⟨43, _⟩ => ⟨S64x128, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S512x1024, .f32⟩
  | .hbm, ⟨50, _⟩ => ⟨S1x64x128, .f32⟩
  | .hbm, ⟨51, _⟩ => ⟨S64x128, .f32⟩
  | .hbm, ⟨52, _⟩ => ⟨S_, .i32⟩
  | .hbm, ⟨53, _⟩ => ⟨S1, .i32⟩
  | .hbm, ⟨54, _⟩ => ⟨S_, .i32⟩
  | .hbm, ⟨55, _⟩ => ⟨S1, .i32⟩
  | .hbm, ⟨56, _⟩ => ⟨S2, .i32⟩
  | .hbm, ⟨57, _⟩ => ⟨S512x1024, .f32⟩
  | .hbm, ⟨58, _⟩ => ⟨S1x64x128, .f32⟩
  | .hbm, ⟨59, _⟩ => ⟨S64x128, .f32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S512x1024, .f32⟩
  | .hbm, ⟨66, _⟩ => ⟨S1x64x128, .f32⟩
  | .hbm, ⟨67, _⟩ => ⟨S64x128, .f32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S2, .i32⟩
  | .hbm, ⟨73, _⟩ => ⟨S512x1024, .f32⟩
  | .hbm, ⟨74, _⟩ => ⟨S1x64x128, .f32⟩
  | .hbm, ⟨75, _⟩ => ⟨S64x128, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S512x1024, .f32⟩
  | .hbm, ⟨82, _⟩ => ⟨S1x64x128, .f32⟩
  | .hbm, ⟨83, _⟩ => ⟨S64x128, .f32⟩
  | .hbm, ⟨84, _⟩ => ⟨S_, .i32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S2, .i32⟩
  | .hbm, ⟨89, _⟩ => ⟨S512x1024, .f32⟩
  | .hbm, ⟨90, _⟩ => ⟨S512x1024, .bf16⟩
  | .hbm, ⟨91, _⟩ => ⟨S1x128, .f32⟩
  | .hbm, ⟨92, _⟩ => ⟨S1x64, .f32⟩
  | .hbm, ⟨93, _⟩ => ⟨S1x64, .f32⟩
  | .hbm, ⟨94, _⟩ => ⟨S65536x1024, .bf16⟩
  | .hbm, ⟨95, _⟩ => ⟨S65536x512, .bf16⟩
  | .hbm, ⟨96, _⟩ => ⟨S65536x128, .bf16⟩
  | .hbm, ⟨97, _⟩ => ⟨S65536x64, .bf16⟩
  | .hbm, ⟨98, _⟩ => ⟨S65536x8, .f32⟩
  | .hbm, ⟨99, _⟩ => ⟨S65536x512, .bf16⟩
  | .hbm, ⟨100, _⟩ => ⟨S65536x512, .bf16⟩
  | .hbm, ⟨101, _⟩ => ⟨S65536x512, .bf16⟩
  | .local _ .vmem, ⟨0, _⟩ => ⟨S1024x1024, .f32⟩
  | .local _ .vmem, ⟨1, _⟩ => ⟨S1024x1024, .f32⟩
  | .local _ .vmem, ⟨2, _⟩ => ⟨S1024x2944, .bf16⟩
  | .local _ .vmem, ⟨3, _⟩ => ⟨S512x1024, .bf16⟩
  | .local _ .vmem, ⟨4, _⟩ => ⟨S1x128, .f32⟩
  | .local _ .vmem, ⟨5, _⟩ => ⟨S1x64, .f32⟩
  | .local _ .vmem, ⟨6, _⟩ => ⟨S1x64, .f32⟩
  | .local _ .vmem, ⟨7, _⟩ => ⟨S1024x1024, .bf16⟩
  | .local _ .vmem, ⟨8, _⟩ => ⟨S1024x1024, .bf16⟩
  | .local _ .vmem, ⟨9, _⟩ => ⟨S1024x512, .bf16⟩
  | .local _ .vmem, ⟨10, _⟩ => ⟨S1024x512, .bf16⟩
  | .local _ .vmem, ⟨11, _⟩ => ⟨S1024x128, .bf16⟩
  | .local _ .vmem, ⟨12, _⟩ => ⟨S1024x128, .bf16⟩
  | .local _ .vmem, ⟨13, _⟩ => ⟨S1024x64, .bf16⟩
  | .local _ .vmem, ⟨14, _⟩ => ⟨S1024x64, .bf16⟩
  | .local _ .vmem, ⟨15, _⟩ => ⟨S1024x8, .f32⟩
  | .local _ .vmem, ⟨16, _⟩ => ⟨S1024x8, .f32⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_c_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_15 : Ref sig .tc := ⟨.hbm, 84, rfl⟩
abbrev main_v59 : Ref sig .tc := ⟨.hbm, 85, rfl⟩
abbrev main_c_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67_0 : Ref sig .tc := ⟨.hbm, 94, rfl⟩
abbrev main_v67_1 : Ref sig .tc := ⟨.hbm, 95, rfl⟩
abbrev main_v67_2 : Ref sig .tc := ⟨.hbm, 96, rfl⟩
abbrev main_v67_3 : Ref sig .tc := ⟨.hbm, 97, rfl⟩
abbrev main_v67_4 : Ref sig .tc := ⟨.hbm, 98, rfl⟩
abbrev main_v67_5 : Ref sig .tc := ⟨.hbm, 99, rfl⟩
abbrev main_v67_6 : Ref sig .tc := ⟨.hbm, 100, rfl⟩
abbrev main_v67_7 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2944 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjReferenceIdeal.lean ====
abbrev S65536x1024 : Shape := ⟨2, ![65536, 1024]⟩
abbrev S1024x4808 : Shape := ⟨2, ![1024, 4808]⟩
abbrev S128 : Shape := ⟨1, ![128]⟩
abbrev S64 : Shape := ⟨1, ![64]⟩
abbrev S8x64x128 : Shape := ⟨3, ![8, 64, 128]⟩
abbrev S65536x4808 : Shape := ⟨2, ![65536, 4808]⟩
abbrev S65536x512 : Shape := ⟨2, ![65536, 512]⟩
abbrev S65536x128 : Shape := ⟨2, ![65536, 128]⟩
abbrev S65536x64 : Shape := ⟨2, ![65536, 64]⟩
abbrev S65536x8 : Shape := ⟨2, ![65536, 8]⟩
abbrev S_ : Shape := ⟨0, ![]⟩
abbrev S65536 : Shape := ⟨1, ![65536]⟩
abbrev S65536x1 : Shape := ⟨2, ![65536, 1]⟩
abbrev S1x128 : Shape := ⟨2, ![1, 128]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4808, .f32⟩
  | .hbm, ⟨2, _⟩ => ⟨S128, .f32⟩
  | .hbm, ⟨3, _⟩ => ⟨S64, .f32⟩
  | .hbm, ⟨4, _⟩ => ⟨S64, .f32⟩
  | .hbm, ⟨5, _⟩ => ⟨S8x64x128, .f32⟩
  | .hbm, ⟨6, _⟩ => ⟨S65536x4808, .f32⟩
  | .hbm, ⟨7, _⟩ => ⟨S65536x512, .f32⟩
  | .hbm, ⟨8, _⟩ => ⟨S65536x128, .f32⟩
  | .hbm, ⟨9, _⟩ => ⟨S65536x512, .f32⟩
  | .hbm, ⟨10, _⟩ => ⟨S65536x64, .f32⟩
  | .hbm, ⟨11, _⟩ => ⟨S65536x8, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S65536x1024, .f32⟩
  | .hbm, ⟨16, _⟩ => ⟨S65536x1024, .f32⟩
  | .hbm, ⟨17, _⟩ => ⟨S65536x128, .f32⟩
  | .hbm, ⟨18, _⟩ => ⟨S_, .f32⟩
  | .hbm, ⟨19, _⟩ => ⟨S65536, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S65536x1, .f32⟩
  | .hbm, ⟨28, _⟩ => ⟨S65536x128, .f32⟩
  | .hbm, ⟨29, _⟩ => ⟨S65536x128, .f32⟩
  | .hbm, ⟨30, _⟩ => ⟨S1x128, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x64, .f32⟩
  | .hbm, ⟨40, _⟩ => ⟨S65536x64, .f32⟩
  | .hbm, ⟨41, _⟩ => ⟨S65536x64, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x64, .f32⟩
  | .hbm, ⟨49, _⟩ => ⟨S65536x64, .f32⟩
  | .hbm, ⟨50, _⟩ => ⟨S_, .f32⟩
  | .hbm, ⟨51, _⟩ => ⟨S65536x1, .f32⟩
  | .hbm, ⟨52, _⟩ => ⟨S65536x1, .f32⟩
  | .hbm, ⟨53, _⟩ => ⟨S65536x1, .f32⟩
  | .hbm, ⟨54, _⟩ => ⟨S65536x64, .f32⟩
  | .hbm, ⟨55, _⟩ => ⟨S65536x64, .f32⟩
  | .hbm, ⟨56, _⟩ => ⟨S1x64, .f32⟩
  | .hbm, ⟨57, _⟩ => ⟨S65536x64, .f32⟩
  | .hbm, ⟨58, _⟩ => ⟨S65536x64, .f32⟩
  | .hbm, ⟨59, _⟩ => ⟨S1x64, .f32⟩
  | .hbm, ⟨60, _⟩ => ⟨S65536x64, .f32⟩
  | .hbm, ⟨61, _⟩ => ⟨S65536x64, .f32⟩
  | .hbm, ⟨62, _⟩ => ⟨S65536x512, .bf16⟩
  | .hbm, ⟨63, _⟩ => ⟨S65536x128, .bf16⟩
  | .hbm, ⟨64, _⟩ => ⟨S65536x64, .bf16⟩
  | .hbm, ⟨65, _⟩ => ⟨S65536x512, .bf16⟩
  | .hbm, ⟨66, _⟩ => ⟨S65536x512, .bf16⟩
  | .hbm, ⟨67, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Proof.Finite.lean ====
/-
  The precondition `finite` read at an index: queries, keys and relative biases are real numbers.
-/
module

public import proofs.«01_k».proof.Pre_finite
public import proofs.«01_k».proof.Proof.Gen.Pre_finite
public import Idealize.ShloMosaic.Lib.ReduceAll
public import Idealize.ShloMosaic.Lib.Affine
public import Idealize.ShloMosaic.Lib.Pointwise

@[expose] public section

noncomputable section

open Idealize.ShloMosaic

namespace Cert.Pre_finite.Band

open Cert.Pre_finite

/-- A number whose absolute value is below +∞ is real. -/
theorem real_of_abs (x : EReal) (h : FloatOps.cmpf (F := Ideal) (φ := .f32) .olt (max x (-x)) (Ideal.ofBits .f32 0x7F800000#32) = 1#1) :
    x ≠ ⊤ ∧ x ≠ ⊥ := by
  have ht : Ideal.ofBits .f32 0x7F800000#32 = ⊤ := by simp [Ideal.ofBits, Ideal.ieee]
  rw [ht] at h
  have hlt : max x (-x) < ⊤ := by
    by_contra hn
    exact absurd h (by
      show ¬ BitVec.ofBool (decide (max x (-x) < ⊤)) = 1#1
      rw [decide_eq_false hn]; decide)
  refine ⟨fun e => ?_, fun e => ?_⟩
  · subst e; simp at hlt
  · subst e; simp at hlt

theorem all_real [Facts] (q k v : FVec Ideal S32x2048x512 .bf16) (r : FVec Ideal S8x257 .f32) (z : S_.Idx) (h : fn (F := Ideal) q k v r z = 1#1) :
    (∀ i, q i ≠ ⊤ ∧ q i ≠ ⊥) ∧ (∀ i, k i ≠ ⊤ ∧ k i ≠ ⊥) ∧ (∀ i, r i ≠ ⊤ ∧ r i ≠ ⊥) := by
  dsimp only [fn] at h
  have h' := IntOp.andi_eq_one.mp h
  have h'' := IntOp.andi_eq_one.mp h'.1
  haveI : Subsingleton S_.Idx := ⟨fun a b => funext fun x => x.elim0⟩
  refine ⟨fun i => real_of_abs _ ?_, fun i => real_of_abs _ ?_, fun i => real_of_abs _ ?_⟩
  · exact Host.reduce_andi_all _ _ _ _ z h''.1 i
  · exact Host.reduce_andi_all _ _ _ _ z h''.2 i
  · exact Host.reduce_andi_all _ _ _ _ z h'.2 i

end Cert.Pre_finite.Band
-- ==== Proof.Block.lean ====
/-
  What one grid point of the banded attention leaves in its output block, and what the first point leaves in the carried
  bias table, read off the generated run and stated in one vocabulary: a head's scores, a head's output, the two heads
  that share a 128-lane slab.
-/
module

public import proofs.«01_k».proof.Defs
public import proofs.«01_k».proof.Proof.Gen.KernelIdeal.Value
public import Idealize.ShloMosaic.Lib.Pointwise
public import Idealize.ShloMosaic.Lib.Tactic

@[expose] public section

noncomputable section

open Idealize.ShloMosaic Idealize.ShloMosaic.TcCoe Idealize.SL.Sem

namespace Cert.KernelIdeal.Band

open Cert.KernelIdeal Cert.KernelIdeal.Gen

variable {F : FTy → Type} [FloatOps F]

/-- The lanes of the first head of a slab: 0 to 63. -/
def lowLanes : IVec S512x128 1 :=
  broadcastTo S512x128 (shapeCast S1x128 (cmpi .slt (iota Kind.tc S1x128 32 [1] iota_S1x128_d1_w32) (broadcast S1x128 64#32))
    shapeCasts_S1x128_S1x128) broadcasts_S1x128_S512x128

/-- The lanes of the second head of a slab: 64 to 127. -/
def highLanes : IVec S512x128 1 :=
  broadcastTo S512x128 (shapeCast S1x128 (cmpi .sge (iota Kind.tc S1x128 32 [1] iota_S1x128_d1_w32) (broadcast S1x128 64#32))
    shapeCasts_S1x128_S1x128) broadcasts_S1x128_S512x128

/-- One head's scores over the key window: queries masked to the head's lanes against the keys, scaled, biased, and −∞ at
    a key that does not exist. -/
def scores (mine : IVec S512x128 1) (kv : IVec S1x1024 1) (qs : FVec F S512x128 .bf16) (ks : FVec F S1024x128 .bf16)
    (b : Vec F S1x512x1024 .f32) : FVec F S512x1024 .f32 :=
  select (broadcastTo S512x1024 (shapeCast S1x1024 kv shapeCasts_S1x1024_S1x1024) broadcasts_S1x1024_S512x1024)
    (addf (mulf (matmul dot_S512x128_S1024x128_S512x1024_1_1_0_0_n_n none
        (select mine qs (broadcast S512x128 (Scalar.ofBits .bf16 0x0000#16))) ks (constant S512x1024 .f32 0x00000000#32))
        (broadcast S512x1024 (Scalar.ofBits .f32 0x3E000000#32)))
      (shapeCast S512x1024 b shapeCasts_S1x512x1024_S512x1024))
    (broadcast S512x1024 (Scalar.ofBits .f32 0xFF800000#32))

/-- The exponentials of a head's scores, each row shifted by its maximum. -/
def weights (s : FVec F S512x1024 .f32) : FVec F S512x1024 .f32 :=
  exp (subf s (broadcastTo S512x1024 (shapeCast S512x1
    (multiReduction .maximumf [1] S512 s 0xFF800000#32 reduces_S512x1024_S512 (.inl rfl) rfl) shapeCasts_S512_S512x1)
    broadcasts_S512x1_S512x1024))

/-- One head's output: the weighted values, divided by the row's total weight. -/
def headOut (s : FVec F S512x1024 .f32) (vs : FVec F S1024x128 .bf16) : FVec F S512x128 .f32 :=
  divf (matmul dot_S512x1024_S1024x128_S512x128_1_0_0_1_n_n none (truncf .bf16 (weights s) bitsLt_bf16_f32) vs
      (constant S512x128 .f32 0x00000000#32))
    (broadcastTo S512x128 (shapeCast S512x1
      (multiReduction .add [1] S512 (weights s) 0x00000000#32 reduces_S512x1024_S512 (.inl rfl) rfl) shapeCasts_S512_S512x1)
      broadcasts_S512x1_S512x128)

/-- One 128-lane slab of the output block: the first head's output in the low lanes, the second's in the high lanes. -/
def slabOut (kv : IVec S1x1024 1) (qs : FVec F S512x128 .bf16) (ks vs : FVec F S1024x128 .bf16)
    (b0 b1 : Vec F S1x512x1024 .f32) : FVec F S1x512x128 .bf16 :=
  shapeCast S1x512x128 (truncf .bf16 (select lowLanes (headOut (scores lowLanes kv qs ks b0) vs)
    (headOut (scores highLanes kv qs ks b1) vs)) bitsLt_bf16_f32) shapeCasts_S512x128_S1x512x128

/-- One head's bias table from its line: the line rolled by the row number, kept inside the band of chunks. -/
def biasRow (v : Vec F S1x1536 .f32) : FVec F S1x512x1024 .f32 :=
  shapeCast S1x512x1024 (select k0_pay2 (extractStridedSlice S512x1024 ![0, 512]
      (dynamicRotate 1 1#32 (some (1, 0)) (concatenate S512x2048 1
        [⟨S512x1536, broadcastTo S512x1536 (shapeCast S1x1536 (shapeCast S1x1536 v shapeCasts_S1x1536_S1x1536)
          shapeCasts_S1x1536_S1x1536) broadcasts_S1x1536_S512x1536⟩,
         ⟨S512x512, broadcast S512x512 (Scalar.ofBits .f32 0x00000000#32)⟩] concatenates_S512x1536_S512x512_S512x2048_d1)
        rotates_S512x2048_d1s1a0) slices_S512x2048_o0_512_S512x1024)
    (broadcast S512x1024 (Scalar.ofBits .f32 0xFF800000#32))) shapeCasts_S512x1024_S1x512x1024

/-- The four slabs the body stores are the one slab function, at the slab's slices of the queries, keys and values. -/
theorem slab0 (i : grid0.Coords) (x0 x1 x2 x3 x4 : Vec F S1x512x512 .bf16) (b0 b1 : Vec F S1x512x1024 .f32) :
    k0_pay24 (iota Kind.tc S1x128 32 [1] iota_S1x128_d1_w32) (k0_pay19 x3 x4)
      (k0_pay22 (k0_pay16 i) (k0_pay17 x0) (k0_pay18 x1 x2) (k0_pay19 x3 x4) k0_pay20 k0_pay21 b0)
      (k0_pay23 (k0_pay16 i) (iota Kind.tc S1x128 32 [1] iota_S1x128_d1_w32) (k0_pay17 x0) (k0_pay18 x1 x2) b1)
      = slabOut (k0_pay16 i) (k0_pay17 x0) (k0_pay18 x1 x2) (k0_pay19 x3 x4) b0 b1 := rfl

theorem slab1 (i : grid0.Coords) (x0 x1 x2 x3 x4 : Vec F S1x512x512 .bf16) (b0 b1 : Vec F S1x512x1024 .f32) :
    k0_pay31 (k0_pay16 i) (iota Kind.tc S1x128 32 [1] iota_S1x128_d1_w32) (k0_pay25 (k0_pay15 x0))
      (k0_pay26 (k0_pay13 x1 x2)) (k0_pay27 (k0_pay14 x3 x4))
      (k0_pay29 (k0_pay13 x1 x2) (k0_pay15 x0) (k0_pay16 i) (iota Kind.tc S1x128 32 [1] iota_S1x128_d1_w32) b0)
      (k0_pay30 (k0_pay13 x1 x2) (k0_pay15 x0) (k0_pay16 i) (iota Kind.tc S1x128 32 [1] iota_S1x128_d1_w32) b0) b1
      = slabOut (k0_pay16 i) (k0_pay25 (k0_pay15 x0)) (k0_pay26 (k0_pay13 x1 x2)) (k0_pay27 (k0_pay14 x3 x4)) b0 b1 := rfl

theorem slab2 (i : grid0.Coords) (x0 x1 x2 x3 x4 : Vec F S1x512x512 .bf16) (b0 b1 : Vec F S1x512x1024 .f32) :
    k0_pay39 (iota Kind.tc S1x128 32 [1] iota_S1x128_d1_w32) (k0_pay34 (k0_pay14 x3 x4))
      (k0_pay35 (k0_pay16 i) (iota Kind.tc S1x128 32 [1] iota_S1x128_d1_w32) (k0_pay32 (k0_pay15 x0))
        (k0_pay33 (k0_pay13 x1 x2)) (k0_pay34 (k0_pay14 x3 x4)) (64#32) b0)
      (k0_pay36 (iota Kind.tc S1x128 32 [1] iota_S1x128_d1_w32) (k0_pay32 (k0_pay15 x0)) (k0_pay33 (k0_pay13 x1 x2)) b1)
      (k0_pay37 (k0_pay16 i)) k0_pay38
      = slabOut (k0_pay16 i) (k0_pay32 (k0_pay15 x0)) (k0_pay33 (k0_pay13 x1 x2)) (k0_pay34 (k0_pay14 x3 x4)) b0 b1 := rfl

theorem slab3 (i : grid0.Coords) (x0 x1 x2 x3 x4 : Vec F S1x512x512 .bf16) (b0 b1 : Vec F S1x512x1024 .f32) :
    k0_pay1 (k0_pay45 (k0_pay16 i) (iota Kind.tc S1x128 32 [1] iota_S1x128_d1_w32) (k0_pay40 (k0_pay15 x0))
      (k0_pay41 (k0_pay13 x1 x2)) (k0_pay42 (k0_pay14 x3 x4))
      (k0_pay43 (k0_pay13 x1 x2) (k0_pay15 x0) (k0_pay16 i) (iota Kind.tc S1x128 32 [1] iota_S1x128_d1_w32) b0)
      (k0_pay44 (k0_pay13 x1 x2) (k0_pay15 x0) (k0_pay16 i) (iota Kind.tc S1x128 32 [1] iota_S1x128_d1_w32) b0) b1)
      = slabOut (k0_pay16 i) (k0_pay40 (k0_pay15 x0)) (k0_pay41 (k0_pay13 x1 x2)) (k0_pay42 (k0_pay14 x3 x4)) b0 b1 := rfl

theorem z3 : (![0, 0, 0] : Fin 3 → Nat) = fun _ => 0 := funext fun a => by fin_cases a <;> rfl

/-- The bias table as the first point stores it, one head after another, each from its row of the line array. -/
def biasPieces (x5 : Vec F S8x1536 .f32) : List (View.Piece (Elt F) S8x512x1024 .f32) :=
  [⟨Rect.unit ![7, 0, 0] ![1, 512, 1024] inb_S8x512x1024_S1x512x1024_7_0_0, biasRow (View.ld x5 (Rect.unit ![7, 0] ![1, 1536] inb_S8x1536_S1x1536_7_0))⟩,
   ⟨Rect.unit ![6, 0, 0] ![1, 512, 1024] inb_S8x512x1024_S1x512x1024_6_0_0, biasRow (View.ld x5 (Rect.unit ![6, 0] ![1, 1536] inb_S8x1536_S1x1536_6_0))⟩,
   ⟨Rect.unit ![5, 0, 0] ![1, 512, 1024] inb_S8x512x1024_S1x512x1024_5_0_0, biasRow (View.ld x5 (Rect.unit ![5, 0] ![1, 1536] inb_S8x1536_S1x1536_5_0))⟩,
   ⟨Rect.unit ![4, 0, 0] ![1, 512, 1024] inb_S8x512x1024_S1x512x1024_4_0_0, biasRow (View.ld x5 (Rect.unit ![4, 0] ![1, 1536] inb_S8x1536_S1x1536_4_0))⟩,
   ⟨Rect.unit ![3, 0, 0] ![1, 512, 1024] inb_S8x512x1024_S1x512x1024_3_0_0, biasRow (View.ld x5 (Rect.unit ![3, 0] ![1, 1536] inb_S8x1536_S1x1536_3_0))⟩,
   ⟨Rect.unit ![2, 0, 0] ![1, 512, 1024] inb_S8x512x1024_S1x512x1024_2_0_0, biasRow (View.ld x5 (Rect.unit ![2, 0] ![1, 1536] inb_S8x1536_S1x1536_2_0))⟩,
   ⟨Rect.unit ![1, 0, 0] ![1, 512, 1024] inb_S8x512x1024_S1x512x1024_1_0_0, biasRow (View.ld x5 (Rect.unit ![1, 0] ![1, 1536] inb_S8x1536_S1x1536_1_0))⟩,
   ⟨Rect.unit ![0, 0, 0] ![1, 512, 1024] inb_S8x512x1024_S1x512x1024_0_0_0, biasRow (View.ld x5 (Rect.unit ![0, 0] ![1, 1536] inb_S8x1536_S1x1536_0_0))⟩]

/-- The bias table the first point leaves. -/
def biasTable (x5 : Vec F S8x1536 .f32) : Vec F S8x512x1024 .f32 := View.canon (biasPieces x5)

/-- The four slabs a point stores, over a bias table `B`. -/
def outPieces (i : grid0.Coords) (x0 x1 x2 x3 x4 : Vec F S1x512x512 .bf16) (B : Vec F S8x512x1024 .f32) :
    List (View.Piece (Elt F) S1x512x512 .bf16) :=
  [⟨Rect.unit ![0, 0, 384] ![1, 512, 128] inb_S1x512x512_S1x512x128_0_0_384,
      slabOut (k0_pay16 i) (k0_pay40 (k0_pay15 x0)) (k0_pay41 (k0_pay13 x1 x2)) (k0_pay42 (k0_pay14 x3 x4))
        (View.ld B (Rect.unit ![6, 0, 0] ![1, 512, 1024] inb_S8x512x1024_S1x512x1024_6_0_0))
        (View.ld B (Rect.unit ![7, 0, 0] ![1, 512, 1024] inb_S8x512x1024_S1x512x1024_7_0_0))⟩,
   ⟨Rect.unit ![0, 0, 256] ![1, 512, 128] inb_S1x512x512_S1x512x128_0_0_256,
      slabOut (k0_pay16 i) (k0_pay32 (k0_pay15 x0)) (k0_pay33 (k0_pay13 x1 x2)) (k0_pay34 (k0_pay14 x3 x4))
        (View.ld B (Rect.unit ![4, 0, 0] ![1, 512, 1024] inb_S8x512x1024_S1x512x1024_4_0_0))
        (View.ld B (Rect.unit ![5, 0, 0] ![1, 512, 1024] inb_S8x512x1024_S1x512x1024_5_0_0))⟩,
   ⟨Rect.unit ![0, 0, 128] ![1, 512, 128] inb_S1x512x512_S1x512x128_0_0_128,
      slabOut (k0_pay16 i) (k0_pay25 (k0_pay15 x0)) (k0_pay26 (k0_pay13 x1 x2)) (k0_pay27 (k0_pay14 x3 x4))
        (View.ld B (Rect.unit ![2, 0, 0] ![1, 512, 1024] inb_S8x512x1024_S1x512x1024_2_0_0))
        (View.ld B (Rect.unit ![3, 0, 0] ![1, 512, 1024] inb_S8x512x1024_S1x512x1024_3_0_0))⟩,
   ⟨Rect.unit ![0, 0, 0] ![1, 512, 128] inb_S1x512x512_S1x512x128_0_0_0,
      slabOut (k0_pay16 i) (k0_pay17 x0) (k0_pay18 x1 x2) (k0_pay19 x3 x4)
        (View.ld B (Rect.unit ![0, 0, 0] ![1, 512, 1024] inb_S8x512x1024_S1x512x1024_0_0_0))
        (View.ld B (Rect.unit ![1, 0, 0] ![1, 512, 1024] inb_S8x512x1024_S1x512x1024_1_0_0))⟩]

section Cases

variable (c : Dev nD) (i : grid0.Coords)
  (arg2 : Memref sig .tc .vmem S1x512x512 .bf16) (harg2 : arg2.IsWhole) (arg3 : Memref sig .tc .vmem S1x512x512 .bf16) (harg3 : arg3.IsWhole)
  (arg4 : Memref sig .tc .vmem S1x512x512 .bf16) (harg4 : arg4.IsWhole) (arg5 : Memref sig .tc .vmem S1x512x512 .bf16) (harg5 : arg5.IsWhole)
  (arg6 : Memref sig .tc .vmem S1x512x512 .bf16) (harg6 : arg6.IsWhole) (arg7 : Memref sig .tc .vmem S8x1536 .f32) (harg7 : arg7.IsWhole)
  (arg8 : Memref sig .tc .vmem S1x512x512 .bf16) (harg8 : arg8.IsWhole) (arg9 : Memref sig .tc .vmem S8x512x1024 .f32) (harg9 : arg9.IsWhole)
  (x0 x1 x2 x3 x4 : Vec F S1x512x512 .bf16) (x5 : Vec F S8x1536 .f32) (xs0 : Vec F S8x512x1024 .f32)

/-- Every point after the first leaves the four slabs over the carried table. -/
theorem out_B (hc0 : ¬cond0_0 i) :
    out0_B_6 c i arg2 harg2 arg3 harg3 arg4 harg4 arg5 harg5 arg6 harg6 arg7 harg7 arg8 harg8 arg9 harg9 hc0 x0 x1 x2 x3 x4 x5 xs0
      = View.canon (outPieces i x0 x1 x2 x3 x4 xs0) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  simp only [View.readAt_eq_ld, harg2.read_unread, harg3.read_unread, harg4.read_unread, harg5.read_unread, harg6.read_unread, harg9.read_unread]
  simp only [View.ld_unit_zero (S := S1x512x512) z3]
  rw [slab0, slab1, slab2, slab3]
  rfl

/-- The first point leaves the bias table in the carried buffer. -/
theorem sout_A (hc0 : cond0_0 i) :
    sout0_A_0 c i arg2 harg2 arg3 harg3 arg4 harg4 arg5 harg5 arg6 harg6 arg7 harg7 arg8 harg8 arg9 harg9 hc0 x0 x1 x2 x3 x4 x5
      = biasTable x5 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg7.read_unread]
  rfl

/-- The stored heads are the whole table. -/
theorem biasPieces_cover (y : S8x512x1024.Idx) : ∃ p ∈ biasPieces x5, y ∈ p.1.set :=
  View.cover_of_tiledL (biasPieces x5) S1x512x1024.size (by sl_kernel_rfl) y

/-- The first point leaves the four slabs over the table it has just stored. -/
theorem out_A (hc0 : cond0_0 i) :
    out0_A_6 c i arg2 harg2 arg3 harg3 arg4 harg4 arg5 harg5 arg6 harg6 arg7 harg7 arg8 harg8 arg9 harg9 hc0 x0 x1 x2 x3 x4 x5
      = View.canon (outPieces i x0 x1 x2 x3 x4 (biasTable x5)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  simp only [View.readAt_eq_ld, harg2.read_unread, harg3.read_unread, harg4.read_unread, harg5.read_unread, harg6.read_unread, harg7.read_unread]
  simp only [View.ld_unit_zero (S := S1x512x512) z3]
  rw [slab0, slab1, slab2, slab3]
  have hr : ∀ r : Rect S8x512x1024, arg9.view.readCov (biasPieces x5) r.toLoadRect = View.ld (biasTable x5) r := fun r =>
    View.readCov_eq_canon_ld _ _ _ (biasPieces_cover x5)
  unfold outPieces
  simp only [← hr]
  rfl

end Cases

end Cert.KernelIdeal.Band
-- ==== Proof.Heads.lean ====
/-
  The vocabulary of `Block.lean` read at an index over the extended reals: a point's output block is, row by row and head
  by head, the softmax-weighted mean of the value window.
-/
module

public import proofs.«01_k».proof.Proof.Block

@[expose] public section

noncomputable section

open Idealize.ShloMosaic Idealize.ShloMosaic.TcCoe Idealize.SL.Sem

namespace Cert.KernelIdeal.Band

open Cert.KernelIdeal Cert.KernelIdeal.Gen

/-- The scale the scores are multiplied by. -/
abbrev scale : EReal := Ideal.ofBits .f32 0x3E000000#32

/-- The literal −∞. -/
abbrev negInf : EReal := Ideal.ofBits .f32 0xFF800000#32

/-- The weighted mean of `v` under the exponentials of the scores `s`, shifted by their maximum. -/
def mean {n : ℕ} (s v : Fin n → EReal) : EReal :=
  Ideal.div (∑ x, Ideal.exp (s x - Finset.fold max negInf (fun x => s x) Finset.univ) * v x)
    (∑ x, Ideal.exp (s x - Finset.fold max negInf (fun x => s x) Finset.univ))

theorem slt64 : ∀ l : Fin 128, IntOp.cmpi .slt (BitVec.ofNat 32 l.val) 64#32 = BitVec.ofBool (decide (l.val < 64)) := by
  decide +kernel

theorem sge64 : ∀ l : Fin 128, IntOp.cmpi .sge (BitVec.ofNat 32 l.val) 64#32 = BitVec.ofBool (decide (64 ≤ l.val)) := by
  decide +kernel

theorem low_apply (r : Fin 512) (l : Fin 128) : lowLanes (ix2 r l) = BitVec.ofBool (decide (l.val < 64)) := by
  rw [← slt64]; pointwise [lowLanes]

theorem high_apply (r : Fin 512) (l : Fin 128) : highLanes (ix2 r l) = BitVec.ofBool (decide (64 ≤ l.val)) := by
  rw [← sge64]; pointwise [highLanes]

theorem scores_apply (mine : IVec S512x128 1) (kv : IVec S1x1024 1) (qs : FVec Ideal S512x128 .bf16) (ks : FVec Ideal S1024x128 .bf16)
    (b : Vec Ideal S1x512x1024 .f32) (r : Fin 512) (w : Fin 1024) :
    scores mine kv qs ks b (ix2 r w) = Scalar.select (kv (ix2 0 w))
      ((∑ x, Scalar.select (mine (ix2 r x)) (qs (ix2 r x) * ks (ix2 w x)) 0) * scale + b (ix3 0 r w)) negInf := by
  pointwise [scores]

theorem headOut_apply (s : FVec Ideal S512x1024 .f32) (vs : FVec Ideal S1024x128 .bf16) (r : Fin 512) (l : Fin 128) :
    headOut s vs (ix2 r l) = mean (fun w => s (ix2 r w)) (fun w => vs (ix2 w l)) := by
  pointwise [headOut, weights, mean]

/-- Over the low lanes the 128-lane contraction is the first head's 64. -/
theorem sum_low (r : Fin 512) (f : Fin 128 → EReal) :
    ∑ x, Scalar.select (lowLanes (ix2 r x)) (f x) 0 = ∑ d : Fin 64, f ⟨d.val, by omega⟩ := by
  rw [Fin.sum_univ_two_halves 64 64 rfl]
  simp only [low_apply, Scalar.select_ofBool]
  rw [add_comm, Finset.sum_eq_zero, zero_add]
  · exact Finset.sum_congr rfl fun d _ => by simp [d.isLt]
  · intro d _; simp

/-- Over the high lanes it is the second head's. -/
theorem sum_high (r : Fin 512) (f : Fin 128 → EReal) :
    ∑ x, Scalar.select (highLanes (ix2 r x)) (f x) 0 = ∑ d : Fin 64, f ⟨64 + d.val, by omega⟩ := by
  rw [Fin.sum_univ_two_halves 64 64 rfl]
  simp only [high_apply, Scalar.select_ofBool]
  rw [Finset.sum_eq_zero, zero_add]
  · exact Finset.sum_congr rfl fun d _ => by simp
  · intro d _; simp

/-- The 1024-row window: the previous block's rows, then the current block's. -/
def win (kp kc : Vec Ideal S1x512x512 .bf16) (w : Fin 1024) (a : Fin 512) : EReal :=
  if h : w.val < 512 then kp (ix3 0 ⟨w.val, h⟩ a) else kc (ix3 0 ⟨w.val - 512, by omega⟩ a)

/-- Row `r`'s scores in head `h` over the window. -/
def rowScore (i : grid0.Coords) (x0 x1 x2 : Vec Ideal S1x512x512 .bf16) (B : Vec Ideal S8x512x1024 .f32) (h : Fin 8) (r : Fin 512)
    (w : Fin 1024) : EReal :=
  Scalar.select (k0_pay16 i (ix2 0 w))
    ((∑ d : Fin 64, x0 (ix3 0 r ⟨64 * h.val + d.val, by omega⟩) * win x1 x2 w ⟨64 * h.val + d.val, by omega⟩) * scale
      + B (ix3 h r w)) negInf

/-- What a point leaves at row `r`, lane `a` of its block: the mean for head `a / 64` of the value window's lane `a`. -/
def blockMean (i : grid0.Coords) (x0 x1 x2 x3 x4 : Vec Ideal S1x512x512 .bf16) (B : Vec Ideal S8x512x1024 .f32) (r a : Fin 512) : EReal :=
  mean (rowScore i x0 x1 x2 B ⟨a.val / 64, by omega⟩ r) (fun w => win x3 x4 w a)

/-- A slab whose slices start at lane `128 j` holds the means of heads `2 j` and `2 j + 1`. -/
theorem slabOut_apply (i : grid0.Coords) (x0 x1 x2 x3 x4 : Vec Ideal S1x512x512 .bf16) (B : Vec Ideal S8x512x1024 .f32) (j : Fin 4)
    (qs : FVec Ideal S512x128 .bf16) (ks vs : FVec Ideal S1024x128 .bf16) (b0 b1 : Vec Ideal S1x512x1024 .f32)
    (hq : ∀ r l, qs (ix2 r l) = x0 (ix3 0 r ⟨128 * j.val + l.val, by omega⟩))
    (hk : ∀ w l, ks (ix2 w l) = win x1 x2 w ⟨128 * j.val + l.val, by omega⟩)
    (hv : ∀ w l, vs (ix2 w l) = win x3 x4 w ⟨128 * j.val + l.val, by omega⟩)
    (hb0 : ∀ r w, b0 (ix3 0 r w) = B (ix3 ⟨2 * j.val, by omega⟩ r w))
    (hb1 : ∀ r w, b1 (ix3 0 r w) = B (ix3 ⟨2 * j.val + 1, by omega⟩ r w)) (r : Fin 512) (l : Fin 128) :
    slabOut (k0_pay16 i) qs ks vs b0 b1 (ix3 0 r l)
      = mean (rowScore i x0 x1 x2 B ⟨(128 * j.val + l.val) / 64, by omega⟩ r) (fun w => win x3 x4 w ⟨128 * j.val + l.val, by omega⟩) := by
  have e : slabOut (k0_pay16 i) qs ks vs b0 b1 (ix3 0 r l) = Scalar.select (lowLanes (ix2 r l))
      (headOut (scores lowLanes (k0_pay16 i) qs ks b0) vs (ix2 r l)) (headOut (scores highLanes (k0_pay16 i) qs ks b1) vs (ix2 r l)) := by
    unfold slabOut
    pointwise
  rw [e, low_apply, Scalar.select_ofBool, headOut_apply, headOut_apply]
  simp only [scores_apply, sum_low, sum_high, hq, hk, hv, hb0, hb1]
  by_cases hl : l.val < 64
  · have hh : (⟨(128 * j.val + l.val) / 64, by omega⟩ : Fin 8) = ⟨2 * j.val, by omega⟩ := Fin.ext (by dsimp only; omega)
    simp only [hl, decide_true, if_true, hh]
    congr 1
    funext w
    unfold rowScore
    have hd : ∀ d : Fin 64, (⟨128 * j.val + d.val, by omega⟩ : Fin 512) = ⟨64 * (2 * j.val) + d.val, by omega⟩ := fun d => Fin.ext (by dsimp only; omega)
    simp only [hd]
  · have hh : (⟨(128 * j.val + l.val) / 64, by omega⟩ : Fin 8) = ⟨2 * j.val + 1, by omega⟩ := Fin.ext (by dsimp only; omega)
    simp only [hl, decide_false, hh]
    rw [if_neg (by simp)]
    congr 1
    funext w
    unfold rowScore
    have hd : ∀ d : Fin 64, (⟨128 * j.val + (64 + d.val), by omega⟩ : Fin 512) = ⟨64 * (2 * j.val + 1) + d.val, by omega⟩ := fun d => Fin.ext (by dsimp only; omega)
    simp only [hd]

/-- A load of one head's table. -/
theorem ld_head (B : Vec Ideal S8x512x1024 .f32) (h : Fin 8) (off : Fin 3 → ℕ) (inb : ∀ a, off a + S1x512x1024.size a ≤ S8x512x1024.size a)
    (hoff : off = ![h.val, 0, 0]) (r : Fin 512) (w : Fin 1024) :
    View.ld (Val := Elt Ideal) (e' := .f32) B (Rect.unit (s := S8x512x1024) off S1x512x1024.size inb) (ix3 0 r w) = B (ix3 h r w) := by
  subst hoff
  refine congrArg B (funext fun a => Fin.ext ?_)
  match a with
  | ⟨0, _⟩ => show h.val + 1 * 0 = h.val; omega
  | ⟨1, _⟩ => show 0 + 1 * r.val = r.val; omega
  | ⟨2, _⟩ => show 0 + 1 * w.val = w.val; omega

/-- A point's output block, index by index. -/
theorem outPieces_apply (i : grid0.Coords) (x0 x1 x2 x3 x4 : Vec Ideal S1x512x512 .bf16) (B : Vec Ideal S8x512x1024 .f32) (y : S1x512x512.Idx) :
    View.canon (outPieces i x0 x1 x2 x3 x4 B) y
      = blockMean i x0 x1 x2 x3 x4 B (y 1) (y 2) := by
  refine View.canon_apply_of_pieces (fun y => blockMean i x0 x1 x2 x3 x4 B (y 1) (y 2))
    (outPieces i x0 x1 x2 x3 x4 B) ?_ y
    (View.cover_of_tiledL (outPieces i x0 x1 x2 x3 x4 B) S1x512x128.size (by sl_kernel_rfl) y)
  have key : ∀ (j : Fin 4) (off : Fin 3 → ℕ) (inb : ∀ a, off a + S1x512x128.size a ≤ S1x512x512.size a) (hoff : off = ![0, 0, 128 * j.val])
      (P : S1x512x128.Idx → EReal),
      (∀ r l, P (ix3 0 r l) = blockMean i x0 x1 x2 x3 x4 B r ⟨128 * j.val + l.val, by omega⟩) →
      ∀ x : S1x512x128.Idx, P x = (fun y : S1x512x512.Idx => blockMean i x0 x1 x2 x3 x4 B (y 1) (y 2))
        ((Rect.unit (s := S1x512x512) off S1x512x128.size inb).emb x) := by
    intro j off inb hoff P hP x
    subst hoff
    obtain ⟨r, l, rfl⟩ : ∃ (r : Fin 512) (l : Fin 128), x = ix3 0 r l :=
      ⟨x 1, x 2, (eq_ix3 x).trans (congrArg (fun z => ix3 z (x 1) (x 2)) (Subsingleton.elim (α := Fin 1) _ _))⟩
    rw [hP]
    have e1 : (Rect.unit (s := S1x512x512) ![0, 0, 128 * j.val] S1x512x128.size inb).emb (ix3 0 r l) 1 = r :=
      Fin.ext (by show 0 + 1 * r.val = r.val; omega)
    have e2 : (Rect.unit (s := S1x512x512) ![0, 0, 128 * j.val] S1x512x128.size inb).emb (ix3 0 r l) 2
        = (⟨128 * j.val + l.val, by omega⟩ : Fin 512) :=
      Fin.ext (by show 128 * j.val + 1 * l.val = 128 * j.val + l.val; omega)
    exact (congrArg₂ (blockMean i x0 x1 x2 x3 x4 B) e1 e2).symm
  intro p hp x
  simp only [outPieces, List.mem_cons, List.not_mem_nil, or_false] at hp
  rcases hp with rfl | rfl | rfl | rfl
  · exact key 3 _ inb_S1x512x512_S1x512x128_0_0_384 rfl _ (slabOut_apply i x0 x1 x2 x3 x4 B 3 _ _ _ _ _ (by intro r l; pointwise [k0_pay40, k0_pay15])
      (by intro w l; unfold win; pointwise [k0_pay41, k0_pay13]) (by intro w l; unfold win; pointwise [k0_pay42, k0_pay14])
      (ld_head B 6 _ _ rfl) (ld_head B 7 _ _ rfl)) x
  · exact key 2 _ inb_S1x512x512_S1x512x128_0_0_256 rfl _ (slabOut_apply i x0 x1 x2 x3 x4 B 2 _ _ _ _ _ (by intro r l; pointwise [k0_pay32, k0_pay15])
      (by intro w l; unfold win; pointwise [k0_pay33, k0_pay13]) (by intro w l; unfold win; pointwise [k0_pay34, k0_pay14])
      (ld_head B 4 _ _ rfl) (ld_head B 5 _ _ rfl)) x
  · exact key 1 _ inb_S1x512x512_S1x512x128_0_0_128 rfl _ (slabOut_apply i x0 x1 x2 x3 x4 B 1 _ _ _ _ _ (by intro r l; pointwise [k0_pay25, k0_pay15])
      (by intro w l; unfold win; pointwise [k0_pay26, k0_pay13]) (by intro w l; unfold win; pointwise [k0_pay27, k0_pay14])
      (ld_head B 2 _ _ rfl) (ld_head B 3 _ _ rfl)) x
  · exact key 0 _ inb_S1x512x512_S1x512x128_0_0_0 rfl _ (slabOut_apply i x0 x1 x2 x3 x4 B 0 _ _ _ _ _ (by intro r l; pointwise [k0_pay17, k0_pay15])
      (by intro w l; unfold win; pointwise [k0_pay18, k0_pay13]) (by intro w l; unfold win; pointwise [k0_pay19, k0_pay14])
      (ld_head B 0 _ _ rfl) (ld_head B 1 _ _ rfl)) x

theorem negInf_eq : negInf = ⊥ := by
  simp [negInf, Ideal.ofBits, Ideal.ieee]

/-- One entry of a head's table: the line's entry `511 + w - r` inside the band of nine chunks, −∞ outside. -/
theorem biasRow_apply (v : Vec Ideal S1x1536 .f32) (r : Fin 512) (w : Fin 1024) :
    biasRow v (ix3 0 r w) = if r.val / 64 ≤ w.val / 64 ∧ w.val / 64 ≤ r.val / 64 + 8
      then v (ix2 0 ⟨511 + w.val - r.val, by omega⟩) else negInf := by
  have e : biasRow v (ix3 0 r w) = Scalar.select
      (IntOp.andi
        (IntOp.cmpi .sge (IntOp.shrsi .vector (BitVec.ofNat 32 w.val) 6#32) (IntOp.shrsi .vector (BitVec.ofNat 32 r.val) 6#32))
        (IntOp.cmpi .sle (IntOp.shrsi .vector (BitVec.ofNat 32 w.val) 6#32)
          (IntOp.addi (IntOp.shrsi .vector (BitVec.ofNat 32 r.val) 6#32) 8#32)))
      (if h : (512 + w.val + 2048 - (1 + r.val) % 2048) % 2048 < 1536 then
        v (ix2 0 ⟨(512 + w.val + 2048 - (1 + r.val) % 2048) % 2048, h⟩) else 0) negInf := by
    pointwise [biasRow, k0_pay2]
  have hs : ∀ n : Fin 1024, IntOp.shrsi .vector (BitVec.ofNat 32 n.val) 6#32 = BitVec.ofNat 32 (n.val / 64) := by decide +kernel
  have hr := hs ⟨r.val, by omega⟩
  dsimp only at hr
  have hc : ∀ a b : Fin 16, IntOp.andi (IntOp.cmpi .sge (BitVec.ofNat 32 a.val) (BitVec.ofNat 32 b.val))
      (IntOp.cmpi .sle (BitVec.ofNat 32 a.val) (IntOp.addi (BitVec.ofNat 32 b.val) 8#32))
      = BitVec.ofBool (decide (b.val ≤ a.val ∧ a.val ≤ b.val + 8)) := by decide +kernel
  have hcc := hc ⟨w.val / 64, by omega⟩ ⟨r.val / 64, by omega⟩
  dsimp only at hcc
  rw [e, hs w, hr, hcc, Scalar.select_ofBool, dif_pos (by omega)]
  have hm : (512 + w.val + 2048 - (1 + r.val) % 2048) % 2048 = 511 + w.val - r.val := by omega
  simp only [decide_eq_true_eq, hm]

/-- A load of one row of the line array. -/
theorem ld_line (x5 : Vec Ideal S8x1536 .f32) (h : Fin 8) (off : Fin 2 → ℕ) (inb : ∀ a, off a + S1x1536.size a ≤ S8x1536.size a)
    (hoff : off = ![h.val, 0]) (k : Fin 1536) :
    View.ld (Val := Elt Ideal) (e' := .f32) x5 (Rect.unit (s := S8x1536) off S1x1536.size inb) (ix2 0 k) = x5 (ix2 h k) := by
  subst hoff
  refine congrArg x5 (funext fun a => Fin.ext ?_)
  match a with
  | ⟨0, _⟩ => show h.val + 1 * 0 = h.val; omega
  | ⟨1, _⟩ => show 0 + 1 * k.val = k.val; omega

/-- One entry of the bias table, from the line array. -/
def biasAt (x5 : Vec Ideal S8x1536 .f32) (h : Fin 8) (r : Fin 512) (w : Fin 1024) : EReal :=
  if r.val / 64 ≤ w.val / 64 ∧ w.val / 64 ≤ r.val / 64 + 8 then x5 (ix2 h ⟨511 + w.val - r.val, by omega⟩) else negInf

/-- The bias table, index by index. -/
theorem biasTable_apply (x5 : Vec Ideal S8x1536 .f32) (h : Fin 8) (r : Fin 512) (w : Fin 1024) :
    biasTable x5 (ix3 h r w) = biasAt x5 h r w := by
  refine View.canon_apply_of_pieces (fun y : S8x512x1024.Idx => biasAt x5 (y 0) (y 1) (y 2)) (biasPieces x5) ?_ (ix3 h r w) (biasPieces_cover x5 _)
  have key : ∀ (h : Fin 8) (off : Fin 3 → ℕ) (inb : ∀ a, off a + S1x512x1024.size a ≤ S8x512x1024.size a) (hoff : off = ![h.val, 0, 0])
      (off' : Fin 2 → ℕ) (inb' : ∀ a, off' a + S1x1536.size a ≤ S8x1536.size a) (hoff' : off' = ![h.val, 0]) (x : S1x512x1024.Idx),
      biasRow (View.ld (Val := Elt Ideal) (e' := .f32) x5 (Rect.unit (s := S8x1536) off' S1x1536.size inb')) x
        = (fun y : S8x512x1024.Idx => biasAt x5 (y 0) (y 1) (y 2)) ((Rect.unit (s := S8x512x1024) off S1x512x1024.size inb).emb x) := by
    intro h off inb hoff off' inb' hoff' x
    obtain ⟨r, w, rfl⟩ : ∃ (r : Fin 512) (w : Fin 1024), x = ix3 0 r w :=
      ⟨x 1, x 2, (eq_ix3 x).trans (congrArg (fun z => ix3 z (x 1) (x 2)) (Subsingleton.elim (α := Fin 1) _ _))⟩
    rw [biasRow_apply, ld_line x5 h off' inb' hoff']
    subst hoff
    have e0 : (Rect.unit (s := S8x512x1024) ![h.val, 0, 0] S1x512x1024.size inb).emb (ix3 0 r w) 0 = h :=
      Fin.ext (by show h.val + 1 * 0 = h.val; omega)
    have e1 : (Rect.unit (s := S8x512x1024) ![h.val, 0, 0] S1x512x1024.size inb).emb (ix3 0 r w) 1 = r :=
      Fin.ext (by show 0 + 1 * r.val = r.val; omega)
    have e2 : (Rect.unit (s := S8x512x1024) ![h.val, 0, 0] S1x512x1024.size inb).emb (ix3 0 r w) 2 = w :=
      Fin.ext (by show 0 + 1 * w.val = w.val; omega)
    show _ = biasAt x5 ((Rect.unit (s := S8x512x1024) ![h.val, 0, 0] S1x512x1024.size inb).emb (ix3 0 r w) 0) _ _
    rw [e0, e1, e2]
    rfl
  intro p hp x
  simp only [biasPieces, List.mem_cons, List.not_mem_nil, or_false] at hp
  rcases hp with rfl | rfl | rfl | rfl | rfl | rfl | rfl | rfl
  · exact key 7 _ inb_S8x512x1024_S1x512x1024_7_0_0 rfl _ inb_S8x1536_S1x1536_7_0 rfl x
  · exact key 6 _ inb_S8x512x1024_S1x512x1024_6_0_0 rfl _ inb_S8x1536_S1x1536_6_0 rfl x
  · exact key 5 _ inb_S8x512x1024_S1x512x1024_5_0_0 rfl _ inb_S8x1536_S1x1536_5_0 rfl x
  · exact key 4 _ inb_S8x512x1024_S1x512x1024_4_0_0 rfl _ inb_S8x1536_S1x1536_4_0 rfl x
  · exact key 3 _ inb_S8x512x1024_S1x512x1024_3_0_0 rfl _ inb_S8x1536_S1x1536_3_0 rfl x
  · exact key 2 _ inb_S8x512x1024_S1x512x1024_2_0_0 rfl _ inb_S8x1536_S1x1536_2_0 rfl x
  · exact key 1 _ inb_S8x512x1024_S1x512x1024_1_0_0 rfl _ inb_S8x1536_S1x1536_1_0 rfl x
  · exact key 0 _ inb_S8x512x1024_S1x512x1024_0_0_0 rfl _ inb_S8x1536_S1x1536_0_0 rfl x

/-- A key of the window exists when its row number is not negative. -/
theorem kv_apply (i : grid0.Coords) (w : Fin 1024) :
    k0_pay16 i (ix2 0 w) = BitVec.ofBool (decide (512 ≤ 512 * (i 1).val + w.val)) := by
  have e : k0_pay16 i (ix2 0 w) = IntOp.cmpi .sge
      (IntOp.addi (Scalar.subi (Scalar.muli (BitVec.ofNat 32 (i 1).val) 512#32) 512#32) (BitVec.ofNat 32 w.val)) 0#32 := by
    pointwise [k0_pay16]
  have h4 : (i 1).val < 4 := (i 1).isLt
  have hc : ∀ (a : Fin 4) (w : Fin 1024), IntOp.cmpi .sge
      (IntOp.addi (Scalar.subi (Scalar.muli (BitVec.ofNat 32 a.val) 512#32) 512#32) (BitVec.ofNat 32 w.val)) 0#32
      = BitVec.ofBool (decide (512 ≤ 512 * a.val + w.val)) := by decide +kernel
  rw [e]; exact hc ⟨(i 1).val, h4⟩ w

end Cert.KernelIdeal.Band
-- ==== Proof.Softmax.lean ====
module

public import Idealize.ShloMosaic.PureOps.Ideal.Laws
public import Idealize.ShloMosaic.Lib.Pointwise

@[expose] public section

noncomputable section

namespace Cert.Band

open Idealize.ShloMosaic

/-- The place in a row of 257 relative positions that a key at distance `1023 - n` reads. -/
def clipped (n : ℕ) : ℕ := (min 128 (max (-128) (1023 - (n : ℤ))) + 128).toNat

theorem clipped_lt (n : ℕ) : clipped n < 257 := by unfold clipped; omega

/-- The largest of finitely many numbers, from a start below all of them. -/
theorem fold_max_eq {n : ℕ} (s : Fin n → EReal) : Finset.fold max ⊥ s Finset.univ = Finset.univ.sup s := by
  rfl

/-- A sum of real numbers over a common real divisor: the division may be done after the sum. -/
theorem sum_div {n : ℕ} (e v : Fin n → EReal) (L : ℝ) (hL : 0 < L) :
    Ideal.div (∑ i, e i * v i) (L : EReal) = ∑ i, Ideal.div (e i) (L : EReal) * v i := by
  have h0 : (L : EReal) ≠ 0 := by exact_mod_cast hL.ne'
  have hi : ((L : EReal))⁻¹ = ((L⁻¹ : ℝ) : EReal) := (EReal.coe_inv L).symm
  simp only [Ideal.div, if_neg h0, hi]
  have hn : (0 : EReal) ≤ ((L⁻¹ : ℝ) : EReal) := by exact_mod_cast (inv_pos.mpr hL).le
  have hs : ∀ (f : Fin n → EReal) (A : Finset (Fin n)), (∑ i ∈ A, f i) * ((L⁻¹ : ℝ) : EReal) = ∑ i ∈ A, f i * ((L⁻¹ : ℝ) : EReal) := by
    intro f A
    induction A using Finset.induction with
    | empty => simp
    | insert a A ha ih =>
      rw [Finset.sum_insert ha, Finset.sum_insert ha, ← ih, EReal.right_distrib_of_nonneg_of_ne_top hn (EReal.coe_ne_top _)]
  rw [hs]
  exact Finset.sum_congr rfl fun i _ => by rw [mul_assoc, mul_comm (v i), ← mul_assoc]

/-- The exponential of −∞ less a real number is zero. -/
theorem exp_bot_sub (M : ℝ) : Ideal.exp ((⊥ : EReal) - (M : EReal)) = 0 := by
  have : (⊥ : EReal) - (M : EReal) = ⊥ := EReal.bot_add (-(M : EReal))
  rw [this]; rfl

/-- A finite sum of real numbers, as an extended real. -/
theorem coe_sum {n : ℕ} (r : Fin n → ℝ) : ((∑ i, r i : ℝ) : EReal) = ∑ i, (r i : EReal) :=
  map_sum (⟨⟨Real.toEReal, rfl⟩, EReal.coe_add⟩ : ℝ →+ EReal) r Finset.univ

/-- The exponential of a number at or below a real one, less that one, is a nonnegative real; it is positive at a real. -/
theorem exp_sub_real (x : EReal) (M : ℝ) (hx : x ≠ ⊤) :
    ∃ r : ℝ, Ideal.exp (x - (M : EReal)) = (r : EReal) ∧ 0 ≤ r ∧ (x ≠ ⊥ → 0 < r) := by
  induction x using EReal.rec with
  | bot => exact ⟨0, by rw [exp_bot_sub]; rfl, le_refl _, fun h => absurd rfl h⟩
  | top => exact absurd rfl hx
  | coe a =>
    refine ⟨Real.exp (a - M), ?_, (Real.exp_pos _).le, fun _ => Real.exp_pos _⟩
    rw [← EReal.coe_sub]
    rfl

/-- THE SOFTMAX MEAN OVER A WINDOW. The scores `t` over a window of `N` keys are `s` on the `n` keys the reference sees and −∞
    elsewhere; the values agree where the score is not −∞. Then summing first and dividing by the sum of the weights after is the
    mean of the values under the normalised weights. -/
theorem softmax_window {n N : ℕ} (f : Fin n → Fin N) (hf : Function.Injective f)
    (s : Fin n → EReal) (t : Fin N → EReal) (v : Fin n → EReal) (u : Fin N → EReal)
    (hst : ∀ i, t (f i) = s i) (ht : ∀ w, (∀ i, f i ≠ w) → t w = ⊥)
    (hvu : ∀ i, s i ≠ ⊥ → u (f i) = v i)
    (htop : ∀ i, s i ≠ ⊤) (i₀ : Fin n) (h₀ : s i₀ ≠ ⊥) :
    Ideal.div (∑ w, Ideal.exp (t w - Finset.fold max ⊥ t Finset.univ) * u w)
        (∑ w, Ideal.exp (t w - Finset.fold max ⊥ t Finset.univ))
      = ∑ i, v i * Ideal.div (Ideal.exp (s i - Finset.fold max ⊥ s Finset.univ))
          (∑ i, Ideal.exp (s i - Finset.fold max ⊥ s Finset.univ)) := by
  have hM : Finset.fold max ⊥ t Finset.univ = Finset.fold max ⊥ s Finset.univ := by
    rw [fold_max_eq, fold_max_eq]
    apply le_antisymm
    · refine Finset.sup_le fun w _ => ?_
      by_cases hw : ∃ i, f i = w
      · obtain ⟨i, rfl⟩ := hw
        rw [hst]; exact Finset.le_sup (f := s) (Finset.mem_univ i)
      · rw [ht w (fun i h => hw ⟨i, h⟩)]; exact bot_le
    · exact Finset.sup_le fun i _ => by rw [← hst]; exact Finset.le_sup (f := t) (Finset.mem_univ _)
  rw [hM]
  obtain ⟨M, hMr⟩ : ∃ M : ℝ, Finset.fold max ⊥ s Finset.univ = (M : EReal) := by
    have hne : Finset.fold max ⊥ s Finset.univ ≠ ⊤ := by
      rw [fold_max_eq]
      exact ((Finset.sup_lt_iff (by simp)).mpr fun i _ => lt_top_iff_ne_top.mpr (htop i)).ne
    have hnb : Finset.fold max ⊥ s Finset.univ ≠ ⊥ := by
      rw [fold_max_eq]
      intro h
      have := Finset.le_sup (f := s) (Finset.mem_univ i₀)
      rw [h] at this
      exact h₀ (le_bot_iff.mp this)
    exact ⟨_, (EReal.coe_toReal hne hnb).symm⟩
  rw [hMr]
  have hz : ∀ w, (∀ i, f i ≠ w) → Ideal.exp (t w - (M : EReal)) = 0 := by
    intro w hw; rw [ht w hw]; exact exp_bot_sub M
  have hsum : ∀ g : Fin N → EReal, (∀ w, (∀ i, f i ≠ w) → g w = 0) → ∑ w, g w = ∑ i, g (f i) := by
    intro g hg
    rw [← Finset.sum_image (s := Finset.univ) (g := f) (fun a _ b _ h => hf h)]
    refine (Finset.sum_subset (Finset.subset_univ _) fun w _ hw => hg w fun i h => hw ?_).symm
    exact Finset.mem_image.mpr ⟨i, Finset.mem_univ _, h⟩
  rw [hsum (fun w => Ideal.exp (t w - (M : EReal)) * u w) (fun w hw => by rw [hz w hw, zero_mul]),
    hsum (fun w => Ideal.exp (t w - (M : EReal))) hz]
  simp only [hst]
  choose r hr hr0 hrp using fun i => exp_sub_real (s i) M (htop i)
  have hL : ∑ i, Ideal.exp (s i - (M : EReal)) = ((∑ i, r i : ℝ) : EReal) := by
    rw [coe_sum]; exact Finset.sum_congr rfl fun i _ => hr i
  have hpos : 0 < ∑ i, r i :=
    Finset.sum_pos' (fun i _ => hr0 i) ⟨i₀, Finset.mem_univ _, hrp i₀ h₀⟩
  rw [hL, sum_div _ _ _ hpos]
  refine Finset.sum_congr rfl fun i _ => ?_
  by_cases hb : s i = ⊥
  · rw [hb]
    rw [exp_bot_sub]
    have h0 : ((∑ i, r i : ℝ) : EReal) ≠ 0 := by exact_mod_cast hpos.ne'
    simp only [Ideal.div, if_neg h0, zero_mul, mul_zero]
  · rw [hvu i hb, mul_comm]

end Cert.Band
-- ==== Proof.Tables.lean ====
module

public import proofs.«01_k».proof.Proof.Gen.KernelIdeal.Value
public import Idealize.ShloMosaic.Lib.Pointwise
public import Idealize.ShloMosaic.Lib.Claim
public import proofs.«01_k».proof.Proof.Softmax

@[expose] public section

set_option maxRecDepth 16384

noncomputable section

namespace Cert.KernelIdeal.Band

open Cert.Band Cert.KernelIdeal Cert.KernelIdeal.Gen Idealize.ShloMosaic Idealize.ShloMosaic.TcCoe

variable {F : FTy → Type} [FloatOps F]
variable (m : (ℓ : Loc nD τ sig) → Buf (Elt F) ℓ)

/-- The constant table of the line's places. -/
theorem lit_eq : ∀ n : Fin 1536, lit0 n = BitVec.ofNat 32 (clipped n.val) := by
  decide +kernel

/-- The gather along the columns of a table, at an index. -/
theorem gather_line {α : Type} (x : S8x257.Idx → α) (idx : IVec S1536x1 32) (h : Fin 8) (n : Fin 1536) :
    Host.gather gather_S8x257_S1536x1_S8x1536_0_1_n_n_1_1_81 x idx (ix2 h n)
      = x (ix2 h ⟨min (idx (ix2 n 0)).toInt.toNat 256, by omega⟩) := by
  unfold Host.gather
  refine congrArg x (funext fun a => Fin.ext ?_)
  match a with
  | ⟨0, _⟩ =>
    show GatherDims.start _ _ _ _ + GatherDims.batchCoord _ _ _ + GatherDims.offCoord _ _ _ = h.val
    have e0 : GatherDims.start gather_S8x257_S1536x1_S8x1536_0_1_n_n_1_1_81 (ix2 h n) idx 0 = 0 := rfl
    have e1 : GatherDims.batchCoord gather_S8x257_S1536x1_S8x1536_0_1_n_n_1_1_81 (ix2 h n) 0 = 0 := rfl
    have e2 : GatherDims.offCoord gather_S8x257_S1536x1_S8x1536_0_1_n_n_1_1_81 (ix2 h n) 0 = h.val := rfl
    exact (congrArg₂ (· + ·) (congrArg₂ (· + ·) e0 e1) e2).trans (by omega)
  | ⟨1, _⟩ =>
    show GatherDims.start _ _ _ _ + GatherDims.batchCoord _ _ _ + GatherDims.offCoord _ _ _ = min (idx (ix2 n 0)).toInt.toNat 256
    have hs : GatherDims.siIdx gather_S8x257_S1536x1_S8x1536_0_1_n_n_1_1_81 (ix2 h n) ⟨0, by decide⟩ = ix2 n 0 := by
      funext b; match b with
      | ⟨0, _⟩ => rfl
      | ⟨1, _⟩ => rfl
    have e0 : GatherDims.start gather_S8x257_S1536x1_S8x1536_0_1_n_n_1_1_81 (ix2 h n) idx 1
        = min (idx (GatherDims.siIdx gather_S8x257_S1536x1_S8x1536_0_1_n_n_1_1_81 (ix2 h n) ⟨0, by decide⟩)).toInt.toNat 256 := rfl
    have e1 : GatherDims.batchCoord gather_S8x257_S1536x1_S8x1536_0_1_n_n_1_1_81 (ix2 h n) 1 = 0 := rfl
    have e2 : GatherDims.offCoord gather_S8x257_S1536x1_S8x1536_0_1_n_n_1_1_81 (ix2 h n) 1 = 0 := rfl
    rw [hs] at e0
    exact (congrArg₂ (· + ·) (congrArg₂ (· + ·) e0 e1) e2).trans (by omega)

/-- The line array the region reads: entry `n` of head `h` is the relative bias at the clipped distance. -/
theorem line_apply (c : Dev nD) (h : Fin 8) (n : Fin 1536) :
    V m c main_v4 (ix2 h n) = m ((c : Thread nD τ).loc main_arg3) (ix2 h ⟨clipped n.val, clipped_lt _⟩) := by
  have e : V m c main_v4 = Host.gather gather_S8x257_S1536x1_S8x1536_0_1_n_n_1_1_81 (m ((c : Thread nD τ).loc main_arg3))
      (broadcastInDim S1536x1 ![0] bcast_S1536_S1536x1_0
        (select (constantI S1536 1 0#1)
          (addi (fun i => lit0 (S1536.rowMajor i)) (broadcastInDim S1536 ![] bcast_S_S1536 (constantI S_ 32 257#32)))
          (fun i => lit0 (S1536.rowMajor i)))) := by
    unfold V hostOps0
    after_results
    rfl
  rw [e, gather_line]
  refine congrArg _ (congrArg (ix2 h) (Fin.ext ?_))
  have e2 : (broadcastInDim S1536x1 ![0] bcast_S1536_S1536x1_0
        (select (constantI S1536 1 0#1)
          (addi (fun i => lit0 (S1536.rowMajor i)) (broadcastInDim S1536 ![] bcast_S_S1536 (constantI S_ 32 257#32)))
          (fun i => lit0 (S1536.rowMajor i)))) (ix2 n 0) = lit0 n := by
    generalize hl : (fun i => lit0 (S1536.rowMajor i)) = l
    have : (broadcastInDim S1536x1 ![0] bcast_S1536_S1536x1_0
        (select (constantI S1536 1 0#1) (addi l (broadcastInDim S1536 ![] bcast_S_S1536 (constantI S_ 32 257#32))) l)) (ix2 n 0)
        = l (ix1 n) := by pointwise []
    rw [this, ← hl]
    exact congrArg lit0 (Fin.ext (by rw [Shape.rowMajor_val_one]; rfl))
  show min (BitVec.toInt _).toNat 256 = clipped n.val
  rw [e2, lit_eq]
  have h1 := clipped_lt n.val
  have : (BitVec.ofNat 32 (clipped n.val)).toInt = (clipped n.val : ℤ) := by
    rw [BitVec.toInt_eq_toNat_of_lt] <;> simp only [BitVec.toNat_ofNat] <;> omega
  rw [this]; omega

end Cert.KernelIdeal.Band
-- ==== Proof.Array.lean ====
/-
  The array the kernel leaves, index by index: the bias table is built at the first grid point and carried unchanged, so each
  point's block is the one `Heads.lean` reads, at that point's blocks of the arguments.
-/
module

public import proofs.«01_k».proof.Proof.Heads
public import proofs.«01_k».proof.Proof.Tables

@[expose] public section

set_option maxRecDepth 16384

noncomputable section

open Idealize.ShloMosaic Idealize.ShloMosaic.TcCoe Idealize.SL.Sem

namespace Cert.KernelIdeal.Band

open Cert.Band Cert.KernelIdeal Cert.KernelIdeal.Gen

variable (m : (ℓ : Loc nD τ sig) → Buf (Elt Ideal) ℓ) (c : Dev nD)

/-- The grid point's coordinates, and the block each window takes at it. -/
theorem point_facts : ∀ t : Fin grid0.N, (grid0.coords t 0).val = t.val / 4 ∧ (grid0.coords t 1).val = t.val % 4
    ∧ win0_0.index t = ![t.val / 4, t.val % 4, 0] ∧ win0_1.index t = ![t.val / 4, t.val % 4 - 1, 0]
    ∧ win0_2.index t = ![t.val / 4, t.val % 4, 0] ∧ win0_3.index t = ![t.val / 4, t.val % 4 - 1, 0]
    ∧ win0_4.index t = ![t.val / 4, t.val % 4, 0] ∧ win0_5.index t = ![0, 0] := by
  decide +kernel

/-- The line array's window takes all of it. -/
theorem line_block (t : Fin cfg0.N) : iblk m c 5 t = V m c main_v4 := by
  have e := (point_facts t).2.2.2.2.2.2.2
  funext y
  show V m c main_v4 (((cfg0.win 5).blk t).view.emb y) = V m c main_v4 y
  refine congrArg _ (funext fun a => Fin.ext ?_)
  match a with
  | ⟨0, _⟩ =>
    show win0_5.index t (0 : Fin 2) * 8 + 1 * (y 0).val = (y 0).val
    rw [e]; show 0 * 8 + 1 * (y 0).val = (y 0).val; omega
  | ⟨1, _⟩ =>
    show win0_5.index t (1 : Fin 2) * 1536 + 1 * (y 1).val = (y 1).val
    rw [e]; show 0 * 1536 + 1 * (y 1).val = (y 1).val; omega

/-- A first point: its block over the fresh bias table, and the table. -/
theorem outs_first (t : Fin cfg0.N) (h0 : t.val % 128 = 0) : outsAt0 m c t.val t.isLt
    = (View.canon (outPieces (grid0.coords t) (iblk m c 0 t) (iblk m c 1 t) (iblk m c 2 t) (iblk m c 3 t)
        (iblk m c 4 t) (biasTable (V m c main_v4))), biasTable (V m c main_v4)) := by
  rw [outsAt0_A m c t h0, out_A, sout_A, line_block]

/-- A later point: its block over the table the point before left, and that table. -/
theorem outs_next (t : Fin cfg0.N) (h0 : ¬ t.val % 128 = 0)
    (B : Vec Ideal S8x512x1024 .f32)
    (hB : (outsAt0 m c (t.val - 1) (Nat.lt_of_le_of_lt (Nat.sub_le _ _) t.isLt)).2 = B) : outsAt0 m c t.val t.isLt
    = (View.canon (outPieces (grid0.coords t) (iblk m c 0 t) (iblk m c 1 t) (iblk m c 2 t) (iblk m c 3 t)
        (iblk m c 4 t) B), B) := by
  rw [outsAt0_B m c t h0, out_B, hB]
  rfl

/-- What every point leaves: its block, and the bias table. -/
theorem outs_eq : ∀ (n : ℕ) (t : Fin cfg0.N), t.val = n → outsAt0 m c t.val t.isLt
    = (View.canon (outPieces (grid0.coords t) (iblk m c 0 t) (iblk m c 1 t) (iblk m c 2 t) (iblk m c 3 t)
        (iblk m c 4 t) (biasTable (V m c main_v4))), biasTable (V m c main_v4)) := by
  intro n
  induction n with
  | zero => exact fun t ht => outs_first m c t (by rw [ht])
  | succ n ih =>
    intro t ht
    by_cases h0 : t.val % 128 = 0
    · exact outs_first m c t h0
    · have e : t.val - 1 = n := by rw [ht]; exact Nat.add_sub_cancel n 1
      have hs := ih ⟨t.val - 1, Nat.lt_of_le_of_lt (Nat.sub_le _ _) t.isLt⟩ e
      refine outs_next m c t h0 (biasTable (V m c main_v4)) ?_
      dsimp only at hs
      rw [hs]

/-- The block a point leaves, at row `r` and lane `a`. -/
theorem outs_apply (t : Fin cfg0.N) (r a : Fin 512) : (outsAt0 m c t.val t.isLt).1 (ix3 0 r a)
    = blockMean (grid0.coords t) (iblk m c 0 t) (iblk m c 1 t) (iblk m c 2 t) (iblk m c 3 t) (iblk m c 4 t)
        (biasTable (V m c main_v4)) r a := by
  rw [outs_eq m c t.val t rfl]
  dsimp only
  rw [outPieces_apply]
  rfl

/-- The point of batch `b` and block `i`. -/
abbrev pt (b : Fin 32) (i : Fin 4) : Fin cfg0.N := ⟨4 * b.val + i.val, lt_of_lt_of_eq (by omega) N_0.symm⟩

theorem query_block (b : Fin 32) (i : Fin 4) (r a : Fin 512) : iblk m c 0 (pt b i) (ix3 0 r a)
    = m ((c : Thread nD τ).loc main_arg0) (ix3 b ⟨512 * i.val + r.val, by omega⟩ a) := by
  have e := (point_facts (pt b i)).2.2.1
  rw [← V_main_arg0 m c]
  show V m c main_arg0 (((cfg0.win 0).blk (pt b i)).view.emb (ix3 0 r a)) = _
  refine congrArg _ (funext fun x => Fin.ext ?_)
  match x with
  | ⟨0, _⟩ => show win0_0.index (pt b i) (0 : Fin 3) * 1 + 1 * 0 = b.val; rw [e]; show (4 * b.val + i.val) / 4 * 1 + 1 * 0 = b.val; omega
  | ⟨1, _⟩ => show win0_0.index (pt b i) (1 : Fin 3) * 512 + 1 * r.val = 512 * i.val + r.val; rw [e]; show (4 * b.val + i.val) % 4 * 512 + 1 * r.val = _; omega
  | ⟨2, _⟩ => show win0_0.index (pt b i) (2 : Fin 3) * 512 + 1 * a.val = a.val; rw [e]; show 0 * 512 + 1 * a.val = a.val; omega

theorem key_prev (b : Fin 32) (i : Fin 4) (r a : Fin 512) : iblk m c 1 (pt b i) (ix3 0 r a)
    = m ((c : Thread nD τ).loc main_arg1) (ix3 b ⟨512 * (i.val - 1) + r.val, by omega⟩ a) := by
  have e := (point_facts (pt b i)).2.2.2.1
  rw [← V_main_arg1 m c]
  show V m c main_arg1 (((cfg0.win 1).blk (pt b i)).view.emb (ix3 0 r a)) = _
  refine congrArg _ (funext fun x => Fin.ext ?_)
  match x with
  | ⟨0, _⟩ => show win0_1.index (pt b i) (0 : Fin 3) * 1 + 1 * 0 = b.val; rw [e]; show (4 * b.val + i.val) / 4 * 1 + 1 * 0 = b.val; omega
  | ⟨1, _⟩ => show win0_1.index (pt b i) (1 : Fin 3) * 512 + 1 * r.val = 512 * (i.val - 1) + r.val; rw [e]; show ((4 * b.val + i.val) % 4 - 1) * 512 + 1 * r.val = _; omega
  | ⟨2, _⟩ => show win0_1.index (pt b i) (2 : Fin 3) * 512 + 1 * a.val = a.val; rw [e]; show 0 * 512 + 1 * a.val = a.val; omega

theorem key_cur (b : Fin 32) (i : Fin 4) (r a : Fin 512) : iblk m c 2 (pt b i) (ix3 0 r a)
    = m ((c : Thread nD τ).loc main_arg1) (ix3 b ⟨512 * i.val + r.val, by omega⟩ a) := by
  have e := (point_facts (pt b i)).2.2.2.2.1
  rw [← V_main_arg1 m c]
  show V m c main_arg1 (((cfg0.win 2).blk (pt b i)).view.emb (ix3 0 r a)) = _
  refine congrArg _ (funext fun x => Fin.ext ?_)
  match x with
  | ⟨0, _⟩ => show win0_2.index (pt b i) (0 : Fin 3) * 1 + 1 * 0 = b.val; rw [e]; show (4 * b.val + i.val) / 4 * 1 + 1 * 0 = b.val; omega
  | ⟨1, _⟩ => show win0_2.index (pt b i) (1 : Fin 3) * 512 + 1 * r.val = 512 * i.val + r.val; rw [e]; show (4 * b.val + i.val) % 4 * 512 + 1 * r.val = _; omega
  | ⟨2, _⟩ => show win0_2.index (pt b i) (2 : Fin 3) * 512 + 1 * a.val = a.val; rw [e]; show 0 * 512 + 1 * a.val = a.val; omega

theorem value_prev (b : Fin 32) (i : Fin 4) (r a : Fin 512) : iblk m c 3 (pt b i) (ix3 0 r a)
    = m ((c : Thread nD τ).loc main_arg2) (ix3 b ⟨512 * (i.val - 1) + r.val, by omega⟩ a) := by
  have e := (point_facts (pt b i)).2.2.2.2.2.1
  rw [← V_main_arg2 m c]
  show V m c main_arg2 (((cfg0.win 3).blk (pt b i)).view.emb (ix3 0 r a)) = _
  refine congrArg _ (funext fun x => Fin.ext ?_)
  match x with
  | ⟨0, _⟩ => show win0_3.index (pt b i) (0 : Fin 3) * 1 + 1 * 0 = b.val; rw [e]; show (4 * b.val + i.val) / 4 * 1 + 1 * 0 = b.val; omega
  | ⟨1, _⟩ => show win0_3.index (pt b i) (1 : Fin 3) * 512 + 1 * r.val = 512 * (i.val - 1) + r.val; rw [e]; show ((4 * b.val + i.val) % 4 - 1) * 512 + 1 * r.val = _; omega
  | ⟨2, _⟩ => show win0_3.index (pt b i) (2 : Fin 3) * 512 + 1 * a.val = a.val; rw [e]; show 0 * 512 + 1 * a.val = a.val; omega

theorem value_cur (b : Fin 32) (i : Fin 4) (r a : Fin 512) : iblk m c 4 (pt b i) (ix3 0 r a)
    = m ((c : Thread nD τ).loc main_arg2) (ix3 b ⟨512 * i.val + r.val, by omega⟩ a) := by
  have e := (point_facts (pt b i)).2.2.2.2.2.2.1
  rw [← V_main_arg2 m c]
  show V m c main_arg2 (((cfg0.win 4).blk (pt b i)).view.emb (ix3 0 r a)) = _
  refine congrArg _ (funext fun x => Fin.ext ?_)
  match x with
  | ⟨0, _⟩ => show win0_4.index (pt b i) (0 : Fin 3) * 1 + 1 * 0 = b.val; rw [e]; show (4 * b.val + i.val) / 4 * 1 + 1 * 0 = b.val; omega
  | ⟨1, _⟩ => show win0_4.index (pt b i) (1 : Fin 3) * 512 + 1 * r.val = 512 * i.val + r.val; rw [e]; show (4 * b.val + i.val) % 4 * 512 + 1 * r.val = _; omega
  | ⟨2, _⟩ => show win0_4.index (pt b i) (2 : Fin 3) * 512 + 1 * a.val = a.val; rw [e]; show 0 * 512 + 1 * a.val = a.val; omega

/-- The window of two blocks at a key that exists is the array, 512 rows back. -/
theorem win_eq (x : S32x2048x512.Idx → EReal) (p n : Vec Ideal S1x512x512 .bf16) (b : Fin 32) (i : Fin 4)
    (hp : ∀ r a : Fin 512, p (ix3 0 r a) = x (ix3 b ⟨512 * (i.val - 1) + r.val, by omega⟩ a))
    (hn : ∀ r a : Fin 512, n (ix3 0 r a) = x (ix3 b ⟨512 * i.val + r.val, by omega⟩ a))
    (w : Fin 1024) (a : Fin 512) (hw : 512 ≤ 512 * i.val + w.val) :
    win p n w a = x (ix3 b ⟨512 * i.val + w.val - 512, by omega⟩ a) := by
  unfold win
  by_cases h : w.val < 512
  · rw [dif_pos h, hp]
    exact congrArg (fun z => x (ix3 b z a)) (Fin.ext (by show 512 * (i.val - 1) + w.val = 512 * i.val + w.val - 512; omega))
  · rw [dif_neg h, hn]
    exact congrArg (fun z => x (ix3 b z a)) (Fin.ext (by show 512 * i.val + (w.val - 512) = 512 * i.val + w.val - 512; omega))

/-- The scores of row `r` of block `i`, head `h`, over its window of 1024 keys: scaled product plus bias inside the band where the
    key exists, −∞ elsewhere. -/
def score (q k : S32x2048x512.Idx → EReal) (R : S8x257.Idx → EReal) (b : Fin 32) (i : Fin 4) (h : Fin 8) (r : Fin 512) (w : Fin 1024) : EReal :=
  if 512 ≤ 512 * i.val + w.val then
    (∑ d : Fin 64, q (ix3 b ⟨512 * i.val + r.val, by omega⟩ ⟨64 * h.val + d.val, by omega⟩)
      * k (ix3 b ⟨512 * i.val + w.val - 512, by omega⟩ ⟨64 * h.val + d.val, by omega⟩)) * scale
      + (if r.val / 64 ≤ w.val / 64 ∧ w.val / 64 ≤ r.val / 64 + 8 then R (ix2 h ⟨clipped (511 + w.val - r.val), clipped_lt _⟩) else ⊥)
  else ⊥

theorem rowScore_eq (b : Fin 32) (i : Fin 4) (h : Fin 8) (r : Fin 512) (w : Fin 1024) :
    rowScore (grid0.coords (pt b i)) (iblk m c 0 (pt b i)) (iblk m c 1 (pt b i)) (iblk m c 2 (pt b i)) (biasTable (V m c main_v4)) h r w
      = score (m ((c : Thread nD τ).loc main_arg0)) (m ((c : Thread nD τ).loc main_arg1)) (m ((c : Thread nD τ).loc main_arg3)) b i h r w := by
  unfold rowScore score
  have hi : (grid0.coords (pt b i) 1).val = i.val := by
    rw [(point_facts (pt b i)).2.1]; show (4 * b.val + i.val) % 4 = i.val; omega
  rw [kv_apply, Scalar.select_ofBool, hi, biasTable_apply, negInf_eq]
  by_cases hk : 512 ≤ 512 * i.val + w.val
  · rw [if_pos (by simpa using hk), if_pos hk]
    unfold biasAt
    rw [line_apply]
    simp only [query_block, negInf_eq,
      win_eq (m ((c : Thread nD τ).loc main_arg1)) _ _ b i (key_prev m c b i) (key_cur m c b i) w _ hk]
  · rw [if_neg (by simpa using hk), if_neg hk]

/-- THE KERNEL'S ARRAY at row `512 i + r`, lane `a` of batch `b`: the softmax-weighted mean of the window's values. -/
theorem array_apply (b : Fin 32) (i : Fin 4) (r a : Fin 512) :
    Value.G6 m c (ix3 b ⟨512 * i.val + r.val, by omega⟩ a)
      = mean (score (m ((c : Thread nD τ).loc main_arg0)) (m ((c : Thread nD τ).loc main_arg1)) (m ((c : Thread nD τ).loc main_arg3)) b i
          ⟨a.val / 64, by omega⟩ r) (fun w => win (iblk m c 3 (pt b i)) (iblk m c 4 (pt b i)) w a) := by
  have hp : Value.pt6Of (ix3 b ⟨512 * i.val + r.val, by omega⟩ a : S32x2048x512.Idx) = (pt b i).val := by
    show 4 * (b.val / 1 - 0) + 1 * ((512 * i.val + r.val) / 512 - 0) + 1 * (a.val / 512 - 0) = 4 * b.val + i.val
    omega
  have hl : Value.loc6Of (ix3 b ⟨512 * i.val + r.val, by omega⟩ a : S32x2048x512.Idx) = ix3 0 r a := by
    funext x
    refine Fin.ext ?_
    match x with
    | ⟨0, _⟩ => show b.val % 1 = 0; omega
    | ⟨1, _⟩ => show (512 * i.val + r.val) % 512 = r.val; omega
    | ⟨2, _⟩ => show a.val % 512 = a.val; omega
  have hG : Value.G6 m c (ix3 b ⟨512 * i.val + r.val, by omega⟩ a) = (outsAt0 m c (pt b i).val (pt b i).isLt).1 (ix3 0 r a) := by
    unfold Value.G6
    rw [dif_pos (by rw [hp]; exact (pt b i).isLt), hl, Value.fold0_congr m c _ _ (pt b i).val (by have := (pt b i).isLt; omega) hp,
      ← Value.outsAt0_sweep m c (pt b i).val (pt b i).isLt]
  rw [hG, outs_apply]
  unfold blockMean
  exact congrArg (fun s => mean s _) (funext fun w => rowScore_eq m c b i _ r w)

end Cert.KernelIdeal.Band
-- ==== Proof.RefGather.lean ====
module

public import proofs.«01_k».proof.Proof.Gen.ReferenceIdeal.Read
public import Idealize.ShloMosaic.Lib.Pointwise

@[expose] public section

set_option maxRecDepth 16384

noncomputable section

namespace Cert.ReferenceIdeal.Band

open Cert.ReferenceIdeal Cert.ReferenceIdeal.Gen Idealize.ShloMosaic Idealize.ShloMosaic.TcCoe

/-- The gather of relative biases, at an index. -/
theorem gather_bias {α : Type} (x : S8x257.Idx → α) (idx : IVec S64x576x1 32) (h : Fin 8) (t : Fin 64) (s : Fin 576) :
    Host.gather gather_S8x257_S64x576x1_S8x64x576_0_1_n_n_1_2_81 x idx (ix3 h t s)
      = x (ix2 h ⟨min (idx (ix3 t s 0)).toInt.toNat 256, by omega⟩) := by
  unfold Host.gather
  refine congrArg x (funext fun a => Fin.ext ?_)
  match a with
  | ⟨0, _⟩ =>
    have e0 : GatherDims.start gather_S8x257_S64x576x1_S8x64x576_0_1_n_n_1_2_81 (ix3 h t s) idx 0 = 0 := rfl
    have e1 : GatherDims.batchCoord gather_S8x257_S64x576x1_S8x64x576_0_1_n_n_1_2_81 (ix3 h t s) 0 = 0 := rfl
    have e2 : GatherDims.offCoord gather_S8x257_S64x576x1_S8x64x576_0_1_n_n_1_2_81 (ix3 h t s) 0 = h.val := rfl
    exact (congrArg₂ (· + ·) (congrArg₂ (· + ·) e0 e1) e2).trans (by show 0 + 0 + h.val = h.val; omega)
  | ⟨1, _⟩ =>
    have hs : GatherDims.siIdx gather_S8x257_S64x576x1_S8x64x576_0_1_n_n_1_2_81 (ix3 h t s) ⟨0, by decide⟩ = ix3 t s 0 := by
      funext b; match b with
      | ⟨0, _⟩ => rfl
      | ⟨1, _⟩ => rfl
      | ⟨2, _⟩ => rfl
    have e0 : GatherDims.start gather_S8x257_S64x576x1_S8x64x576_0_1_n_n_1_2_81 (ix3 h t s) idx 1
        = min (idx (GatherDims.siIdx gather_S8x257_S64x576x1_S8x64x576_0_1_n_n_1_2_81 (ix3 h t s) ⟨0, by decide⟩)).toInt.toNat 256 := rfl
    have e1 : GatherDims.batchCoord gather_S8x257_S64x576x1_S8x64x576_0_1_n_n_1_2_81 (ix3 h t s) 1 = 0 := rfl
    have e2 : GatherDims.offCoord gather_S8x257_S64x576x1_S8x64x576_0_1_n_n_1_2_81 (ix3 h t s) 1 = 0 := rfl
    rw [hs] at e0
    exact (congrArg₂ (· + ·) (congrArg₂ (· + ·) e0 e1) e2).trans (by show min (idx (ix3 t s 0)).toInt.toNat 256 + 0 + 0 = min (idx (ix3 t s 0)).toInt.toNat 256; omega)

/-- The gather of the keys a chunk sees, at an index. -/
theorem gather_rows {α : Type} (x : S32x2560x8x64.Idx → α) (idx : IVec S32x576x1 32) (b c : Fin 32) (s : Fin 576) (h : Fin 8) (d : Fin 64) :
    Host.gather gather_S32x2560x8x64_S32x576x1_S32x32x576x8x64_034_1_n_n_1_2_321864 x idx (ix5 b c s h d)
      = x (ix4 b ⟨min (idx (ix3 c s 0)).toInt.toNat 2559, by omega⟩ h d) := by
  unfold Host.gather
  refine congrArg x (funext fun a => Fin.ext ?_)
  match a with
  | ⟨0, _⟩ =>
    have e0 : GatherDims.start gather_S32x2560x8x64_S32x576x1_S32x32x576x8x64_034_1_n_n_1_2_321864 (ix5 b c s h d) idx 0 = 0 := rfl
    have e1 : GatherDims.batchCoord gather_S32x2560x8x64_S32x576x1_S32x32x576x8x64_034_1_n_n_1_2_321864 (ix5 b c s h d) 0 = 0 := rfl
    have e2 : GatherDims.offCoord gather_S32x2560x8x64_S32x576x1_S32x32x576x8x64_034_1_n_n_1_2_321864 (ix5 b c s h d) 0 = b.val := rfl
    exact (congrArg₂ (· + ·) (congrArg₂ (· + ·) e0 e1) e2).trans (by show 0 + 0 + b.val = b.val; omega)
  | ⟨1, _⟩ =>
    have hs : GatherDims.siIdx gather_S32x2560x8x64_S32x576x1_S32x32x576x8x64_034_1_n_n_1_2_321864 (ix5 b c s h d) ⟨0, by decide⟩ = ix3 c s 0 := by
      funext b; match b with
      | ⟨0, _⟩ => rfl
      | ⟨1, _⟩ => rfl
      | ⟨2, _⟩ => rfl
    have e0 : GatherDims.start gather_S32x2560x8x64_S32x576x1_S32x32x576x8x64_034_1_n_n_1_2_321864 (ix5 b c s h d) idx 1
        = min (idx (GatherDims.siIdx gather_S32x2560x8x64_S32x576x1_S32x32x576x8x64_034_1_n_n_1_2_321864 (ix5 b c s h d) ⟨0, by decide⟩)).toInt.toNat 2559 := rfl
    have e1 : GatherDims.batchCoord gather_S32x2560x8x64_S32x576x1_S32x32x576x8x64_034_1_n_n_1_2_321864 (ix5 b c s h d) 1 = 0 := rfl
    have e2 : GatherDims.offCoord gather_S32x2560x8x64_S32x576x1_S32x32x576x8x64_034_1_n_n_1_2_321864 (ix5 b c s h d) 1 = 0 := rfl
    rw [hs] at e0
    exact (congrArg₂ (· + ·) (congrArg₂ (· + ·) e0 e1) e2).trans (by show min (idx (ix3 c s 0)).toInt.toNat 2559 + 0 + 0 = min (idx (ix3 c s 0)).toInt.toNat 2559; omega)
  | ⟨2, _⟩ =>
    have e0 : GatherDims.start gather_S32x2560x8x64_S32x576x1_S32x32x576x8x64_034_1_n_n_1_2_321864 (ix5 b c s h d) idx 2 = 0 := rfl
    have e1 : GatherDims.batchCoord gather_S32x2560x8x64_S32x576x1_S32x32x576x8x64_034_1_n_n_1_2_321864 (ix5 b c s h d) 2 = 0 := rfl
    have e2 : GatherDims.offCoord gather_S32x2560x8x64_S32x576x1_S32x32x576x8x64_034_1_n_n_1_2_321864 (ix5 b c s h d) 2 = h.val := rfl
    exact (congrArg₂ (· + ·) (congrArg₂ (· + ·) e0 e1) e2).trans (by show 0 + 0 + h.val = h.val; omega)
  | ⟨3, _⟩ =>
    have e0 : GatherDims.start gather_S32x2560x8x64_S32x576x1_S32x32x576x8x64_034_1_n_n_1_2_321864 (ix5 b c s h d) idx 3 = 0 := rfl
    have e1 : GatherDims.batchCoord gather_S32x2560x8x64_S32x576x1_S32x32x576x8x64_034_1_n_n_1_2_321864 (ix5 b c s h d) 3 = 0 := rfl
    have e2 : GatherDims.offCoord gather_S32x2560x8x64_S32x576x1_S32x32x576x8x64_034_1_n_n_1_2_321864 (ix5 b c s h d) 3 = d.val := rfl
    exact (congrArg₂ (· + ·) (congrArg₂ (· + ·) e0 e1) e2).trans (by show 0 + 0 + d.val = d.val; omega)

end Cert.ReferenceIdeal.Band
-- ==== Proof.RefValue.lean ====
module

public import proofs.«01_k».proof.Proof.RefGather
public import proofs.«01_k».proof.Proof.Softmax

@[expose] public section

set_option maxRecDepth 16384

noncomputable section

namespace Cert.ReferenceIdeal.Band

open Cert.Band Cert.ReferenceIdeal Cert.ReferenceIdeal.Gen Cert.ReferenceIdeal.Read Idealize.ShloMosaic Idealize.ShloMosaic.TcCoe

/-- A key's place among the padded keys. -/
theorem v35_apply (c : Fin 32) (s : Fin 576) :
    val_main_v35 (F := Ideal) (ix2 c s) = BitVec.ofNat 32 (64 * c.val + s.val) := by
  have e : val_main_v35 (F := Ideal) (ix2 c s) = IntOp.addi (IntOp.muli (BitVec.ofNat 32 c.val) 64#32) (BitVec.ofNat 32 s.val) := by
    pointwise [val_main_v35, val_main_v33, val_main_v34, val_main_v30, val_main_v28, val_main_v27, val_main_v29, val_main_c_7, val_main_v32, val_main_v31]
  rw [e]
  apply BitVec.eq_of_toNat_eq
  simp [IntOp.addi, IntOp.muli]
  omega

theorem slot_facts : ∀ n : Fin 2560,
    Scalar.select (IntOp.cmpi .slt (BitVec.ofNat 32 n.val) 0#32) (IntOp.addi (BitVec.ofNat 32 n.val) 2560#32) (BitVec.ofNat 32 n.val) = BitVec.ofNat 32 n.val
      ∧ IntOp.cmpi .sge (IntOp.subi (BitVec.ofNat 32 n.val) 512#32) 0#32 = BitVec.ofBool (decide (512 ≤ n.val)) := by
  decide +kernel

theorem v41_apply (c : Fin 32) (s : Fin 576) :
    val_main_v41 (F := Ideal) (ix3 c s 0) = BitVec.ofNat 32 (64 * c.val + s.val) := by
  have e : val_main_v41 (F := Ideal) (ix3 c s 0) = Scalar.select (IntOp.cmpi .slt (val_main_v35 (F := Ideal) (ix2 c s)) 0#32)
      (IntOp.addi (val_main_v35 (F := Ideal) (ix2 c s)) 2560#32) (val_main_v35 (F := Ideal) (ix2 c s)) := by
    pointwise [val_main_v41, val_main_v40, val_main_v37, val_main_v39, val_main_v36, val_main_v38, val_main_c_8, val_main_c_9]
  rw [e, v35_apply]
  exact (slot_facts ⟨64 * c.val + s.val, by omega⟩).1

theorem v48_apply (c : Fin 32) (s : Fin 576) :
    val_main_v48 (F := Ideal) (ix3 c s 0) = BitVec.ofNat 32 (64 * c.val + s.val) := by
  have e : val_main_v48 (F := Ideal) (ix3 c s 0) = Scalar.select (IntOp.cmpi .slt (val_main_v35 (F := Ideal) (ix2 c s)) 0#32)
      (IntOp.addi (val_main_v35 (F := Ideal) (ix2 c s)) 2560#32) (val_main_v35 (F := Ideal) (ix2 c s)) := by
    pointwise [val_main_v48, val_main_v47, val_main_v44, val_main_v46, val_main_v43, val_main_v45, val_main_c_10, val_main_c_11]
  rw [e, v35_apply]
  exact (slot_facts ⟨64 * c.val + s.val, by omega⟩).1

theorem v59_apply (c : Fin 32) (s : Fin 576) :
    val_main_v59 (F := Ideal) (ix2 c s) = BitVec.ofBool (decide (512 ≤ 64 * c.val + s.val)) := by
  have e : val_main_v59 (F := Ideal) (ix2 c s) = IntOp.cmpi .sge (IntOp.subi (val_main_v35 (F := Ideal) (ix2 c s)) 512#32) 0#32 := by
    pointwise [val_main_v59, val_main_v57, val_main_v56, val_main_v58, val_main_c_12, val_main_c_13]
  rw [e, v35_apply]
  exact (slot_facts ⟨64 * c.val + s.val, by omega⟩).2

theorem toNat_ofNat_small (n : ℕ) (hn : n < 2560) : min (BitVec.ofNat 32 n).toInt.toNat 2559 = n := by
  have : (BitVec.ofNat 32 n).toInt = (n : ℤ) := by
    rw [BitVec.toInt_eq_toNat_of_lt] <;> simp only [BitVec.toNat_ofNat] <;> omega
  rw [this]; omega

/-- The keys padded in front with 512 zero rows, cut into heads. -/
theorem v6_apply (x : (⟨S32x2048x512, .bf16⟩ : BufTy).Contents (Elt Ideal)) (b : Fin 32) (n : Fin 2560) (h : Fin 8) (d : Fin 64) (hn : 512 ≤ n.val) :
    val_main_v6 (F := Ideal) x (ix4 b n h d) = x (ix3 b ⟨n.val - 512, by omega⟩ ⟨64 * h.val + d.val, by omega⟩) := by
  pointwise [val_main_v6, val_main_v3, val_main_v2]
  rw [dif_pos ⟨hn, by omega⟩]
  simp only [Nat.mul_comm h.val 64]

/-- The values padded in front with 512 zero rows, cut into heads. -/
theorem v7_apply (x : (⟨S32x2048x512, .bf16⟩ : BufTy).Contents (Elt Ideal)) (b : Fin 32) (n : Fin 2560) (h : Fin 8) (d : Fin 64) (hn : 512 ≤ n.val) :
    val_main_v7 (F := Ideal) x (ix4 b n h d) = x (ix3 b ⟨n.val - 512, by omega⟩ ⟨64 * h.val + d.val, by omega⟩) := by
  pointwise [val_main_v7, val_main_v5, val_main_v4]
  rw [dif_pos ⟨hn, by omega⟩]
  simp only [Nat.mul_comm h.val 64]

/-- The queries cut into chunks and heads. -/
theorem v1_apply (x : (⟨S32x2048x512, .bf16⟩ : BufTy).Contents (Elt Ideal)) (b c : Fin 32) (t : Fin 64) (h : Fin 8) (d : Fin 64) :
    val_main_v1 (F := Ideal) x (ix5 b c t h d) = x (ix3 b ⟨64 * c.val + t.val, by omega⟩ ⟨64 * h.val + d.val, by omega⟩) := by
  pointwise [val_main_v1, val_main_v0]
  simp only [Nat.mul_comm h.val 64, Nat.mul_comm c.val 64]

theorem dist_facts : ∀ n : Fin 640,
    (let p := IntOp.addi (IntOp.minsi 128#32 (IntOp.maxsi 4294967168#32 (IntOp.subi (BitVec.ofNat 32 n.val) 63#32))) 128#32
     Scalar.select (IntOp.cmpi .slt p 0#32) (IntOp.addi p 257#32) p) = BitVec.ofNat 32 (clipped (1086 - n.val)) := by
  decide +kernel

theorem v25_apply (t : Fin 64) (s : Fin 576) :
    val_main_v25 (F := Ideal) (ix3 t s 0) = BitVec.ofNat 32 (clipped (511 + s.val - t.val)) := by
  have e : val_main_v25 (F := Ideal) (ix3 t s 0) =
      (let p := IntOp.addi (IntOp.minsi 128#32 (IntOp.maxsi 4294967168#32 (IntOp.addi (IntOp.subi (BitVec.ofNat 32 t.val) (BitVec.ofNat 32 s.val)) 512#32))) 128#32
       Scalar.select (IntOp.cmpi .slt p 0#32) (IntOp.addi p 257#32) p) := by
    pointwise [val_main_v25, val_main_v24, val_main_v21, val_main_v23, val_main_v20, val_main_v22, val_main_c_5, val_main_c_6,
      val_main_v19, val_main_v18, val_main_c_4, val_main_v17, val_main_call2_v4, val_main_call2_v3, val_main_c_3, val_main_call2_v2,
      val_main_call2_v1, val_main_call2_v0, val_main_c_2, val_main_v16, val_main_v15, val_main_c_1, val_main_v14, val_main_v12,
      val_main_v9, val_main_v8, val_main_v13, val_main_v11, val_main_v10]
    rfl
  have e2 : IntOp.addi (IntOp.subi (BitVec.ofNat 32 t.val) (BitVec.ofNat 32 s.val)) 512#32
      = IntOp.subi (BitVec.ofNat 32 (t.val + 575 - s.val)) 63#32 := by
    apply BitVec.eq_of_toNat_eq
    simp [IntOp.addi, IntOp.subi]
    omega
  rw [e, e2, dist_facts ⟨t.val + 575 - s.val, by omega⟩]
  have : 1086 - (t.val + 575 - s.val) = 511 + s.val - t.val := by omega
  simp only [this]

/-- The relative bias of a key, at an index. -/
theorem v26_apply (x : (⟨S8x257, .f32⟩ : BufTy).Contents (Elt Ideal)) (h : Fin 8) (t : Fin 64) (s : Fin 576) :
    val_main_v26 (F := Ideal) x (ix3 h t s) = x (ix2 h ⟨clipped (511 + s.val - t.val), clipped_lt _⟩) := by
  unfold val_main_v26
  rw [gather_bias]
  refine congrArg _ (congrArg (ix2 h) (Fin.ext ?_))
  show min (BitVec.toInt _).toNat 256 = _
  rw [v25_apply]
  have h1 := clipped_lt (511 + s.val - t.val)
  have : (BitVec.ofNat 32 (clipped (511 + s.val - t.val))).toInt = (clipped (511 + s.val - t.val) : ℤ) := by
    rw [BitVec.toInt_eq_toNat_of_lt] <;> simp only [BitVec.toNat_ofNat] <;> omega
  rw [this]
  show min _ 256 = clipped (511 + s.val - t.val)
  omega

/-- The scale of the scores, one eighth. -/
def scale : EReal := Ideal.ofBits .f32 0x3E000000#32

/-- A key as a chunk sees it, where it exists. -/
theorem v42_apply (x : (⟨S32x2048x512, .bf16⟩ : BufTy).Contents (Elt Ideal)) (b c : Fin 32) (s : Fin 576) (h : Fin 8) (d : Fin 64)
    (hn : 512 ≤ 64 * c.val + s.val) :
    val_main_v42 (F := Ideal) x (ix5 b c s h d) = x (ix3 b ⟨64 * c.val + s.val - 512, by omega⟩ ⟨64 * h.val + d.val, by omega⟩) := by
  unfold val_main_v42
  rw [gather_rows]
  simp only [v41_apply, toNat_ofNat_small (64 * c.val + s.val) (by omega)]
  exact v6_apply x b ⟨64 * c.val + s.val, by omega⟩ h d hn

/-- A value as a chunk sees it, where it exists. -/
theorem v49_apply (x : (⟨S32x2048x512, .bf16⟩ : BufTy).Contents (Elt Ideal)) (b c : Fin 32) (s : Fin 576) (h : Fin 8) (d : Fin 64)
    (hn : 512 ≤ 64 * c.val + s.val) :
    val_main_v49 (F := Ideal) x (ix5 b c s h d) = x (ix3 b ⟨64 * c.val + s.val - 512, by omega⟩ ⟨64 * h.val + d.val, by omega⟩) := by
  unfold val_main_v49
  rw [gather_rows]
  simp only [v48_apply, toNat_ofNat_small (64 * c.val + s.val) (by omega)]
  exact v7_apply x b ⟨64 * c.val + s.val, by omega⟩ h d hn

/-- The score of slot `s` for row `t` of chunk `c`: scaled product plus bias where the key exists, −∞ before the first. -/
def refScore (q k : S32x2048x512.Idx → EReal) (r : S8x257.Idx → EReal) (b c : Fin 32) (h : Fin 8) (t : Fin 64) (s : Fin 576) : EReal :=
  if 512 ≤ 64 * c.val + s.val then
    (∑ d : Fin 64, q (ix3 b ⟨64 * c.val + t.val, by omega⟩ ⟨64 * h.val + d.val, by omega⟩)
      * k (ix3 b ⟨64 * c.val + s.val - 512, by omega⟩ ⟨64 * h.val + d.val, by omega⟩)) * scale
      + r (ix2 h ⟨clipped (511 + s.val - t.val), clipped_lt _⟩)
  else ⊥

theorem lidx_v50 (b c : Fin 32) (h : Fin 8) (t : Fin 64) (s : Fin 576) (d : Fin 64) : lidx_main_v50 (ix5 b c h t s) d = ix5 b c t h d :=
  funext fun a => match a with | ⟨0, _⟩ => rfl | ⟨1, _⟩ => rfl | ⟨2, _⟩ => rfl | ⟨3, _⟩ => rfl | ⟨4, _⟩ => rfl
theorem ridx_v50 (b c : Fin 32) (h : Fin 8) (t : Fin 64) (s : Fin 576) (d : Fin 64) : ridx_main_v50 (ix5 b c h t s) d = ix5 b c s h d :=
  funext fun a => match a with | ⟨0, _⟩ => rfl | ⟨1, _⟩ => rfl | ⟨2, _⟩ => rfl | ⟨3, _⟩ => rfl | ⟨4, _⟩ => rfl
theorem lidx_v73 (b c : Fin 32) (h : Fin 8) (t : Fin 64) (s : Fin 576) (d : Fin 64) : lidx_main_v73 (ix5 b c h d t) s = ix5 b c s h d :=
  funext fun a => match a with | ⟨0, _⟩ => rfl | ⟨1, _⟩ => rfl | ⟨2, _⟩ => rfl | ⟨3, _⟩ => rfl | ⟨4, _⟩ => rfl
theorem ridx_v73 (b c : Fin 32) (h : Fin 8) (t : Fin 64) (s : Fin 576) (d : Fin 64) : ridx_main_v73 (ix5 b c h d t) s = ix5 b c h t s :=
  funext fun a => match a with | ⟨0, _⟩ => rfl | ⟨1, _⟩ => rfl | ⟨2, _⟩ => rfl | ⟨3, _⟩ => rfl | ⟨4, _⟩ => rfl

theorem negInf_eq : Ideal.ofBits .f32 0xFF800000#32 = ⊥ := by
  simp [Ideal.ofBits, Ideal.ieee]

theorem v61_apply (q k : (⟨S32x2048x512, .bf16⟩ : BufTy).Contents (Elt Ideal)) (r : (⟨S8x257, .f32⟩ : BufTy).Contents (Elt Ideal))
    (b c : Fin 32) (h : Fin 8) (t : Fin 64) (s : Fin 576) :
    val_main_v61 (F := Ideal) q k r (ix5 b c h t s) = refScore q k r b c h t s := by
  have e : val_main_v61 (F := Ideal) q k r (ix5 b c h t s) = Scalar.select (val_main_v59 (F := Ideal) (ix2 c s))
      (val_main_v50 (F := Ideal) q k (ix5 b c h t s) * scale + val_main_v26 (F := Ideal) r (ix3 h t s)) (Ideal.ofBits .f32 0xFF800000#32) := by
    pointwise [val_main_v61, val_main_call3_v1, val_main_v60, val_main_v55, val_main_v52, val_main_v51, val_main_cst, val_main_v54,
      val_main_v53, val_main_call3_v2, val_main_call3_v0, val_main_cst_14]
    rfl
  rw [e, v59_apply, Scalar.select_ofBool, negInf_eq, v26_apply, val_main_v50_apply]
  unfold refScore
  by_cases hn : 512 ≤ 64 * c.val + s.val
  · rw [if_pos (by simpa using hn), if_pos hn]
    have es : ∀ d : Fin 64, val_main_v1 (F := Ideal) q (lidx_main_v50 (ix5 b c h t s) d) * val_main_v42 (F := Ideal) k (ridx_main_v50 (ix5 b c h t s) d)
        = q (ix3 b ⟨64 * c.val + t.val, by omega⟩ ⟨64 * h.val + d.val, by omega⟩)
          * k (ix3 b ⟨64 * c.val + s.val - 512, by omega⟩ ⟨64 * h.val + d.val, by omega⟩) := by
      intro d
      rw [lidx_v50, ridx_v50, v1_apply, v42_apply k b c s h d hn]
    rw [Finset.sum_congr rfl fun d _ => es d]
  · rw [if_neg (by simpa using hn), if_neg hn]

end Cert.ReferenceIdeal.Band
-- ==== Proof.RefMean.lean ====
module

public import proofs.«01_k».proof.Proof.RefValue

@[expose] public section

set_option maxRecDepth 16384

noncomputable section

namespace Cert.ReferenceIdeal.Band

open Cert.Band Cert.ReferenceIdeal Cert.ReferenceIdeal.Gen Cert.ReferenceIdeal.Read Idealize.ShloMosaic Idealize.ShloMosaic.TcCoe

/-- The host's maximum over the last axis, at an index. -/
theorem reduce_max (x : S32x32x8x64x576.Idx → EReal) (init : S_.Idx → EReal) (b c : Fin 32) (h : Fin 8) (t : Fin 64) :
    Host.reduce (max : EReal → EReal → EReal) x init reducesTo_S32x32x8x64x576_S32x32x8x64_d4 h_S_ (ix4 b c h t)
      = Finset.fold max (init (Shape.Idx.first h_S_)) (fun s : Fin 576 => x (ix5 b c h t s)) Finset.univ := by
  have hr : S32x32x8x64x576.Reduces [4] S32x32x8x64 := by decide
  rw [Host.reduce_eq_fold_single max x init reducesTo_S32x32x8x64x576_S32x32x8x64_d4 hr h_S_ (ix4 b c h t)]
  have e : (x ∘ hr.lift (ix4 b c h t)) = fun s : Fin 576 => x (ix5 b c h t s) := by
    funext s
    refine congrArg x (funext fun a => Fin.ext ?_)
    match a with
    | ⟨0, _⟩ => rfl
    | ⟨1, _⟩ => rfl
    | ⟨2, _⟩ => rfl
    | ⟨3, _⟩ => rfl
    | ⟨4, _⟩ => rfl
  rw [e]
  rfl

/-- The largest score of a row. -/
theorem v64_apply (q k : (⟨S32x2048x512, .bf16⟩ : BufTy).Contents (Elt Ideal)) (r : (⟨S8x257, .f32⟩ : BufTy).Contents (Elt Ideal))
    (b c : Fin 32) (h : Fin 8) (t : Fin 64) :
    val_main_v64 (F := Ideal) q k r (ix4 b c h t) = Finset.fold max ⊥ (refScore q k r b c h t) Finset.univ := by
  have e62 : val_main_v62 (F := Ideal) q k r (ix4 b c h t)
      = Finset.fold max (Ideal.ofBits .f32 0xFF800000#32) (fun s => val_main_v61 (F := Ideal) q k r (ix5 b c h t s)) Finset.univ := by
    unfold val_main_v62
    generalize val_main_v61 (F := Ideal) q k r = y
    exact reduce_max y (val_main_cst_15 (F := Ideal)) b c h t
  generalize hy : val_main_v62 (F := Ideal) q k r (ix4 b c h t) = y at e62
  have e : val_main_v64 (F := Ideal) q k r (ix4 b c h t) = max (Ideal.ofBits .f32 0xFF800000#32) y := by
    rw [val_main_v64_apply, hy, val_main_v63_apply]
    rfl
  have e2 : (fun s => val_main_v61 (F := Ideal) q k r (ix5 b c h t s)) = refScore q k r b c h t :=
    funext fun s => v61_apply q k r b c h t s
  rw [e, e62, negInf_eq, max_eq_right bot_le, e2]

/-- The weights of a row before they are normalised. -/
theorem v68_apply (q k : (⟨S32x2048x512, .bf16⟩ : BufTy).Contents (Elt Ideal)) (r : (⟨S8x257, .f32⟩ : BufTy).Contents (Elt Ideal))
    (b c : Fin 32) (h : Fin 8) (t : Fin 64) (s : Fin 576) : val_main_v68 (F := Ideal) q k r (ix5 b c h t s)
      = Ideal.exp (refScore q k r b c h t s - Finset.fold max ⊥ (refScore q k r b c h t) Finset.univ) := by
  have e : val_main_v68 (F := Ideal) q k r (ix5 b c h t s)
      = Ideal.exp (val_main_v61 (F := Ideal) q k r (ix5 b c h t s) - val_main_v64 (F := Ideal) q k r (ix4 b c h t)) := by
    pointwise [val_main_v68, val_main_v67, val_main_v66, val_main_v65]
  rw [e, v64_apply, v61_apply]

theorem zero_eq : Ideal.ofBits .f32 0x00000000#32 = 0 := by
  simp [Ideal.ofBits, Ideal.ieee]

/-- The sum of a row's weights. -/
theorem v69_apply (q k : (⟨S32x2048x512, .bf16⟩ : BufTy).Contents (Elt Ideal)) (r : (⟨S8x257, .f32⟩ : BufTy).Contents (Elt Ideal))
    (b c : Fin 32) (h : Fin 8) (t : Fin 64) :
    val_main_v69 (F := Ideal) q k r (ix4 b c h t)
      = ∑ s, Ideal.exp (refScore q k r b c h t s - Finset.fold max ⊥ (refScore q k r b c h t) Finset.univ) := by
  have e : val_main_v69 (F := Ideal) q k r (ix4 b c h t) = Ideal.ofBits .f32 0x00000000#32 + ∑ s, val_main_v68 (F := Ideal) q k r (ix5 b c h t s) := by
    pointwise [val_main_v69, val_main_cst_17]
  rw [e, zero_eq, zero_add]
  exact Finset.sum_congr rfl fun s _ => v68_apply q k r b c h t s

/-- The normalised weights of a row. -/
theorem v72_apply (q k : (⟨S32x2048x512, .bf16⟩ : BufTy).Contents (Elt Ideal)) (r : (⟨S8x257, .f32⟩ : BufTy).Contents (Elt Ideal))
    (b c : Fin 32) (h : Fin 8) (t : Fin 64) (s : Fin 576) : val_main_v72 (F := Ideal) q k r (ix5 b c h t s)
      = Ideal.div (Ideal.exp (refScore q k r b c h t s - Finset.fold max ⊥ (refScore q k r b c h t) Finset.univ))
            (∑ s, Ideal.exp (refScore q k r b c h t s - Finset.fold max ⊥ (refScore q k r b c h t) Finset.univ)) := by
  have e72 : val_main_v72 (F := Ideal) q k r (ix5 b c h t s)
      = Ideal.div (val_main_v68 (F := Ideal) q k r (ix5 b c h t s)) (val_main_v69 (F := Ideal) q k r (ix4 b c h t)) := by
    pointwise [val_main_v72, val_main_v71, val_main_v70]
  rw [e72, v69_apply, v68_apply]

/-- The reference's result at chunk `c`, row `t`, head `h`, lane `d`: the values under the normalised weights. -/
theorem v73_read (q k v : (⟨S32x2048x512, .bf16⟩ : BufTy).Contents (Elt Ideal)) (r : (⟨S8x257, .f32⟩ : BufTy).Contents (Elt Ideal))
    (b c : Fin 32) (h : Fin 8) (t d : Fin 64) :
    val_main_v73 (F := Ideal) q k v r (ix5 b c h d t)
      = ∑ s : Fin 576, val_main_v49 (F := Ideal) v (ix5 b c s h d)
          * Ideal.div (Ideal.exp (refScore q k r b c h t s - Finset.fold max ⊥ (refScore q k r b c h t) Finset.univ))
            (∑ s, Ideal.exp (refScore q k r b c h t s - Finset.fold max ⊥ (refScore q k r b c h t) Finset.univ)) := by
  have e : ∀ s : Fin 576, val_main_v49 (F := Ideal) v (lidx_main_v73 (ix5 b c h d t) s) * val_main_v72 (F := Ideal) q k r (ridx_main_v73 (ix5 b c h d t) s)
      = val_main_v49 (F := Ideal) v (ix5 b c s h d)
          * Ideal.div (Ideal.exp (refScore q k r b c h t s - Finset.fold max ⊥ (refScore q k r b c h t) Finset.univ))
            (∑ s, Ideal.exp (refScore q k r b c h t s - Finset.fold max ⊥ (refScore q k r b c h t) Finset.univ)) := by
    intro s
    rw [lidx_v73, ridx_v73, v72_apply]
  exact (val_main_v73_apply q k v r (ix5 b c h d t)).trans (Finset.sum_congr rfl fun s _ => e s)

/-- The reference's result, index by index. -/
theorem v76_apply (q k v : (⟨S32x2048x512, .bf16⟩ : BufTy).Contents (Elt Ideal)) (r : (⟨S8x257, .f32⟩ : BufTy).Contents (Elt Ideal))
    (b c : Fin 32) (h : Fin 8) (t d : Fin 64) :
    val_main_v76 (F := Ideal) q k v r (ix3 b ⟨64 * c.val + t.val, by omega⟩ ⟨64 * h.val + d.val, by omega⟩)
      = val_main_v73 (F := Ideal) q k v r (ix5 b c h d t) := by
  pointwise [val_main_v76, val_main_v75, val_main_v74]
  done

end Cert.ReferenceIdeal.Band
-- ==== Proof.Equation.lean ====
/-
  The equation of the two arrays: the kernel's mean over a window of 1024 keys, of which only the 576 in the row's band have a score
  above −∞, is the reference's mean over those 576.
-/
module

public import proofs.«01_k».proof.Proof.Array
public import proofs.«01_k».proof.Proof.RefMean

@[expose] public section

set_option maxRecDepth 16384

noncomputable section

open Idealize.ShloMosaic Idealize.ShloMosaic.TcCoe Idealize.SL.Sem

namespace Cert.Band

open Cert.KernelIdeal.Band (score mean negInf_eq)
open Cert.ReferenceIdeal.Band (refScore v49_apply v73_read v76_apply)

/-- Every element is a real number. -/
abbrev Real' {α : Type} (x : α → EReal) : Prop := ∀ i, x i ≠ ⊤ ∧ x i ≠ ⊥

theorem real_eq {α : Type} {x : α → EReal} (h : Real' x) : ∃ y : α → ℝ, x = fun i => (y i : EReal) :=
  ⟨fun i => (x i).toReal, funext fun i => (EReal.coe_toReal (h i).1 (h i).2).symm⟩

theorem scale_real : Ideal.ofBits .f32 0x3E000000#32 = ((1 / 8 : ℝ) : EReal) := by
  simp [Ideal.ofBits, Ideal.ieee, -EReal.coe_mul]; norm_num

section

variable (q k : Cert.KernelIdeal.S32x2048x512.Idx → EReal) (R : Cert.KernelIdeal.S8x257.Idx → EReal)

/-- A score at a key that exists is real. -/
theorem refScore_real (hq : Real' q) (hk : Real' k) (hR : Real' R) (b c : Fin 32) (h : Fin 8) (t : Fin 64) (s : Fin 576)
    (hs : 512 ≤ 64 * c.val + s.val) : refScore q k R b c h t s ≠ ⊤ ∧ refScore q k R b c h t s ≠ ⊥ := by
  obtain ⟨q', rfl⟩ := real_eq hq
  obtain ⟨k', rfl⟩ := real_eq hk
  obtain ⟨R', rfl⟩ := real_eq hR
  unfold refScore
  rw [if_pos hs]
  unfold Cert.ReferenceIdeal.Band.scale
  rw [scale_real]
  simp only [← EReal.coe_mul, ← coe_sum, ← EReal.coe_add]
  exact ⟨EReal.coe_ne_top _, EReal.coe_ne_bot _⟩

/-- The key of the band's slot `s` in the window of the row's block: chunk `e` of the block starts at 64 e. -/
abbrev slot (e : Fin 8) (s : Fin 576) : Fin 1024 := ⟨64 * e.val + s.val, by omega⟩

abbrev chunk (i : Fin 4) (e : Fin 8) : Fin 32 := ⟨8 * i.val + e.val, by omega⟩

theorem score_slot (b : Fin 32) (i : Fin 4) (e : Fin 8) (h : Fin 8) (t : Fin 64) (s : Fin 576) :
    score q k R b i h ⟨64 * e.val + t.val, by omega⟩ (slot e s) = refScore q k R b (chunk i e) h t s := by
  unfold score refScore
  by_cases hs : 512 ≤ 64 * (8 * i.val + e.val) + s.val
  · have hs' : 512 ≤ 512 * i.val + (64 * e.val + s.val) := by omega
    rw [if_pos hs, if_pos hs', if_pos (by show (64 * e.val + t.val) / 64 ≤ (64 * e.val + s.val) / 64 ∧ (64 * e.val + s.val) / 64 ≤ (64 * e.val + t.val) / 64 + 8; omega)]
    have e1 : (⟨512 * i.val + (64 * e.val + t.val), by omega⟩ : Fin 2048) = ⟨64 * (8 * i.val + e.val) + t.val, by omega⟩ := Fin.ext (by show 512 * i.val + (64 * e.val + t.val) = 64 * (8 * i.val + e.val) + t.val; omega)
    have e2 : (⟨512 * i.val + (64 * e.val + s.val) - 512, by omega⟩ : Fin 2048) = ⟨64 * (8 * i.val + e.val) + s.val - 512, by omega⟩ := Fin.ext (by show 512 * i.val + (64 * e.val + s.val) - 512 = 64 * (8 * i.val + e.val) + s.val - 512; omega)
    have e3 : 511 + (64 * e.val + s.val) - (64 * e.val + t.val) = 511 + s.val - t.val := by omega
    simp only [e1, e2, e3]
    rfl
  · have hs' : ¬ 512 ≤ 512 * i.val + (64 * e.val + s.val) := by omega
    rw [if_neg hs, if_neg hs']

theorem score_off (b : Fin 32) (i : Fin 4) (e : Fin 8) (h : Fin 8) (t : Fin 64) (w : Fin 1024) (hw : ∀ s, slot e s ≠ w) :
    score q k R b i h ⟨64 * e.val + t.val, by omega⟩ w = ⊥ := by
  have hout : ¬ ((64 * e.val + t.val) / 64 ≤ w.val / 64 ∧ w.val / 64 ≤ (64 * e.val + t.val) / 64 + 8) := by
    intro hin
    exact hw ⟨w.val - 64 * e.val, by omega⟩ (Fin.ext (by show 64 * e.val + (w.val - 64 * e.val) = w.val; omega))
  unfold score
  rw [if_neg hout, EReal.add_bot, ite_self]

end

/-- The kernel's mean is the reference's. -/
theorem mean_eq (q k v : (⟨Cert.ReferenceIdeal.S32x2048x512, .bf16⟩ : BufTy).Contents (Elt Ideal)) (R : (⟨Cert.ReferenceIdeal.S8x257, .f32⟩ : BufTy).Contents (Elt Ideal))
    (hq : Real' q) (hk : Real' k) (hR : Real' R) (b : Fin 32) (i : Fin 4) (e : Fin 8) (h : Fin 8) (t d : Fin 64) (U : Fin 1024 → EReal)
    (hU : ∀ w : Fin 1024, 512 ≤ 512 * i.val + w.val → U w = v (ix3 b ⟨512 * i.val + w.val - 512, by omega⟩ ⟨64 * h.val + d.val, by omega⟩)) :
    mean (score q k R b i h ⟨64 * e.val + t.val, by omega⟩) U
      = Cert.ReferenceIdeal.Read.val_main_v76 (F := Ideal) q k v R (ix3 b ⟨64 * (chunk i e).val + t.val, by omega⟩ ⟨64 * h.val + d.val, by omega⟩) := by
  rw [v76_apply, v73_read]
  unfold mean
  rw [negInf_eq]
  refine softmax_window (slot e) (fun x y hxy => Fin.ext (by have := congrArg Fin.val hxy; dsimp only [slot] at this; omega))
    (refScore q k R b (chunk i e) h t) _ (fun s => Cert.ReferenceIdeal.Read.val_main_v49 (F := Ideal) v (ix5 b (chunk i e) s h d)) U
    (fun s => score_slot q k R b i e h t s) (score_off q k R b i e h t) (fun s hs => ?_) (fun s => ?_)
    ⟨512 + t.val, by omega⟩ (refScore_real q k R hq hk hR b _ h t _ (by show 512 ≤ 64 * (8 * i.val + e.val) + (512 + t.val); omega)).2
  · have hex : 512 ≤ 64 * (chunk i e).val + s.val := by
      by_contra hn
      exact hs (by unfold refScore; exact if_neg hn)
    rw [hU (slot e s) (by have : 512 ≤ 64 * (8 * i.val + e.val) + s.val := hex
                          show 512 ≤ 512 * i.val + (64 * e.val + s.val); omega)]
    refine Eq.trans ?_ (v49_apply v b (chunk i e) s h d hex).symm
    exact congrArg (fun z => v (ix3 b z _)) (Fin.ext (by show 512 * i.val + (64 * e.val + s.val) - 512 = 64 * (8 * i.val + e.val) + s.val - 512; omega))
  · by_cases hex : 512 ≤ 64 * (chunk i e).val + s.val
    · exact (refScore_real q k R hq hk hR b _ h t s hex).1
    · unfold refScore
      rw [if_neg hex]
      exact bot_ne_top

open Cert.KernelIdeal Cert.KernelIdeal.Gen in
/-- The kernel's array is the reference's function of the arguments. -/
theorem arrays_eq (m : (ℓ : Loc nD τ sig) → Buf (Elt Ideal) ℓ) (c : Dev nD)
    (hq : Real' (m ((c : Thread nD τ).loc main_arg0))) (hk : Real' (m ((c : Thread nD τ).loc main_arg1)))
    (hR : Real' (m ((c : Thread nD τ).loc main_arg3))) :
    Cert.ReferenceIdeal.Read.val_main_v76 (F := Ideal) (m ((c : Thread nD τ).loc main_arg0)) (m ((c : Thread nD τ).loc main_arg1))
      (m ((c : Thread nD τ).loc main_arg2)) (m ((c : Thread nD τ).loc main_arg3)) = Cert.KernelIdeal.Value.G6 m c := by
  funext y
  have h1 : (y 1).val < 2048 := (y 1).isLt
  have h2 : (y 2).val < 512 := (y 2).isLt
  let b : Fin 32 := y 0
  let i : Fin 4 := ⟨(y 1).val / 512, by omega⟩
  let e : Fin 8 := ⟨(y 1).val % 512 / 64, by omega⟩
  let t : Fin 64 := ⟨(y 1).val % 64, by omega⟩
  let h : Fin 8 := ⟨(y 2).val / 64, by omega⟩
  let d : Fin 64 := ⟨(y 2).val % 64, by omega⟩
  have ey : y = ix3 b ⟨512 * i.val + (⟨64 * e.val + t.val, by omega⟩ : Fin 512).val, by show 512 * i.val + (64 * e.val + t.val) < 2048; omega⟩ (⟨64 * h.val + d.val, by omega⟩ : Fin 512) := by
    funext x
    refine Fin.ext ?_
    match x with
    | ⟨0, _⟩ => rfl
    | ⟨1, _⟩ => show (y 1).val = 512 * ((y 1).val / 512) + (64 * ((y 1).val % 512 / 64) + (y 1).val % 64); omega
    | ⟨2, _⟩ => show (y 2).val = 64 * ((y 2).val / 64) + (y 2).val % 64; omega
  have key : ∀ (b : Fin 32) (i : Fin 4) (e h : Fin 8) (t d : Fin 64),
      Cert.ReferenceIdeal.Read.val_main_v76 (F := Ideal) (m ((c : Thread nD τ).loc main_arg0)) (m ((c : Thread nD τ).loc main_arg1))
        (m ((c : Thread nD τ).loc main_arg2)) (m ((c : Thread nD τ).loc main_arg3))
        (ix3 b ⟨512 * i.val + (⟨64 * e.val + t.val, by omega⟩ : Fin 512).val, by show 512 * i.val + (64 * e.val + t.val) < 2048; omega⟩ (⟨64 * h.val + d.val, by omega⟩ : Fin 512))
      = Cert.KernelIdeal.Value.G6 m c (ix3 b ⟨512 * i.val + (⟨64 * e.val + t.val, by omega⟩ : Fin 512).val, by show 512 * i.val + (64 * e.val + t.val) < 2048; omega⟩ (⟨64 * h.val + d.val, by omega⟩ : Fin 512)) := by
    intro b i e h t d
    rw [Cert.KernelIdeal.Band.array_apply]
    have eh : (⟨(⟨64 * h.val + d.val, by omega⟩ : Fin 512).val / 64, by show (64 * h.val + d.val) / 64 < 8; omega⟩ : Fin 8) = h :=
      Fin.ext (by show (64 * h.val + d.val) / 64 = h.val; omega)
    rw [eh, mean_eq _ _ (m ((c : Thread nD τ).loc main_arg2)) _ hq hk hR b i e h t d _
      (fun w hw => Cert.KernelIdeal.Band.win_eq (m ((c : Thread nD τ).loc main_arg2)) _ _ b i (Cert.KernelIdeal.Band.value_prev m c b i)
        (Cert.KernelIdeal.Band.value_cur m c b i) w _ hw)]
    refine congrArg (fun z => Cert.ReferenceIdeal.Read.val_main_v76 (F := Ideal) _ _ _ _ (ix3 b z _)) (Fin.ext ?_)
    show 512 * i.val + (64 * e.val + t.val) = 64 * (8 * i.val + e.val) + t.val
    omega
  rw [ey]
  exact key b i e h t d

end Cert.Band
-- ==== Proof.MoeBody.lean ====
module

public import proofs.«01_k».proof.Proof.Gen.MoeKernelIdeal.Skeleton
public import proofs.«01_k».proof.Proof.Gen.MoeKernelIdeal.Launch
public import Idealize.ShloMosaic.Lib.Pipeline.TableIdle
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.ValueIdx

/-! The expert kernel's body at one grid point: what it leaves in its output block and in its three
    weight buffers, from what it finds. -/

@[expose] public section

set_option maxRecDepth 16384

noncomputable section

namespace Cert.Moe

open Cert.MoeKernelIdeal Cert.MoeKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block-to-expert table, the number of used blocks, and the three weight buffers. -/
abbrev beM : Memref sig .tc .smem S544 .i32 := Memref.whole main_arg0
abbrev nuM : Memref sig .tc .smem S1 .i32 := Memref.whole main_arg1
abbrev w0M : Memref sig .tc .vmem S1024x1024 .bf16 := Memref.whole cc0_scratch0
abbrev w1M : Memref sig .tc .vmem S1024x1024 .bf16 := Memref.whole cc0_scratch1
abbrev w2M : Memref sig .tc .vmem S1024x1024 .bf16 := Memref.whole cc0_scratch2

/-- The words the body reads: this block's expert,
    the expert of the block before, the number of used blocks. -/
abbrev beAt (i : grid0.Coords) (T0 : S544.Idx → Elt F .i32) : BitVec 32 :=
  View.readAt (Elt F) beM.view (Rect.unit (s := S544) (k0_off1 i) S1.size (k0_off1_inb i)).toLoadRect T0 (Shape.Idx.first (numel1_S1.symm ▸ Nat.one_pos))
abbrev bePrev (i : grid0.Coords) (T0 : S544.Idx → Elt F .i32) : BitVec 32 :=
  View.readAt (Elt F) beM.view (Rect.unit (s := S544) (k0_off2 i) S1.size (k0_off2_inb i)).toLoadRect T0 (Shape.Idx.first (numel1_S1.symm ▸ Nat.one_pos))
abbrev nuAt (T1 : S1.Idx → Elt F .i32) : BitVec 32 :=
  View.readAt (Elt F) nuM.view (Rect.unit (s := S1) ![0] S1.size inb_S1_S1_0).toLoadRect T1 (Shape.Idx.first (numel1_S1.symm ▸ Nat.one_pos))
/-- Whether the body reads its expert's weights afresh: at the first block, and where the expert changes. -/
abbrev newCond (i : grid0.Coords) (T0 : S544.Idx → Elt F .i32) : BitVec 1 :=
  Scalar.cmpi .ne (Scalar.extui (Scalar.ori (Scalar.cmpi .eq (BitVec.ofNat 32 (i 0).val) 0#32) (Scalar.cmpi .ne (beAt i T0) (bePrev i T0)))) 0#32

/-- The eight interleaved sets of rows of a block: set `k` is the rows `k`, `k + 8`, `k + 16`, … -/
abbrev sr0 : LoadRect S4096x128 := ⟨![0, 0], S512x128.size, ![8, 1], inb_S4096x128_S512x128_0_0_s_8_1⟩
abbrev sr1 : LoadRect S4096x128 := ⟨![1, 0], S512x128.size, ![8, 1], inb_S4096x128_S512x128_1_0_s_8_1⟩
abbrev sr2 : LoadRect S4096x128 := ⟨![2, 0], S512x128.size, ![8, 1], inb_S4096x128_S512x128_2_0_s_8_1⟩
abbrev sr3 : LoadRect S4096x128 := ⟨![3, 0], S512x128.size, ![8, 1], inb_S4096x128_S512x128_3_0_s_8_1⟩
abbrev sr4 : LoadRect S4096x128 := ⟨![4, 0], S512x128.size, ![8, 1], inb_S4096x128_S512x128_4_0_s_8_1⟩
abbrev sr5 : LoadRect S4096x128 := ⟨![5, 0], S512x128.size, ![8, 1], inb_S4096x128_S512x128_5_0_s_8_1⟩
abbrev sr6 : LoadRect S4096x128 := ⟨![6, 0], S512x128.size, ![8, 1], inb_S4096x128_S512x128_6_0_s_8_1⟩
abbrev sr7 : LoadRect S4096x128 := ⟨![7, 0], S512x128.size, ![8, 1], inb_S4096x128_S512x128_7_0_s_8_1⟩

/-- A block's rows set side by side: eight rows of 128 make one token's row of 1024. -/
abbrev xTok (x : S4096x128.Idx → Elt F .f32) : FVec F S512x1024 .bf16 :=
  k0_pay8 (fun y => x (sr0.idx y)) (fun y => x (sr1.idx y)) (fun y => x (sr2.idx y)) (fun y => x (sr3.idx y)) (fun y => x (sr4.idx y)) (fun y => x (sr5.idx y)) (fun y => x (sr6.idx y)) (fun y => x (sr7.idx y))

/-- The expert's answer to a block, token by token: its rows, the three weights in the buffers, the three biases. -/
abbrev yTok (x : S4096x128.Idx → Elt F .f32) (b0 b1 b2 : S1024x1024.Idx → Elt F .bf16) (x2 x4 x6 : S1x1x1024.Idx → Elt F .f32) : FVec F S512x1024 .f32 :=
  k0_pay10 (xTok x) (k0_pay9 (fun y => x (sr0.idx y)) (fun y => x (sr1.idx y)) (fun y => x (sr2.idx y)) (fun y => x (sr3.idx y)) (fun y => x (sr4.idx y)) (fun y => x (sr5.idx y)) (fun y => x (sr6.idx y)) (fun y => x (sr7.idx y)) b0 x2) b1 (constant S512x1024 .f32 0x00000000#32) x4 b2 x6

/-- A token's row of 1024 cut back into eight rows of 128. -/
def outRows (Y : S512x1024.Idx → F .f32) : S4096x128.Idx → Elt F .f32 := fun y =>
  Y (ValueIdx.ix2 ⟨(y 0).val / 8, by have : (y 0).val < 4096 := (y 0).isLt; omega⟩ ⟨128 * ((y 0).val % 8) + (y 1).val, by have : (y 1).val < 128 := (y 1).isLt; omega⟩)

theorem piece_eq (k : ℕ) (hk : k < 8) (Y : S512x1024.Idx → F .f32) (h : S512x1024.Slices ![0, 128 * k] S512x128) (inb) (x : S512x128.Idx) :
    extractStridedSlice S512x128 ![0, 128 * k] Y h x = outRows Y ((⟨![k, 0], S512x128.size, ![8, 1], inb⟩ : LoadRect S4096x128).idx x) := by
  have h0 : (x 0).val < 512 := (x 0).isLt
  have h1 : (x 1).val < 128 := (x 1).isLt
  unfold extractStridedSlice outRows
  refine congrArg Y (funext fun a => Fin.ext ?_)
  match a with
  | ⟨0, _⟩ => show 0 + (x 0).val = (k + 8 * (x 0).val) / 8; omega
  | ⟨1, _⟩ => show 128 * k + (x 1).val = 128 * ((k + 8 * (x 0).val) % 8) + (0 + 1 * (x 1).val); omega

theorem mem_rows (k : ℕ) (inb) (pos) (y : S4096x128.Idx) (h : (y 0).val % 8 = k) :
    y ∈ (⟨⟨![k, 0], S512x128.size, ![8, 1], inb⟩, pos⟩ : Rect S4096x128).set := by
  have h0 : (y 0).val < 4096 := (y 0).isLt
  have h1 : (y 1).val < 128 := (y 1).isLt
  refine LoadRect.mem_set _ |>.mpr fun a => ?_
  match a with
  | ⟨0, _⟩ => exact ⟨(y 0).val / 8, show _ < 512 by omega, show (y 0).val = k + 8 * ((y 0).val / 8) by omega⟩
  | ⟨1, _⟩ => exact ⟨(y 1).val, show _ < 128 by omega, show (y 1).val = 0 + 1 * (y 1).val by omega⟩

/-- Eight interleaved stores of a token matrix's eight column bands leave its rows. -/
theorem out_read (v : View sig .tc .vmem S4096x128 .f32) (f : v.ty.Contents (Elt F)) (a : FVec F S512x1024 .bf16) (b : FVec F S512x1024 .f32) (e : Vec F S1024x1024 .bf16) (f0 : FVec F S512x1024 .f32) (g : Vec F S1x1x1024 .f32) (p : Vec F S1024x1024 .bf16) (q : Vec F S1x1x1024 .f32) :
    v.read (Elt F) (v.writes (Elt F) f
      [⟨⟨sr7, spos_8_1⟩, k0_pay6 (k0_pay10 a b e f0 g p q)⟩,
        ⟨⟨sr6, spos_8_1⟩, k0_pay5 (k0_pay10 a b e f0 g p q)⟩,
        ⟨⟨sr5, spos_8_1⟩, k0_pay4 (k0_pay10 a b e f0 g p q)⟩,
        ⟨⟨sr4, spos_8_1⟩, k0_pay15 a b e f0 g p q⟩,
        ⟨⟨sr3, spos_8_1⟩, k0_pay14 a b e f0 g p q⟩,
        ⟨⟨sr2, spos_8_1⟩, k0_pay13 a b e f0 g p q⟩,
        ⟨⟨sr1, spos_8_1⟩, k0_pay12 a b e f0 g p q⟩,
        ⟨⟨sr0, spos_8_1⟩, k0_pay11 a b e f0 g p q⟩]) = outRows (k0_pay10 a b e f0 g p q) := by
  funext y
  refine View.read_writes_apply_of_pieces v f (outRows _) _ ?_ y ?_
  · intro p hp x
    simp only [List.mem_cons, List.not_mem_nil, or_false] at hp
    rcases hp with rfl | rfl | rfl | rfl | rfl | rfl | rfl | rfl
    · exact piece_eq (F := F) 7 (by decide) (k0_pay10 a b e f0 g p q) slices_S512x1024_o0_896_S512x128 inb_S4096x128_S512x128_7_0_s_8_1 x
    · exact piece_eq (F := F) 6 (by decide) (k0_pay10 a b e f0 g p q) slices_S512x1024_o0_768_S512x128 inb_S4096x128_S512x128_6_0_s_8_1 x
    · exact piece_eq (F := F) 5 (by decide) (k0_pay10 a b e f0 g p q) slices_S512x1024_o0_640_S512x128 inb_S4096x128_S512x128_5_0_s_8_1 x
    · exact piece_eq (F := F) 4 (by decide) (k0_pay10 a b e f0 g p q) slices_S512x1024_o0_512_S512x128 inb_S4096x128_S512x128_4_0_s_8_1 x
    · exact piece_eq (F := F) 3 (by decide) (k0_pay10 a b e f0 g p q) slices_S512x1024_o0_384_S512x128 inb_S4096x128_S512x128_3_0_s_8_1 x
    · exact piece_eq (F := F) 2 (by decide) (k0_pay10 a b e f0 g p q) slices_S512x1024_o0_256_S512x128 inb_S4096x128_S512x128_2_0_s_8_1 x
    · exact piece_eq (F := F) 1 (by decide) (k0_pay10 a b e f0 g p q) slices_S512x1024_o0_128_S512x128 inb_S4096x128_S512x128_1_0_s_8_1 x
    · exact piece_eq (F := F) 0 (by decide) (k0_pay10 a b e f0 g p q) slices_S512x1024_o0_0_S512x128 inb_S4096x128_S512x128_0_0_s_8_1 x
  · have h8 : (y 0).val % 8 < 8 := Nat.mod_lt _ (by decide)
    generalize hr : (y 0).val % 8 = r at h8
    interval_cases r
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_rows 0 _ _ y hr⟩
    · exact ⟨_, List.mem_cons_of_mem _ (List.mem_cons_of_mem _ (List.mem_cons_of_mem _ (List.mem_cons_of_mem _ (List.mem_cons_of_mem _ (List.mem_cons_of_mem _ (List.mem_cons_self)))))), mem_rows 1 _ _ y hr⟩
    · exact ⟨_, List.mem_cons_of_mem _ (List.mem_cons_of_mem _ (List.mem_cons_of_mem _ (List.mem_cons_of_mem _ (List.mem_cons_of_mem _ (List.mem_cons_self))))), mem_rows 2 _ _ y hr⟩
    · exact ⟨_, List.mem_cons_of_mem _ (List.mem_cons_of_mem _ (List.mem_cons_of_mem _ (List.mem_cons_of_mem _ (List.mem_cons_self)))), mem_rows 3 _ _ y hr⟩
    · exact ⟨_, List.mem_cons_of_mem _ (List.mem_cons_of_mem _ (List.mem_cons_of_mem _ (List.mem_cons_self))), mem_rows 4 _ _ y hr⟩
    · exact ⟨_, List.mem_cons_of_mem _ (List.mem_cons_of_mem _ (List.mem_cons_self)), mem_rows 5 _ _ y hr⟩
    · exact ⟨_, List.mem_cons_of_mem _ (List.mem_cons_self), mem_rows 6 _ _ y hr⟩
    · exact ⟨_, List.mem_cons_self, mem_rows 7 _ _ y hr⟩

/-- One store over a whole buffer leaves what it stored. -/
theorem whole_read {s : Shape} {e : EltTy} {sp : Space} (v : View sig .tc sp s e) (f : v.ty.Contents (Elt F)) {off : Fin s.rank → ℕ} (inb : ∀ a, off a + s.size a ≤ s.size a) (w : s.Idx → Elt F e) :
    v.read (Elt F) (v.writes (Elt F) f [⟨Rect.unit off s.size inb, w⟩]) = w :=
  View.read_writes_full v f inb w []

/-- What a run of the body is to show: from its seven input blocks, its two tables and its buffers at `a0 a1 a2`, it reaches the
    end with the output block at `o` and the buffers at `b0 b1 b2`, everything else as it was. -/
def Runs (c : Dev nD) (i : grid0.Coords) (arg3 : Memref sig .tc .vmem S4096x128 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole)
    (T0 : S544.Idx → Elt F .i32) (T1 : S1.Idx → Elt F .i32)
    (x0 : S4096x128.Idx → Elt F .f32) (x1 : S1x1024x1024.Idx → Elt F .f32) (x2 : S1x1x1024.Idx → Elt F .f32) (x3 : S1x1024x1024.Idx → Elt F .f32) (x4 : S1x1x1024.Idx → Elt F .f32) (x5 : S1x1024x1024.Idx → Elt F .f32) (x6 : S1x1x1024.Idx → Elt F .f32)
    (a0 a1 a2 b0 b1 b2 : S1024x1024.Idx → Elt F .bf16) (o : S4096x128.Idx → Elt F .f32) : Prop :=
  ∀ K : PUnit → sProp 𝕄,
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (arg9.view.loc (c : Thread nD τ) ↦[arg9.view.set]{fullShare} arg9.view.rep x6)
          ∗ (beM.view.loc (c : Thread nD τ) ↦{fullShare.right} T0)
          ∗ (nuM.view.loc (c : Thread nD τ) ↦{fullShare.right} T1)
          ∗ (∃ d, owns (c : Thread nD τ) arg10 fullShare d)
          ∗ (w0M.view.loc (c : Thread nD τ) ↦[w0M.view.set]{fullShare} w0M.view.rep a0)
          ∗ (w1M.view.loc (c : Thread nD τ) ↦[w1M.view.set]{fullShare} w1M.view.rep a1)
          ∗ (w2M.view.loc (c : Thread nD τ) ↦[w2M.view.set]{fullShare} w2M.view.rep a2)
          ∗ (((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (arg8.view.loc (c : Thread nD τ) ↦[arg8.view.set]{fullShare} arg8.view.rep x5)
          ∗ (arg9.view.loc (c : Thread nD τ) ↦[arg9.view.set]{fullShare} arg9.view.rep x6)
          ∗ (beM.view.loc (c : Thread nD τ) ↦{fullShare.right} T0)
          ∗ (nuM.view.loc (c : Thread nD τ) ↦{fullShare.right} T1)
          ∗ owns (c : Thread nD τ) arg10 fullShare o
          ∗ owns (c : Thread nD τ) w0M fullShare b0 ∗ owns (c : Thread nD τ) w1M fullShare b1 ∗ owns (c : Thread nD τ) w2M fullShare b2) -∗ K ⟨⟩))
      ⊢ wp frame (wpE (defs₀ (F := F)) Variants.none c none) Set.univ (cc0_moe i beM (Memref.isWhole_whole _) nuM (Memref.isWhole_whole _) arg3 harg3 arg4 harg4 arg5 harg5 arg6 harg6 arg7 harg7 arg8 harg8 arg9 harg9 arg10 harg10 w0M (Memref.isWhole_whole _) w1M (Memref.isWhole_whole _) w2M (Memref.isWhole_whole _)) K

section
variable (c : Dev nD) (i : grid0.Coords) (arg3 : Memref sig .tc .vmem S4096x128 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole)
    (T0 : S544.Idx → Elt F .i32) (T1 : S1.Idx → Elt F .i32)
    (x0 : S4096x128.Idx → Elt F .f32) (x1 : S1x1024x1024.Idx → Elt F .f32) (x2 : S1x1x1024.Idx → Elt F .f32) (x3 : S1x1024x1024.Idx → Elt F .f32) (x4 : S1x1x1024.Idx → Elt F .f32) (x5 : S1x1024x1024.Idx → Elt F .f32) (x6 : S1x1x1024.Idx → Elt F .f32)
    (a0 a1 a2 : S1024x1024.Idx → Elt F .bf16)

set_option maxHeartbeats 1000000 in
/-- A used block whose expert is new: the buffers are read afresh and the answer is written. -/
theorem run_new_used (hn : newCond i T0 = 1#1) (h2 : k0_cond2 i (nuAt T1) = 1#1) (h3 : ¬ k0_cond3 i (nuAt T1) = 1#1) :
    Runs c i arg3 harg3 arg4 harg4 arg5 harg5 arg6 harg6 arg7 harg7 arg8 harg8 arg9 harg9 arg10 harg10 T0 T1 x0 x1 x2 x3 x4 x5 x6 a0 a1 a2 (k0_pay1 x1) (k0_pay2 x3) (k0_pay3 x5) (outRows (yTok x0 (k0_pay1 x1) (k0_pay2 x3) (k0_pay3 x5) x2 x4 x6)) := by
  intro K
  unfold owns
  rw [cc0_moe_eq_skeleton]; unfold cc0_moe_skel
  iintro ⟨H0, H1, H2, H3, H4, H5, H6, HT0, HT1, ⟨%d7, %f7, -, HO7⟩, HS0, HS1, HS2, Hk⟩
  have hS0 : w0M.IsWhole := Memref.isWhole_whole _
  have hS1 : w1M.IsWhole := Memref.isWhole_whole _
  have hS2 : w2M.IsWhole := Memref.isWhole_whole _
  have hT0 : beM.IsWhole := Memref.isWhole_whole _
  have hT1 : nuM.IsWhole := Memref.isWhole_whole _
  sl_exec! (disch := first | (guard_target = Scalar.cmpi _ _ _ = _; exact hn) | (guard_target = k0_cond2 _ _ = _; exact h2) | (guard_target = ¬(k0_cond3 _ _ = _); exact h3))
  sl_step
  unfold run_new_used.sl.r_6 run_new_used.sl.r_5 run_new_used.sl.r_4 run_new_used.sl.r_3 run_new_used.sl.v51 run_new_used.sl.cst_21 run_new_used.sl.v69 run_new_used.sl.v43 run_new_used.sl.HS0_1 run_new_used.sl.HS1_1 run_new_used.sl.HS2_1
  rw [View.readAt_rep_full arg4.view x1, View.readAt_rep_full arg6.view x3, View.readAt_rep_full arg8.view x5]
  rw [View.readCov_full w0M.view, View.readCov_full w1M.view, View.readCov_full w2M.view]
  rw [View.readAt_rep_full arg5.view x2, View.readAt_rep_full arg7.view x4, View.readAt_rep_full arg9.view x6]
  rw [View.readAt_rep arg3.view sr0 x0, View.readAt_rep arg3.view sr1 x0, View.readAt_rep arg3.view sr2 x0, View.readAt_rep arg3.view sr3 x0, View.readAt_rep arg3.view sr4 x0, View.readAt_rep arg3.view sr5 x0, View.readAt_rep arg3.view sr6 x0, View.readAt_rep arg3.view sr7 x0]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HO7]
  · iexists _; isplitr; swap; · iexact HO7
    ipureintro; exact out_read _ _ _ _ _ _ _ _ _
  isplitl [HS0]
  · iexists _; isplitr; swap; · iexact HS0
    ipureintro; exact whole_read (F := F) _ _ inb_S1024x1024_S1024x1024_0_0 _
  isplitl [HS1]
  · iexists _; isplitr; swap; · iexact HS1
    ipureintro; exact whole_read (F := F) _ _ inb_S1024x1024_S1024x1024_0_0 _
  · iexists _; isplitr; swap; · iexact HS2
    ipureintro; exact whole_read (F := F) _ _ inb_S1024x1024_S1024x1024_0_0 _

set_option maxHeartbeats 1000000 in
/-- An unused block whose expert is new: the buffers are read afresh and zeros are written. -/
theorem run_new_rest (hn : newCond i T0 = 1#1) (h2 : ¬ k0_cond2 i (nuAt T1) = 1#1) (h3 : k0_cond3 i (nuAt T1) = 1#1) :
    Runs c i arg3 harg3 arg4 harg4 arg5 harg5 arg6 harg6 arg7 harg7 arg8 harg8 arg9 harg9 arg10 harg10 T0 T1 x0 x1 x2 x3 x4 x5 x6 a0 a1 a2 (k0_pay1 x1) (k0_pay2 x3) (k0_pay3 x5) k0_pay7 := by
  intro K
  unfold owns
  rw [cc0_moe_eq_skeleton]; unfold cc0_moe_skel
  iintro ⟨H0, H1, H2, H3, H4, H5, H6, HT0, HT1, ⟨%d7, %f7, -, HO7⟩, HS0, HS1, HS2, Hk⟩
  have hS0 : w0M.IsWhole := Memref.isWhole_whole _
  have hS1 : w1M.IsWhole := Memref.isWhole_whole _
  have hS2 : w2M.IsWhole := Memref.isWhole_whole _
  have hT0 : beM.IsWhole := Memref.isWhole_whole _
  have hT1 : nuM.IsWhole := Memref.isWhole_whole _
  sl_exec! (disch := first | (guard_target = Scalar.cmpi _ _ _ = _; exact hn) | (guard_target = ¬(k0_cond2 _ _ = _); exact h2) | (guard_target = k0_cond3 _ _ = _; exact h3))
  sl_step
  unfold run_new_rest.sl.HS0_1 run_new_rest.sl.HS1_1 run_new_rest.sl.HS2_1
  rw [View.readAt_rep_full arg4.view x1, View.readAt_rep_full arg6.view x3, View.readAt_rep_full arg8.view x5]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HO7]
  · iexists _; isplitr; swap; · iexact HO7
    ipureintro; exact whole_read (F := F) _ _ inb_S4096x128_S4096x128_0_0 _
  isplitl [HS0]
  · iexists _; isplitr; swap; · iexact HS0
    ipureintro; exact whole_read (F := F) _ _ inb_S1024x1024_S1024x1024_0_0 _
  isplitl [HS1]
  · iexists _; isplitr; swap; · iexact HS1
    ipureintro; exact whole_read (F := F) _ _ inb_S1024x1024_S1024x1024_0_0 _
  · iexists _; isplitr; swap; · iexact HS2
    ipureintro; exact whole_read (F := F) _ _ inb_S1024x1024_S1024x1024_0_0 _

set_option maxHeartbeats 1000000 in
/-- A used block of the same expert as the one before: the buffers serve as they are. -/
theorem run_old_used (hn : ¬ newCond i T0 = 1#1) (h2 : k0_cond2 i (nuAt T1) = 1#1) (h3 : ¬ k0_cond3 i (nuAt T1) = 1#1) :
    Runs c i arg3 harg3 arg4 harg4 arg5 harg5 arg6 harg6 arg7 harg7 arg8 harg8 arg9 harg9 arg10 harg10 T0 T1 x0 x1 x2 x3 x4 x5 x6 a0 a1 a2 a0 a1 a2 (outRows (yTok x0 a0 a1 a2 x2 x4 x6)) := by
  intro K
  unfold owns
  rw [cc0_moe_eq_skeleton]; unfold cc0_moe_skel
  iintro ⟨H0, H1, H2, H3, H4, H5, H6, HT0, HT1, ⟨%d7, %f7, -, HO7⟩, HS0, HS1, HS2, Hk⟩
  have hS0 : w0M.IsWhole := Memref.isWhole_whole _
  have hS1 : w1M.IsWhole := Memref.isWhole_whole _
  have hS2 : w2M.IsWhole := Memref.isWhole_whole _
  have hT0 : beM.IsWhole := Memref.isWhole_whole _
  have hT1 : nuM.IsWhole := Memref.isWhole_whole _
  sl_exec! (disch := first | (guard_target = ¬(Scalar.cmpi _ _ _ = _); exact hn) | (guard_target = k0_cond2 _ _ = _; exact h2) | (guard_target = ¬(k0_cond3 _ _ = _); exact h3))
  sl_step
  unfold run_old_used.sl.r_7 run_old_used.sl.r_6 run_old_used.sl.r_5 run_old_used.sl.r_4 run_old_used.sl.r_3 run_old_used.sl.cst_21
  rw [View.readAt_rep_full w0M.view a0, View.readAt_rep_full w1M.view a1, View.readAt_rep_full w2M.view a2]
  rw [View.readAt_rep_full arg5.view x2, View.readAt_rep_full arg7.view x4, View.readAt_rep_full arg9.view x6]
  rw [View.readAt_rep arg3.view sr0 x0, View.readAt_rep arg3.view sr1 x0, View.readAt_rep arg3.view sr2 x0, View.readAt_rep arg3.view sr3 x0, View.readAt_rep arg3.view sr4 x0, View.readAt_rep arg3.view sr5 x0, View.readAt_rep arg3.view sr6 x0, View.readAt_rep arg3.view sr7 x0]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HO7]
  · iexists _; isplitr; swap; · iexact HO7
    ipureintro; exact out_read _ _ _ _ _ _ _ _ _
  isplitl [HS0]
  · iexists _; isplitr; swap; · iexact HS0
    ipureintro; exact View.read_rep _ _
  isplitl [HS1]
  · iexists _; isplitr; swap; · iexact HS1
    ipureintro; exact View.read_rep _ _
  · iexists _; isplitr; swap; · iexact HS2
    ipureintro; exact View.read_rep _ _

set_option maxHeartbeats 1000000 in
/-- An unused block of the same expert as the one before: zeros are written. -/
theorem run_old_rest (hn : ¬ newCond i T0 = 1#1) (h2 : ¬ k0_cond2 i (nuAt T1) = 1#1) (h3 : k0_cond3 i (nuAt T1) = 1#1) :
    Runs c i arg3 harg3 arg4 harg4 arg5 harg5 arg6 harg6 arg7 harg7 arg8 harg8 arg9 harg9 arg10 harg10 T0 T1 x0 x1 x2 x3 x4 x5 x6 a0 a1 a2 a0 a1 a2 k0_pay7 := by
  intro K
  unfold owns
  rw [cc0_moe_eq_skeleton]; unfold cc0_moe_skel
  iintro ⟨H0, H1, H2, H3, H4, H5, H6, HT0, HT1, ⟨%d7, %f7, -, HO7⟩, HS0, HS1, HS2, Hk⟩
  have hS0 : w0M.IsWhole := Memref.isWhole_whole _
  have hS1 : w1M.IsWhole := Memref.isWhole_whole _
  have hS2 : w2M.IsWhole := Memref.isWhole_whole _
  have hT0 : beM.IsWhole := Memref.isWhole_whole _
  have hT1 : nuM.IsWhole := Memref.isWhole_whole _
  sl_exec! (disch := first | (guard_target = ¬(Scalar.cmpi _ _ _ = _); exact hn) | (guard_target = ¬(k0_cond2 _ _ = _); exact h2) | (guard_target = k0_cond3 _ _ = _; exact h3))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HO7]
  · iexists _; isplitr; swap; · iexact HO7
    ipureintro; exact whole_read (F := F) _ _ inb_S4096x128_S4096x128_0_0 _
  isplitl [HS0]
  · iexists _; isplitr; swap; · iexact HS0
    ipureintro; exact View.read_rep _ _
  isplitl [HS1]
  · iexists _; isplitr; swap; · iexact HS1
    ipureintro; exact View.read_rep _ _
  · iexists _; isplitr; swap; · iexact HS2
    ipureintro; exact View.read_rep _ _

end

end Cert.Moe

end
-- ==== Proof.MoeTables.lean ====
/-
  The expert kernel's two tables: which words its control reads, what its decisions mean, which blocks its windows take, and
  that the blocks lie inside their arrays when the tables are as routing makes them.
-/
module

public import proofs.«01_k».proof.Proof.MoeBody

@[expose] public section

set_option maxRecDepth 16384

noncomputable section

namespace Cert.Moe

open Cert.MoeKernelIdeal Cert.MoeKernelIdeal.Gen
open Idealize.ShloMosaic Idealize.ShloMosaic.TcCoe Idealize.ShloMosaic.ValueIdx

variable {F : FTy → Type} [FloatOps F]

/-- The tables as routing makes them: every block's expert is one of 32, and between 1 and 544 blocks are used. -/
structure Routed (T0 : S544.Idx → BitVec 32) (T1 : S1.Idx → BitVec 32) : Prop where
  be_lt : ∀ i, (T0 i).toNat < 32
  one_le : 1 ≤ (T1 (ix1 0)).toNat
  le : (T1 (ix1 0)).toNat ≤ 544

/-- The two tables, as the pipeline takes them. -/
def tabs (T0 : S544.Idx → BitVec 32) (T1 : S1.Idx → BitVec 32) : pre0.Contents (Elt F) :=
  fun | ⟨0, _⟩ => T0 | ⟨1, _⟩ => T1 | ⟨_ + 2, h⟩ => absurd h (by simp)

theorem coord_lt (i : grid0.Coords) : (i 0).val < 544 := (i 0).isLt

/-- Where a point's own word and the word before it stand in the expert table. -/
def expertIx (i : grid0.Coords) : S544.Idx := ix1 ⟨(i 0).val, coord_lt i⟩
def prevIx (i : grid0.Coords) : S544.Idx := ix1 ⟨(i 0).val - 1, by have := coord_lt i; omega⟩

theorem own_word : ∀ n : Fin 544, (Scalar.indexCast (BitVec.ofNat 32 n.val)).toNat = n.val := by decide +kernel
theorem prev_word : ∀ n : Fin 544, (Scalar.indexCast (Scalar.maxsi (Scalar.subi (BitVec.ofNat 32 n.val) 1#32) 0#32)).toNat = n.val - 1 := by decide +kernel

theorem off1_eq (i : grid0.Coords) : k0_off1 i 0 = (i 0).val := own_word ⟨(i 0).val, coord_lt i⟩
theorem off2_eq (i : grid0.Coords) : k0_off2 i 0 = (i 0).val - 1 := prev_word ⟨(i 0).val, coord_lt i⟩

theorem beAt_eq (i : grid0.Coords) (T0 : S544.Idx → BitVec 32) : beAt (F := F) i T0 = T0 (expertIx i) := by
  refine congrArg T0 (funext fun a => Fin.ext ?_)
  match a with
  | ⟨0, _⟩ => show k0_off1 i 0 + 1 * 0 = (i 0).val; rw [off1_eq]; omega

theorem bePrev_eq (i : grid0.Coords) (T0 : S544.Idx → BitVec 32) : bePrev (F := F) i T0 = T0 (prevIx i) := by
  refine congrArg T0 (funext fun a => Fin.ext ?_)
  match a with
  | ⟨0, _⟩ => show k0_off2 i 0 + 1 * 0 = (i 0).val - 1; rw [off2_eq]; omega

theorem nuAt_eq (T1 : S1.Idx → BitVec 32) : nuAt (F := F) T1 = T1 (ix1 0) := by
  refine congrArg T1 (funext fun a => Fin.ext ?_)
  match a with
  | ⟨0, _⟩ => rfl

theorem slt_small (a b : BitVec 32) (ha : a.toNat < 2 ^ 31) (hb : b.toNat < 2 ^ 31) : a.slt b = decide (a.toNat < b.toNat) := by
  rw [BitVec.slt_eq_decide, BitVec.toInt_eq_toNat_of_lt (by omega), BitVec.toInt_eq_toNat_of_lt (by omega)]
  simp

theorem lifted : ∀ b : Bool, (Scalar.cmpi .ne (Scalar.extui (BitVec.ofBool b)) 0#32 = 1#1 ↔ b = true)
    ∧ (Scalar.cmpi .ne (Scalar.extui (Scalar.xori (BitVec.ofBool b) 1#1)) 0#32 = 1#1 ↔ ¬ b = true) := by decide

theorem coord_toNat (i : grid0.Coords) : (BitVec.ofNat 32 (i 0).val).toNat = (i 0).val := own_word ⟨(i 0).val, coord_lt i⟩

/-- A block is used when it stands before the number of used blocks; -/
theorem used_iff (i : grid0.Coords) (v : BitVec 32) (h : v.toNat ≤ 544) : k0_cond2 i v = 1#1 ↔ (i 0).val < v.toNat := by
  have h1 := coord_lt i
  refine (lifted ((BitVec.ofNat 32 (i 0).val).slt v)).1.trans ?_
  rw [slt_small _ _ (by rw [coord_toNat]; omega) (by omega), coord_toNat, decide_eq_true_iff]

/-- and the other branch is its opposite. -/
theorem rest_iff (i : grid0.Coords) (v : BitVec 32) : k0_cond3 i v = 1#1 ↔ ¬ k0_cond2 i v = 1#1 :=
  (lifted ((BitVec.ofNat 32 (i 0).val).slt v)).2.trans (not_congr (lifted ((BitVec.ofNat 32 (i 0).val).slt v)).1.symm)

theorem either : ∀ a b : Bool, Scalar.cmpi .ne (Scalar.extui (Scalar.ori (BitVec.ofBool a) (BitVec.ofBool b))) 0#32 = 1#1 ↔ (a = true ∨ b = true) := by decide

/-- Where the weights are not read afresh, the point is not the first and its expert is the one before's. -/
theorem old_facts (i : grid0.Coords) (T0 : S544.Idx → BitVec 32) (h : ¬ newCond (F := F) i T0 = 1#1) :
    (i 0).val ≠ 0 ∧ T0 (expertIx i) = T0 (prevIx i) := by
  have e := fun g => h ((either (BitVec.ofNat 32 (i 0).val == 0#32) (beAt (F := F) i T0 != bePrev (F := F) i T0)).mpr g)
  refine ⟨fun h0 => e (.inl (by rw [h0]; rfl)), ?_⟩
  rw [← beAt_eq (F := F) i T0, ← bePrev_eq (F := F) i T0]
  by_contra hne
  exact e (.inr (bne_iff_ne.mpr hne))

/-- The rows' window stops at the last used block; -/
theorem tr0 (T0 : S544.Idx → BitVec 32) (T1 : S1.Idx → BitVec 32) (h : Routed T0 T1) (i : grid0.Coords) :
    cc0_transform_0 inb_S1_S1_0 numel1_S1 (tabs (F := F) T0 T1) i = ![min (i 0).val ((T1 (ix1 0)).toNat - 1), 0] := by
  show ![(Scalar.minsi (BitVec.ofNat 32 (i 0).val) (Scalar.subi (nuAt (F := F) T1) 1#32)).toNat, 0] = _
  rw [nuAt_eq]
  have h1 := h.one_le
  have h2 := h.le
  have h3 := coord_lt i
  have e : (Scalar.subi (T1 (ix1 0)) 1#32).toNat = (T1 (ix1 0)).toNat - 1 := by
    show (T1 (ix1 0) - 1#32).toNat = _
    rw [BitVec.toNat_sub_of_le (by rw [BitVec.le_def]; exact h1)]; rfl
  have hs := slt_small (BitVec.ofNat 32 (i 0).val) (Scalar.subi (T1 (ix1 0)) 1#32) (by rw [coord_toNat]; omega) (by rw [e]; omega)
  rw [coord_toNat, e] at hs
  show ![(if BitVec.slt _ _ then _ else _ : BitVec 32).toNat, 0] = _
  rw [hs]
  by_cases hlt : (i 0).val < (T1 (ix1 0)).toNat - 1
  · rw [if_pos (decide_eq_true hlt), coord_toNat, Nat.min_eq_left (by omega)]
  · rw [if_neg (by simpa using hlt), e, Nat.min_eq_right (by omega)]

/-- the weights' and biases' windows take the expert's. -/
theorem tr1 (T0 : S544.Idx → BitVec 32) (T1 : S1.Idx → BitVec 32) (i : grid0.Coords) :
    cc0_transform_1 k0_off1_inb numel1_S1 (tabs (F := F) T0 T1) i = ![(T0 (expertIx i)).toNat, 0, 0] := by
  show ![(beAt (F := F) i T0).toNat, 0, 0] = _
  rw [beAt_eq]

theorem tr2 (T0 : S544.Idx → BitVec 32) (T1 : S1.Idx → BitVec 32) (i : grid0.Coords) :
    cc0_transform_2 k0_off1_inb numel1_S1 (tabs (F := F) T0 T1) i = ![(T0 (expertIx i)).toNat, 0, 0] := by
  show ![(beAt (F := F) i T0).toNat, 0, 0] = _
  rw [beAt_eq]

theorem tr3 (T0 : S544.Idx → BitVec 32) (T1 : S1.Idx → BitVec 32) (i : grid0.Coords) :
    cc0_transform_3 k0_off1_inb numel1_S1 (tabs (F := F) T0 T1) i = ![(T0 (expertIx i)).toNat, 0, 0] := by
  show ![(beAt (F := F) i T0).toNat, 0, 0] = _
  rw [beAt_eq]

theorem tr4 (T0 : S544.Idx → BitVec 32) (T1 : S1.Idx → BitVec 32) (i : grid0.Coords) :
    cc0_transform_4 k0_off1_inb numel1_S1 (tabs (F := F) T0 T1) i = ![(T0 (expertIx i)).toNat, 0, 0] := by
  show ![(beAt (F := F) i T0).toNat, 0, 0] = _
  rw [beAt_eq]

theorem tr5 (T0 : S544.Idx → BitVec 32) (T1 : S1.Idx → BitVec 32) (i : grid0.Coords) :
    cc0_transform_5 k0_off1_inb numel1_S1 (tabs (F := F) T0 T1) i = ![(T0 (expertIx i)).toNat, 0, 0] := by
  show ![(beAt (F := F) i T0).toNat, 0, 0] = _
  rw [beAt_eq]

theorem tr6 (T0 : S544.Idx → BitVec 32) (T1 : S1.Idx → BitVec 32) (i : grid0.Coords) :
    cc0_transform_6 k0_off1_inb numel1_S1 (tabs (F := F) T0 T1) i = ![(T0 (expertIx i)).toNat, 0, 0] := by
  show ![(beAt (F := F) i T0).toNat, 0, 0] = _
  rw [beAt_eq]

/-- Every block lies inside its array. -/
theorem tabs_ok (T0 : S544.Idx → BitVec 32) (T1 : S1.Idx → BitVec 32) (h : Routed T0 T1) : ok0 (tabs (F := F) T0 T1) :=
  ⟨fun i => ⟨fun a => by rw [tr0 T0 T1 h]; have := h.le; have := h.one_le; match a with | ⟨0, _⟩ => exact (show (min _ _ + 1) * 4096 ≤ 2228224 by omega) | ⟨1, _⟩ => exact (show (0 + 1) * 128 ≤ 128 by omega), .inl rfl⟩,
    fun i => ⟨fun a => by rw [tr1]; have := h.be_lt (expertIx i); match a with | ⟨0, _⟩ => exact (show ((T0 (expertIx i)).toNat + 1) * 1 ≤ 32 by omega) | ⟨1, _⟩ => exact (show (0 + 1) * 1024 ≤ 1024 by omega) | ⟨2, _⟩ => exact (show (0 + 1) * 1024 ≤ 1024 by omega), .inl rfl⟩,
    fun i => ⟨fun a => by rw [tr2]; have := h.be_lt (expertIx i); match a with | ⟨0, _⟩ => exact (show ((T0 (expertIx i)).toNat + 1) * 1 ≤ 32 by omega) | ⟨1, _⟩ => exact (show (0 + 1) * 1 ≤ 1 by omega) | ⟨2, _⟩ => exact (show (0 + 1) * 1024 ≤ 1024 by omega), .inl rfl⟩,
    fun i => ⟨fun a => by rw [tr3]; have := h.be_lt (expertIx i); match a with | ⟨0, _⟩ => exact (show ((T0 (expertIx i)).toNat + 1) * 1 ≤ 32 by omega) | ⟨1, _⟩ => exact (show (0 + 1) * 1024 ≤ 1024 by omega) | ⟨2, _⟩ => exact (show (0 + 1) * 1024 ≤ 1024 by omega), .inl rfl⟩,
    fun i => ⟨fun a => by rw [tr4]; have := h.be_lt (expertIx i); match a with | ⟨0, _⟩ => exact (show ((T0 (expertIx i)).toNat + 1) * 1 ≤ 32 by omega) | ⟨1, _⟩ => exact (show (0 + 1) * 1 ≤ 1 by omega) | ⟨2, _⟩ => exact (show (0 + 1) * 1024 ≤ 1024 by omega), .inl rfl⟩,
    fun i => ⟨fun a => by rw [tr5]; have := h.be_lt (expertIx i); match a with | ⟨0, _⟩ => exact (show ((T0 (expertIx i)).toNat + 1) * 1 ≤ 32 by omega) | ⟨1, _⟩ => exact (show (0 + 1) * 1024 ≤ 1024 by omega) | ⟨2, _⟩ => exact (show (0 + 1) * 1024 ≤ 1024 by omega), .inl rfl⟩,
    fun i => ⟨fun a => by rw [tr6]; have := h.be_lt (expertIx i); match a with | ⟨0, _⟩ => exact (show ((T0 (expertIx i)).toNat + 1) * 1 ≤ 32 by omega) | ⟨1, _⟩ => exact (show (0 + 1) * 1 ≤ 1 by omega) | ⟨2, _⟩ => exact (show (0 + 1) * 1024 ≤ 1024 by omega), .inl rfl⟩⟩

end Cert.Moe

end
-- ==== Proof.MoeRun.lean ====
/-
  The expert kernel's run: its body at every point, the blocks the windows bring, what every point leaves, and the launch.
-/
module

public import proofs.«01_k».proof.Proof.MoeTables
public import Idealize.ShloMosaic.Lib.Pipeline.Kit
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.Moe

open Cert.MoeKernelIdeal Cert.MoeKernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What a point writes: the expert's answer for a used block, zeros for another. -/
def answer (i : grid0.Coords) (T1 : S1.Idx → Elt F .i32) (x0 : S4096x128.Idx → Elt F .f32) (x1 : S1x1024x1024.Idx → Elt F .f32) (x2 : S1x1x1024.Idx → Elt F .f32) (x3 : S1x1024x1024.Idx → Elt F .f32) (x4 : S1x1x1024.Idx → Elt F .f32) (x5 : S1x1024x1024.Idx → Elt F .f32) (x6 : S1x1x1024.Idx → Elt F .f32) : S4096x128.Idx → Elt F .f32 :=
  if k0_cond2 i (nuAt T1) = 1#1 then outRows (yTok x0 (k0_pay1 x1) (k0_pay2 x3) (k0_pay3 x5) x2 x4 x6) else k0_pay7

/-- The body at any point, when the weight buffers that are kept hold the point's own weights. -/
theorem run_at (c : Dev nD) (i : grid0.Coords) (arg3 : Memref sig .tc .vmem S4096x128 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S4096x128 .f32) (harg10 : arg10.IsWhole)
    (T0 : S544.Idx → Elt F .i32) (T1 : S1.Idx → Elt F .i32) (x0 : S4096x128.Idx → Elt F .f32) (x1 : S1x1024x1024.Idx → Elt F .f32) (x2 : S1x1x1024.Idx → Elt F .f32) (x3 : S1x1024x1024.Idx → Elt F .f32) (x4 : S1x1x1024.Idx → Elt F .f32) (x5 : S1x1024x1024.Idx → Elt F .f32) (x6 : S1x1x1024.Idx → Elt F .f32) (a0 a1 a2 : S1024x1024.Idx → Elt F .bf16)
    (hw : ¬ newCond i T0 = 1#1 → a0 = k0_pay1 x1 ∧ a1 = k0_pay2 x3 ∧ a2 = k0_pay3 x5) :
    Runs c i arg3 harg3 arg4 harg4 arg5 harg5 arg6 harg6 arg7 harg7 arg8 harg8 arg9 harg9 arg10 harg10 T0 T1 x0 x1 x2 x3 x4 x5 x6 a0 a1 a2 (k0_pay1 x1) (k0_pay2 x3) (k0_pay3 x5) (answer i T1 x0 x1 x2 x3 x4 x5 x6) := by
  unfold answer
  by_cases h2 : k0_cond2 i (nuAt T1) = 1#1
  · have h3 : ¬ k0_cond3 i (nuAt T1) = 1#1 := fun h => (rest_iff i _).mp h h2
    rw [if_pos h2]
    by_cases hn : newCond i T0 = 1#1
    · exact run_new_used c i arg3 harg3 arg4 harg4 arg5 harg5 arg6 harg6 arg7 harg7 arg8 harg8 arg9 harg9 arg10 harg10 T0 T1 x0 x1 x2 x3 x4 x5 x6 a0 a1 a2 hn h2 h3
    · obtain ⟨e0, e1, e2⟩ := hw hn
      rw [e0, e1, e2]
      exact run_old_used c i arg3 harg3 arg4 harg4 arg5 harg5 arg6 harg6 arg7 harg7 arg8 harg8 arg9 harg9 arg10 harg10 T0 T1 x0 x1 x2 x3 x4 x5 x6 _ _ _ hn h2 h3
  · have h3 : k0_cond3 i (nuAt T1) = 1#1 := (rest_iff i _).mpr h2
    rw [if_neg h2]
    by_cases hn : newCond i T0 = 1#1
    · exact run_new_rest c i arg3 harg3 arg4 harg4 arg5 harg5 arg6 harg6 arg7 harg7 arg8 harg8 arg9 harg9 arg10 harg10 T0 T1 x0 x1 x2 x3 x4 x5 x6 a0 a1 a2 hn h2 h3
    · obtain ⟨e0, e1, e2⟩ := hw hn
      rw [e0, e1, e2]
      exact run_old_rest c i arg3 harg3 arg4 harg4 arg5 harg5 arg6 harg6 arg7 harg7 arg8 harg8 arg9 harg9 arg10 harg10 T0 T1 x0 x1 x2 x3 x4 x5 x6 _ _ _ hn h2 h3

/-! ## The pipeline at the tables -/

variable {T0 : S544.Idx → BitVec 32} {T1 : S1.Idx → BitVec 32} (hR : Routed T0 T1)

def adm : (pcfg0 (F := F)).Adm := ⟨tabs T0 T1, tabs_ok T0 T1 hR⟩
abbrev cfgA : Cfg sig Λ₀ := cfg0 (F := F) (adm hR)
abbrev pcs : Fin 1 → Cfg sig Λ₀ := Pipeline.pin (pcfgs (F := F)) fun _ => adm hR
abbrev crd (t : Fin (cfgA hR (F := F)).N) : grid0.Coords := (cfgA hR (F := F)).grid.coords t

theorem N_eq : (cfgA hR (F := F)).N = 544 := N_0

theorem coords_val : ∀ t : Fin grid0.N, (grid0.coords t 0).val = t.val := by decide +kernel

theorem crd_val (t : Fin (cfgA hR (F := F)).N) : (crd hR t 0).val = t.val := coords_val t

/-- The windows' staging buffers at a point. -/
abbrev st0 (t : Fin (cfgA hR (F := F)).N) : Memref sig .tc .vmem S4096x128 .f32 := spec0_0.stage ((cfgA hR (F := F)).slots t (0 : Fin 8))
theorem wh0 (t : Fin (cfgA hR (F := F)).N) : (st0 hR t).IsWhole := hstage0_0 (((cfgA hR (F := F)).slots t (0 : Fin 8)).cast nbuf0_0)
abbrev st1 (t : Fin (cfgA hR (F := F)).N) : Memref sig .tc .vmem S1x1024x1024 .f32 := spec0_1.stage ((cfgA hR (F := F)).slots t (1 : Fin 8))
theorem wh1 (t : Fin (cfgA hR (F := F)).N) : (st1 hR t).IsWhole := hstage0_1 (((cfgA hR (F := F)).slots t (1 : Fin 8)).cast nbuf0_1)
abbrev st2 (t : Fin (cfgA hR (F := F)).N) : Memref sig .tc .vmem S1x1x1024 .f32 := spec0_2.stage ((cfgA hR (F := F)).slots t (2 : Fin 8))
theorem wh2 (t : Fin (cfgA hR (F := F)).N) : (st2 hR t).IsWhole := hstage0_2 (((cfgA hR (F := F)).slots t (2 : Fin 8)).cast nbuf0_2)
abbrev st3 (t : Fin (cfgA hR (F := F)).N) : Memref sig .tc .vmem S1x1024x1024 .f32 := spec0_3.stage ((cfgA hR (F := F)).slots t (3 : Fin 8))
theorem wh3 (t : Fin (cfgA hR (F := F)).N) : (st3 hR t).IsWhole := hstage0_3 (((cfgA hR (F := F)).slots t (3 : Fin 8)).cast nbuf0_3)
abbrev st4 (t : Fin (cfgA hR (F := F)).N) : Memref sig .tc .vmem S1x1x1024 .f32 := spec0_4.stage ((cfgA hR (F := F)).slots t (4 : Fin 8))
theorem wh4 (t : Fin (cfgA hR (F := F)).N) : (st4 hR t).IsWhole := hstage0_4 (((cfgA hR (F := F)).slots t (4 : Fin 8)).cast nbuf0_4)
abbrev st5 (t : Fin (cfgA hR (F := F)).N) : Memref sig .tc .vmem S1x1024x1024 .f32 := spec0_5.stage ((cfgA hR (F := F)).slots t (5 : Fin 8))
theorem wh5 (t : Fin (cfgA hR (F := F)).N) : (st5 hR t).IsWhole := hstage0_5 (((cfgA hR (F := F)).slots t (5 : Fin 8)).cast nbuf0_5)
abbrev st6 (t : Fin (cfgA hR (F := F)).N) : Memref sig .tc .vmem S1x1x1024 .f32 := spec0_6.stage ((cfgA hR (F := F)).slots t (6 : Fin 8))
theorem wh6 (t : Fin (cfgA hR (F := F)).N) : (st6 hR t).IsWhole := hstage0_6 (((cfgA hR (F := F)).slots t (6 : Fin 8)).cast nbuf0_6)
abbrev st7 (t : Fin (cfgA hR (F := F)).N) : Memref sig .tc .vmem S4096x128 .f32 := spec0_7.stage ((cfgA hR (F := F)).slots t (7 : Fin 8))
theorem wh7 (t : Fin (cfgA hR (F := F)).N) : (st7 hR t).IsWhole := hstage0_7 (((cfgA hR (F := F)).slots t (7 : Fin 8)).cast nbuf0_7)

variable (m : (ℓ : Loc nD τ sig) → Buf (Elt F) ℓ) (ρ : Dev nD → PrngReg)

/-- What every buffer holds when the pipeline starts: the launch's contents after the four reshapings. -/
def V (c : Dev nD) (b : Ref sig .tc) : Buf (Elt F) ((c : Thread nD τ).loc b) :=
  StableHlo.after (hostOps0 (F := F)) (fun b => m (c, b)) b

/-- A window's block at a point, read off its array. -/
def iblk (c : Dev nD) (w : Fin (cfgA hR (F := F)).W) (t : Fin (cfgA hR (F := F)).N) :
    (((cfgA hR (F := F)).win w).xblock (crd hR t)).Idx → Elt F ((cfgA hR (F := F)).win w).elt :=
  (((cfgA hR (F := F)).win w).blk t).view.read (Elt F) (V m c (Pipeline.arrRef spec0 w))

def blk0 (c : Dev nD) (t : Fin (cfgA hR (F := F)).N) : S4096x128.Idx → Elt F .f32 := iblk hR m c (0 : Fin 8) t
def blk1 (c : Dev nD) (t : Fin (cfgA hR (F := F)).N) : S1x1024x1024.Idx → Elt F .f32 := iblk hR m c (1 : Fin 8) t
def blk2 (c : Dev nD) (t : Fin (cfgA hR (F := F)).N) : S1x1x1024.Idx → Elt F .f32 := iblk hR m c (2 : Fin 8) t
def blk3 (c : Dev nD) (t : Fin (cfgA hR (F := F)).N) : S1x1024x1024.Idx → Elt F .f32 := iblk hR m c (3 : Fin 8) t
def blk4 (c : Dev nD) (t : Fin (cfgA hR (F := F)).N) : S1x1x1024.Idx → Elt F .f32 := iblk hR m c (4 : Fin 8) t
def blk5 (c : Dev nD) (t : Fin (cfgA hR (F := F)).N) : S1x1024x1024.Idx → Elt F .f32 := iblk hR m c (5 : Fin 8) t
def blk6 (c : Dev nD) (t : Fin (cfgA hR (F := F)).N) : S1x1x1024.Idx → Elt F .f32 := iblk hR m c (6 : Fin 8) t

/-- The expert a point's block belongs to. -/
def expert (i : grid0.Coords) : Fin 32 := ⟨(T0 (expertIx i)).toNat, hR.be_lt _⟩

/-- The weights' and biases' blocks are their expert's. -/
theorem blk1_at (c : Dev nD) (t : Fin (cfgA hR (F := F)).N) (y : S1x1024x1024.Idx) :
    blk1 hR m c t y = V m c main_arg3 (ix3 (expert hR (crd hR t)) (y 1) (y 2)) := by
  show V m c main_arg3 ((((cfgA hR (F := F)).win (1 : Fin 8)).blk t).view.emb y) = _
  refine congrArg (V m c main_arg3) (funext fun a => Fin.ext ?_)
  have e := tr1 (F := F) T0 T1 (crd hR t)
  have h0 : (y 0).val < 1 := (y 0).isLt
  match a with
  | ⟨0, _⟩ =>
    show cc0_transform_1 k0_off1_inb numel1_S1 (tabs (F := F) T0 T1) (crd hR t) (0 : Fin 3) * 1 + 1 * (y 0).val = (T0 (expertIx (crd hR t))).toNat
    rw [e]; show (T0 (expertIx (crd hR t))).toNat * 1 + 1 * (y 0).val = _; omega
  | ⟨1, _⟩ =>
    show cc0_transform_1 k0_off1_inb numel1_S1 (tabs (F := F) T0 T1) (crd hR t) (1 : Fin 3) * 1024 + 1 * (y 1).val = (y 1).val
    rw [e]; show 0 * 1024 + 1 * (y 1).val = _; omega
  | ⟨2, _⟩ =>
    show cc0_transform_1 k0_off1_inb numel1_S1 (tabs (F := F) T0 T1) (crd hR t) (2 : Fin 3) * 1024 + 1 * (y 2).val = (y 2).val
    rw [e]; show 0 * 1024 + 1 * (y 2).val = _; omega

theorem blk2_at (c : Dev nD) (t : Fin (cfgA hR (F := F)).N) (y : S1x1x1024.Idx) :
    blk2 hR m c t y = V m c main_v1 (ix3 (expert hR (crd hR t)) (y 1) (y 2)) := by
  show V m c main_v1 ((((cfgA hR (F := F)).win (2 : Fin 8)).blk t).view.emb y) = _
  refine congrArg (V m c main_v1) (funext fun a => Fin.ext ?_)
  have e := tr2 (F := F) T0 T1 (crd hR t)
  have h0 : (y 0).val < 1 := (y 0).isLt
  match a with
  | ⟨0, _⟩ =>
    show cc0_transform_2 k0_off1_inb numel1_S1 (tabs (F := F) T0 T1) (crd hR t) (0 : Fin 3) * 1 + 1 * (y 0).val = (T0 (expertIx (crd hR t))).toNat
    rw [e]; show (T0 (expertIx (crd hR t))).toNat * 1 + 1 * (y 0).val = _; omega
  | ⟨1, _⟩ =>
    show cc0_transform_2 k0_off1_inb numel1_S1 (tabs (F := F) T0 T1) (crd hR t) (1 : Fin 3) * 1 + 1 * (y 1).val = (y 1).val
    rw [e]; show 0 * 1 + 1 * (y 1).val = _; omega
  | ⟨2, _⟩ =>
    show cc0_transform_2 k0_off1_inb numel1_S1 (tabs (F := F) T0 T1) (crd hR t) (2 : Fin 3) * 1024 + 1 * (y 2).val = (y 2).val
    rw [e]; show 0 * 1024 + 1 * (y 2).val = _; omega

theorem blk3_at (c : Dev nD) (t : Fin (cfgA hR (F := F)).N) (y : S1x1024x1024.Idx) :
    blk3 hR m c t y = V m c main_arg5 (ix3 (expert hR (crd hR t)) (y 1) (y 2)) := by
  show V m c main_arg5 ((((cfgA hR (F := F)).win (3 : Fin 8)).blk t).view.emb y) = _
  refine congrArg (V m c main_arg5) (funext fun a => Fin.ext ?_)
  have e := tr3 (F := F) T0 T1 (crd hR t)
  have h0 : (y 0).val < 1 := (y 0).isLt
  match a with
  | ⟨0, _⟩ =>
    show cc0_transform_3 k0_off1_inb numel1_S1 (tabs (F := F) T0 T1) (crd hR t) (0 : Fin 3) * 1 + 1 * (y 0).val = (T0 (expertIx (crd hR t))).toNat
    rw [e]; show (T0 (expertIx (crd hR t))).toNat * 1 + 1 * (y 0).val = _; omega
  | ⟨1, _⟩ =>
    show cc0_transform_3 k0_off1_inb numel1_S1 (tabs (F := F) T0 T1) (crd hR t) (1 : Fin 3) * 1024 + 1 * (y 1).val = (y 1).val
    rw [e]; show 0 * 1024 + 1 * (y 1).val = _; omega
  | ⟨2, _⟩ =>
    show cc0_transform_3 k0_off1_inb numel1_S1 (tabs (F := F) T0 T1) (crd hR t) (2 : Fin 3) * 1024 + 1 * (y 2).val = (y 2).val
    rw [e]; show 0 * 1024 + 1 * (y 2).val = _; omega

theorem blk4_at (c : Dev nD) (t : Fin (cfgA hR (F := F)).N) (y : S1x1x1024.Idx) :
    blk4 hR m c t y = V m c main_v2 (ix3 (expert hR (crd hR t)) (y 1) (y 2)) := by
  show V m c main_v2 ((((cfgA hR (F := F)).win (4 : Fin 8)).blk t).view.emb y) = _
  refine congrArg (V m c main_v2) (funext fun a => Fin.ext ?_)
  have e := tr4 (F := F) T0 T1 (crd hR t)
  have h0 : (y 0).val < 1 := (y 0).isLt
  match a with
  | ⟨0, _⟩ =>
    show cc0_transform_4 k0_off1_inb numel1_S1 (tabs (F := F) T0 T1) (crd hR t) (0 : Fin 3) * 1 + 1 * (y 0).val = (T0 (expertIx (crd hR t))).toNat
    rw [e]; show (T0 (expertIx (crd hR t))).toNat * 1 + 1 * (y 0).val = _; omega
  | ⟨1, _⟩ =>
    show cc0_transform_4 k0_off1_inb numel1_S1 (tabs (F := F) T0 T1) (crd hR t) (1 : Fin 3) * 1 + 1 * (y 1).val = (y 1).val
    rw [e]; show 0 * 1 + 1 * (y 1).val = _; omega
  | ⟨2, _⟩ =>
    show cc0_transform_4 k0_off1_inb numel1_S1 (tabs (F := F) T0 T1) (crd hR t) (2 : Fin 3) * 1024 + 1 * (y 2).val = (y 2).val
    rw [e]; show 0 * 1024 + 1 * (y 2).val = _; omega

theorem blk5_at (c : Dev nD) (t : Fin (cfgA hR (F := F)).N) (y : S1x1024x1024.Idx) :
    blk5 hR m c t y = V m c main_arg7 (ix3 (expert hR (crd hR t)) (y 1) (y 2)) := by
  show V m c main_arg7 ((((cfgA hR (F := F)).win (5 : Fin 8)).blk t).view.emb y) = _
  refine congrArg (V m c main_arg7) (funext fun a => Fin.ext ?_)
  have e := tr5 (F := F) T0 T1 (crd hR t)
  have h0 : (y 0).val < 1 := (y 0).isLt
  match a with
  | ⟨0, _⟩ =>
    show cc0_transform_5 k0_off1_inb numel1_S1 (tabs (F := F) T0 T1) (crd hR t) (0 : Fin 3) * 1 + 1 * (y 0).val = (T0 (expertIx (crd hR t))).toNat
    rw [e]; show (T0 (expertIx (crd hR t))).toNat * 1 + 1 * (y 0).val = _; omega
  | ⟨1, _⟩ =>
    show cc0_transform_5 k0_off1_inb numel1_S1 (tabs (F := F) T0 T1) (crd hR t) (1 : Fin 3) * 1024 + 1 * (y 1).val = (y 1).val
    rw [e]; show 0 * 1024 + 1 * (y 1).val = _; omega
  | ⟨2, _⟩ =>
    show cc0_transform_5 k0_off1_inb numel1_S1 (tabs (F := F) T0 T1) (crd hR t) (2 : Fin 3) * 1024 + 1 * (y 2).val = (y 2).val
    rw [e]; show 0 * 1024 + 1 * (y 2).val = _; omega

theorem blk6_at (c : Dev nD) (t : Fin (cfgA hR (F := F)).N) (y : S1x1x1024.Idx) :
    blk6 hR m c t y = V m c main_v3 (ix3 (expert hR (crd hR t)) (y 1) (y 2)) := by
  show V m c main_v3 ((((cfgA hR (F := F)).win (6 : Fin 8)).blk t).view.emb y) = _
  refine congrArg (V m c main_v3) (funext fun a => Fin.ext ?_)
  have e := tr6 (F := F) T0 T1 (crd hR t)
  have h0 : (y 0).val < 1 := (y 0).isLt
  match a with
  | ⟨0, _⟩ =>
    show cc0_transform_6 k0_off1_inb numel1_S1 (tabs (F := F) T0 T1) (crd hR t) (0 : Fin 3) * 1 + 1 * (y 0).val = (T0 (expertIx (crd hR t))).toNat
    rw [e]; show (T0 (expertIx (crd hR t))).toNat * 1 + 1 * (y 0).val = _; omega
  | ⟨1, _⟩ =>
    show cc0_transform_6 k0_off1_inb numel1_S1 (tabs (F := F) T0 T1) (crd hR t) (1 : Fin 3) * 1 + 1 * (y 1).val = (y 1).val
    rw [e]; show 0 * 1 + 1 * (y 1).val = _; omega
  | ⟨2, _⟩ =>
    show cc0_transform_6 k0_off1_inb numel1_S1 (tabs (F := F) T0 T1) (crd hR t) (2 : Fin 3) * 1024 + 1 * (y 2).val = (y 2).val
    rw [e]; show 0 * 1024 + 1 * (y 2).val = _; omega

theorem blk1_eq (c : Dev nD) (t t' : Fin (cfgA hR (F := F)).N) (h : T0 (expertIx (crd hR t)) = T0 (expertIx (crd hR t'))) :
    blk1 hR m c t = blk1 hR m c t' ∧ blk3 hR m c t = blk3 hR m c t' ∧ blk5 hR m c t = blk5 hR m c t' := by
  have e : expert hR (crd hR t) = expert hR (crd hR t') := Fin.ext (by show (T0 _).toNat = (T0 _).toNat; rw [h])
  refine ⟨funext fun y => ?_, funext fun y => ?_, funext fun y => ?_⟩
  · rw [blk1_at, blk1_at, e]
  · rw [blk3_at, blk3_at, e]
  · rw [blk5_at, blk5_at, e]

/-- What a point leaves in its output block. -/
def out (c : Dev nD) (t : Fin (cfgA hR (F := F)).N) : S4096x128.Idx → Elt F .f32 :=
  answer (crd hR t) T1 (blk0 hR m c t) (blk1 hR m c t) (blk2 hR m c t) (blk3 hR m c t) (blk4 hR m c t) (blk5 hR m c t) (blk6 hR m c t)

/-- Before every point but the first, the weight buffers hold the weights of the point before. -/
def Kept (c : Dev nD) (n : ℕ) (a0 a1 a2 : S1024x1024.Idx → Elt F .bf16) : Prop :=
  ∀ t : Fin (cfgA hR (F := F)).N, n = t.val + 1 → a0 = k0_pay1 (blk1 hR m c t) ∧ a1 = k0_pay2 (blk3 hR m c t) ∧ a2 = k0_pay3 (blk5 hR m c t)

theorem kept_old (c : Dev nD) (t : Fin (cfgA hR (F := F)).N) (a0 a1 a2 : S1024x1024.Idx → Elt F .bf16) (h : Kept hR m c t.val a0 a1 a2)
    (hn : ¬ newCond (F := F) (crd hR t) T0 = 1#1) : a0 = k0_pay1 (blk1 hR m c t) ∧ a1 = k0_pay2 (blk3 hR m c t) ∧ a2 = k0_pay3 (blk5 hR m c t) := by
  obtain ⟨h0, he⟩ := old_facts (F := F) (crd hR t) T0 hn
  rw [crd_val] at h0
  have hlt : t.val - 1 < (cfgA hR (F := F)).N := by have := t.isLt; omega
  obtain ⟨e0, e1, e2⟩ := h ⟨t.val - 1, hlt⟩ (by show t.val = t.val - 1 + 1; omega)
  have hp : prevIx (crd hR t) = expertIx (crd hR (⟨t.val - 1, hlt⟩ : Fin (cfgA hR (F := F)).N)) := by
    refine funext fun a => Fin.ext ?_
    match a with
    | ⟨0, _⟩ =>
      show (crd hR t 0).val - 1 = (crd hR (⟨t.val - 1, hlt⟩ : Fin (cfgA hR (F := F)).N) 0).val
      rw [crd_val, crd_val]
  obtain ⟨g0, g1, g2⟩ := blk1_eq hR m c t ⟨t.val - 1, hlt⟩ (he.trans (congrArg T0 hp))
  rw [g0, g1, g2]
  exact ⟨e0, e1, e2⟩

/-- What holds between points: the weight buffers as above, the tables, the generator. -/
def Inv (c : Dev nD) (n : ℕ) : sProp 𝕄 :=
  iprop((∃ a0 a1 a2, ⌜Kept hR m c n a0 a1 a2⌝ ∗ owns (c : Thread nD τ) w0M fullShare a0 ∗ owns (c : Thread nD τ) w1M fullShare a1 ∗ owns (c : Thread nD τ) w2M fullShare a2)
    ∗ (beM.view.loc (c : Thread nD τ) ↦{fullShare.right} T0) ∗ (nuM.view.loc (c : Thread nD τ) ↦{fullShare.right} T1) ∗ (∃ r, prngReg c r))

def dats (_ : Fin 1) (c : Dev nD) : Dat τ (Elt F) Unit ℕ (UR sig nD τ) ℕ (cfgA hR (F := F)) c where
  A w := V m c (Pipeline.arrRef spec0 w)
  after w t := match w with
    | ⟨0, _⟩ => blk0 hR m c t
    | ⟨1, _⟩ => blk1 hR m c t
    | ⟨2, _⟩ => blk2 hR m c t
    | ⟨3, _⟩ => blk3 hR m c t
    | ⟨4, _⟩ => blk4 hR m c t
    | ⟨5, _⟩ => blk5 hR m c t
    | ⟨6, _⟩ => blk6 hR m c t
    | ⟨7, _⟩ => out hR m c t
  Φ t := Inv hR m c t.val
  q _ := fullShare
  owed _ := 0

theorem after0 (c : Dev nD) (t : Fin (cfgA hR (F := F)).N) : (dats hR m 0 c).after (0 : Fin 8) t = blk0 hR m c t := rfl
theorem after1 (c : Dev nD) (t : Fin (cfgA hR (F := F)).N) : (dats hR m 0 c).after (1 : Fin 8) t = blk1 hR m c t := rfl
theorem after2 (c : Dev nD) (t : Fin (cfgA hR (F := F)).N) : (dats hR m 0 c).after (2 : Fin 8) t = blk2 hR m c t := rfl
theorem after3 (c : Dev nD) (t : Fin (cfgA hR (F := F)).N) : (dats hR m 0 c).after (3 : Fin 8) t = blk3 hR m c t := rfl
theorem after4 (c : Dev nD) (t : Fin (cfgA hR (F := F)).N) : (dats hR m 0 c).after (4 : Fin 8) t = blk4 hR m c t := rfl
theorem after5 (c : Dev nD) (t : Fin (cfgA hR (F := F)).N) : (dats hR m 0 c).after (5 : Fin 8) t = blk5 hR m c t := rfl
theorem after6 (c : Dev nD) (t : Fin (cfgA hR (F := F)).N) : (dats hR m 0 c).after (6 : Fin 8) t = blk6 hR m c t := rfl
theorem after7 (c : Dev nD) (t : Fin (cfgA hR (F := F)).N) : (dats hR m 0 c).after (7 : Fin 8) t = out hR m c t := rfl

/-- Every input's staging buffer holds its block when the body runs. -/
theorem before0 (c : Dev nD) (t : Fin (cfgA hR (F := F)).N) (d) : (dats hR m 0 c).before (0 : Fin 8) t d = blk0 hR m c t :=
  ((dats hR m 0 c).before_in_eq_fetched (0 : Fin 8) rfl (fun _ => rfl) (fun _ _ _ => rfl) (fun t => by rw [after0]; unfold Dat.blockOf blk0 iblk; rfl) t d).trans
    (by unfold Dat.fetched Dat.blockOf blk0 iblk; rfl)
theorem before1 (c : Dev nD) (t : Fin (cfgA hR (F := F)).N) (d) : (dats hR m 0 c).before (1 : Fin 8) t d = blk1 hR m c t :=
  ((dats hR m 0 c).before_in_eq_fetched (1 : Fin 8) rfl (fun _ => rfl) (fun _ _ _ => rfl) (fun t => by rw [after1]; unfold Dat.blockOf blk1 iblk; rfl) t d).trans
    (by unfold Dat.fetched Dat.blockOf blk1 iblk; rfl)
theorem before2 (c : Dev nD) (t : Fin (cfgA hR (F := F)).N) (d) : (dats hR m 0 c).before (2 : Fin 8) t d = blk2 hR m c t :=
  ((dats hR m 0 c).before_in_eq_fetched (2 : Fin 8) rfl (fun _ => rfl) (fun _ _ _ => rfl) (fun t => by rw [after2]; unfold Dat.blockOf blk2 iblk; rfl) t d).trans
    (by unfold Dat.fetched Dat.blockOf blk2 iblk; rfl)
theorem before3 (c : Dev nD) (t : Fin (cfgA hR (F := F)).N) (d) : (dats hR m 0 c).before (3 : Fin 8) t d = blk3 hR m c t :=
  ((dats hR m 0 c).before_in_eq_fetched (3 : Fin 8) rfl (fun _ => rfl) (fun _ _ _ => rfl) (fun t => by rw [after3]; unfold Dat.blockOf blk3 iblk; rfl) t d).trans
    (by unfold Dat.fetched Dat.blockOf blk3 iblk; rfl)
theorem before4 (c : Dev nD) (t : Fin (cfgA hR (F := F)).N) (d) : (dats hR m 0 c).before (4 : Fin 8) t d = blk4 hR m c t :=
  ((dats hR m 0 c).before_in_eq_fetched (4 : Fin 8) rfl (fun _ => rfl) (fun _ _ _ => rfl) (fun t => by rw [after4]; unfold Dat.blockOf blk4 iblk; rfl) t d).trans
    (by unfold Dat.fetched Dat.blockOf blk4 iblk; rfl)
theorem before5 (c : Dev nD) (t : Fin (cfgA hR (F := F)).N) (d) : (dats hR m 0 c).before (5 : Fin 8) t d = blk5 hR m c t :=
  ((dats hR m 0 c).before_in_eq_fetched (5 : Fin 8) rfl (fun _ => rfl) (fun _ _ _ => rfl) (fun t => by rw [after5]; unfold Dat.blockOf blk5 iblk; rfl) t d).trans
    (by unfold Dat.fetched Dat.blockOf blk5 iblk; rfl)
theorem before6 (c : Dev nD) (t : Fin (cfgA hR (F := F)).N) (d) : (dats hR m 0 c).before (6 : Fin 8) t d = blk6 hR m c t :=
  ((dats hR m 0 c).before_in_eq_fetched (6 : Fin 8) rfl (fun _ => rfl) (fun _ _ _ => rfl) (fun t => by rw [after6]; unfold Dat.blockOf blk6 iblk; rfl) t d).trans
    (by unfold Dat.fetched Dat.blockOf blk6 iblk; rfl)

/-- No point leaves the output untouched. -/
theorem busy (i : grid0.Coords) (v : BitVec 32) : (!(k0_cond2 i v == 1#1) && !(k0_cond3 i v == 1#1)) = false := by
  by_cases h : k0_cond2 i v = 1#1
  · rw [h]; rfl
  · rw [(rest_iff i v).mpr h]; simp

theorem idle7 (t : Fin (cfgA hR (F := F)).N) : (cfgA hR (F := F)).idle (7 : Fin 8) ((cfgA hR (F := F)).grid.coords t) = false := busy _ _

abbrev bodyAt (t : Fin (cfgA hR (F := F)).N) : Prog (TpuEff nD τ sig (Elt F) Λ₀ .tc) PUnit :=
  cc0_moe (crd hR t) beM (Memref.isWhole_whole _) nuM (Memref.isWhole_whole _) (st0 hR t) (wh0 hR t) (st1 hR t) (wh1 hR t) (st2 hR t) (wh2 hR t) (st3 hR t) (wh3 hR t) (st4 hR t) (wh4 hR t) (st5 hR t) (wh5 hR t) (st6 hR t) (wh6 hR t) (st7 hR t) (wh7 hR t) w0M (Memref.isWhole_whole _) w1M (Memref.isWhole_whole _) w2M (Memref.isWhole_whole _)

set_option maxHeartbeats 1000000 in
theorem sound_body (c : Dev nD) (t : Fin (cfgA hR (F := F)).N) :
    iprop((dats hR m 0 c).Φ t.castSucc ∗ (dats hR m 0 c).owesAt () t.castSucc
        ∗ (∃ d, owns (c : Thread nD τ) (st0 hR t) fullShare ((dats hR m 0 c).before (0 : Fin 8) t d))
        ∗ (∃ d, owns (c : Thread nD τ) (st1 hR t) fullShare ((dats hR m 0 c).before (1 : Fin 8) t d))
        ∗ (∃ d, owns (c : Thread nD τ) (st2 hR t) fullShare ((dats hR m 0 c).before (2 : Fin 8) t d))
        ∗ (∃ d, owns (c : Thread nD τ) (st3 hR t) fullShare ((dats hR m 0 c).before (3 : Fin 8) t d))
        ∗ (∃ d, owns (c : Thread nD τ) (st4 hR t) fullShare ((dats hR m 0 c).before (4 : Fin 8) t d))
        ∗ (∃ d, owns (c : Thread nD τ) (st5 hR t) fullShare ((dats hR m 0 c).before (5 : Fin 8) t d))
        ∗ (∃ d, owns (c : Thread nD τ) (st6 hR t) fullShare ((dats hR m 0 c).before (6 : Fin 8) t d))
        ∗ (∃ d, owns (c : Thread nD τ) (st7 hR t) fullShare ((dats hR m 0 c).before (7 : Fin 8) t d)))
      ⊢ wp frame (wpE (defs₀ (F := F)) Variants.none c none) Set.univ (bodyAt hR t) fun _ =>
          iprop((dats hR m 0 c).Φ t.succ ∗ (dats hR m 0 c).owesAt () t.succ
            ∗ bigSep Finset.univ fun w : Fin (cfgA hR (F := F)).W =>
                match (cfgA hR (F := F)).idle w ((cfgA hR (F := F)).grid.coords t) with
                | true =>
                  match ((cfgA hR (F := F)).win w).flush t with
                  | false => iprop(∃ d, owns (c : Thread nD τ) (((cfgA hR (F := F)).win w).stage ((cfgA hR (F := F)).slots t w)) fullShare ((dats hR m 0 c).before w t d))
                  | true => owns (c : Thread nD τ) (((cfgA hR (F := F)).win w).stage ((cfgA hR (F := F)).slots t w)) fullShare ((dats hR m 0 c).after w t)
                | false => owns (c : Thread nD τ) (((cfgA hR (F := F)).win w).stage ((cfgA hR (F := F)).slots t w)) fullShare ((dats hR m 0 c).after w t)) := by
  rw [bigSep_W0]
  rewrite [idle7]
  simp only [before0, before1, before2, before3, before4, before5, before6, after0, after1, after2, after3, after4, after5, after6, after7]
  rewrite [show (dats hR m 0 c).Φ t.succ = Inv hR m c (t.val + 1) from rfl, show (dats hR m 0 c).Φ t.castSucc = Inv hR m c t.val from rfl,
    show (dats hR m 0 c).owesAt () t.succ = (dats hR m 0 c).owesAt () t.castSucc from rfl]
  unfold Inv
  iintro ⟨⟨⟨%a0, %a1, %a2, %hk, HS0, HS1, HS2⟩, HT0, HT1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_at c (crd hR t) (st0 hR t) (wh0 hR t) (st1 hR t) (wh1 hR t) (st2 hR t) (wh2 hR t) (st3 hR t) (wh3 hR t) (st4 hR t) (wh4 hR t) (st5 hR t) (wh5 hR t) (st6 hR t) (wh6 hR t) (st7 hR t) (wh7 hR t) T0 T1 (blk0 hR m c t) (blk1 hR m c t) (blk2 hR m c t) (blk3 hR m c t) (blk4 hR m c t) (blk5 hR m c t) (blk6 hR m c t) a0 a1 a2 (kept_old hR m c t a0 a1 a2 hk) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iapply rep_of_owns; iexact HS0
  isplitl [HS1]; · iapply rep_of_owns; iexact HS1
  isplitl [HS2]; · iapply rep_of_owns; iexact HS2
  iintro ⟨H0, H1, H2, H3, H4, H5, H6, HT0, HT1, H7, HS0, HS1, HS2⟩
  isplitl [HS0 HS1 HS2 HT0 HT1 Hg]
  · isplitl [HS0 HS1 HS2]
    · iexists _; iexists _; iexists _
      isplitr; swap
      · isplitl [HS0]; · iexact HS0
        isplitl [HS1]; · iexact HS1
        iexact HS2
      · ipureintro
        intro s hs
        have : t = s := Fin.ext (by omega)
        subst this
        exact ⟨rfl, rfl, rfl⟩
    isplitl [HT0]; · iexact HT0
    isplitl [HT1]; · iexact HT1
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexact H7

theorem body_obligation (c : Dev nD) : BodyObligation (dats hR m 0 c) (defs₀ (F := F)) Variants.none () Set.univ := fun t => by
  rw [bigSep_W0]
  exact sound_body hR m c t

/-! ## The launch -/

theorem share_eq (c : Dev nD) (w : Fin (cfgA hR (F := F)).W) : (dats hR m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem ΦA_eq (c : Dev nD) :
    (Pipeline.ΦA spec0 c : sProp 𝕄)
      = iprop(((∃ a0, owns (c : Thread nD τ) w0M fullShare a0) ∗ (∃ a1, owns (c : Thread nD τ) w1M fullShare a1) ∗ (∃ a2, owns (c : Thread nD τ) w2M fullShare a2)) ∗ (∃ r, prngReg c r)) := by
  unfold Pipeline.ΦA; rw [scopedRest0_eq]; simp only [owns_whole]; try rfl

theorem inv_start (c : Dev nD) :
    iprop(Pipeline.ΦA spec0 c ∗ Pipeline.ΦT pre0 (adm hR (F := F)).1 c) ⊢ (dats hR m 0 c).Φ 0 := by
  rw [ΦA_eq, show (dats hR m 0 c).Φ 0 = Inv hR m c 0 from rfl]
  unfold Pipeline.ΦT
  rw [prefHeld_eq]
  unfold Inv
  iintro ⟨⟨⟨⟨%a0, HS0⟩, ⟨%a1, HS1⟩, ⟨%a2, HS2⟩⟩, Hg⟩, HT0, HT1⟩
  isplitl [HS0 HS1 HS2]
  · iexists a0; iexists a1; iexists a2
    isplitr; swap
    · isplitl [HS0]; · iexact HS0
      isplitl [HS1]; · iexact HS1
      iexact HS2
    · ipureintro; intro s hs; omega
  isplitl [HT0]; · iexact HT0
  isplitl [HT1]; · iexact HT1
  iexact Hg

theorem inv_end (c : Dev nD) : (dats hR m 0 c).Φ (Fin.last (cfgA hR (F := F)).N) ⊢ Pipeline.ΦA spec0 c := by
  rw [ΦA_eq, show (dats hR m 0 c).Φ (Fin.last (cfgA hR (F := F)).N) = Inv hR m c (cfgA hR (F := F)).N from rfl]
  unfold Inv
  iintro ⟨⟨%a0, %a1, %a2, -, HS0, HS1, HS2⟩, -, -, Hg⟩
  isplitl [HS0 HS1 HS2]
  · isplitl [HS0]; · iexists a0; iexact HS0
    isplitl [HS1]; · iexists a1; iexact HS1
    iexists a2; iexact HS2
  iexact Hg

theorem V_arg (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) ∧ V m c main_arg7 = m ((c : Thread nD τ).loc main_arg7)
    ∧ V m c main_arg8 = m ((c : Thread nD τ).loc main_arg8) := by
  unfold V hostOps0
  refine ⟨?_, ?_, ?_, ?_, ?_, ?_, ?_, ?_, ?_⟩ <;> after_results

/-- The tables at launch are the ones the pipeline runs at. -/
def At (T0 : S544.Idx → BitVec 32) (T1 : S1.Idx → BitVec 32) (m : (ℓ : Loc nD τ sig) → Buf (Elt F) ℓ) : Prop :=
  ∀ c : Dev nD, m ((c : Thread nD τ).loc main_arg0) = T0 ∧ m ((c : Thread nD τ).loc main_arg1) = T1

theorem tables_at (hT : At T0 T1 m) (c : Dev nD) (k : Fin 2) : V m c (pre0.ref k) = (adm hR (F := F)).1 k := by
  fin_cases k
  · exact (V_arg m c).1.trans (hT c).1
  · exact (V_arg m c).2.1.trans (hT c).2

set_option backward.isDefEq.respectTransparency.types false in
set_option maxHeartbeats 1000000 in
/-- Every execution terminates with every array at what the points leave, every other buffer as it was, every counter zero. -/
theorem run_main (hT : At T0 T1 m) :
    θ_run (defs (F := F)) (onTc (τ := τ) (main (F := F))) (s₀ m ρ) (fun r => Pipeline.FramePost (pcs hR (F := F)) (dats hR m) 0 (V m) r ∧ r.2.sem = fun _ => 0) :=
  Pipeline.θ_run_frameP_track (Q' := _) pcfgs (fun _ => adm hR) (dats hR m) (0 : Fin 1) launch0 defs₀ Variants.none m ρ main
    (hbody := fun c => (body_obligation hR m c).loose) (hshare := share_eq hR m) (howed := fun _ _ => rfl) (V := V m)
    (hmain := Pipeline.hmainP_prefix pcfgs 0 defs₀ Variants.none m main hostOps0 hostOps0_sub ⟨rfl, rfl, rfl, rfl⟩ main_chain)
    (hA := fun _ _ => rfl) (hpf := tables_at hR m hT) (hin := inv_start hR m) (hout := inv_end hR m) (hQ' := fun _ h => h)

end Cert.Moe

end
-- ==== Proof.MoeFrame.lean ====
/-
  The precondition `routed` read off the two tables, and the expert kernel's run under it: the argument arrays end unchanged,
  the result is the array the points leave, every counter is zero.
-/
module

public import proofs.«01_k».proof.Proof.MoeRun
public import proofs.«01_k».proof.Pre_routed
public import Idealize.ShloMosaic.Lib.ReduceAll

@[expose] public section

set_option maxRecDepth 16384

noncomputable section

namespace Cert.Moe

open Cert.MoeKernelIdeal Cert.MoeKernelIdeal.Gen
open Idealize.ShloMosaic Idealize.ShloMosaic.ValueIdx Idealize.ShloMosaic.TcCoe
open Idealize.SL.Sem

variable {F : FTy → Type} [FloatOps F]

theorem of_bit : ∀ b : Bool, BitVec.ofBool b = 1#1 → b = true := by decide

theorem toNat_le (x y : BitVec 32) (hx : 0 ≤ x.toInt) (h : x.sle y = true) : x.toNat ≤ y.toNat := by
  rw [BitVec.sle_eq_decide, decide_eq_true_iff] at h
  have e1 := BitVec.toInt_eq_toNat_cond x
  have e2 := BitVec.toInt_eq_toNat_cond y
  have := x.isLt
  have := y.isLt
  split at e1 <;> split at e2 <;> omega

theorem toNat_lt (x y : BitVec 32) (hx : 0 ≤ x.toInt) (h : x.slt y = true) : x.toNat < y.toNat := by
  rw [BitVec.slt_eq_decide, decide_eq_true_iff] at h
  have e1 := BitVec.toInt_eq_toNat_cond x
  have e2 := BitVec.toInt_eq_toNat_cond y
  have := x.isLt
  have := y.isLt
  split at e1 <;> split at e2 <;> omega

theorem toInt_ge (x y : BitVec 32) (h : x.sle y = true) : x.toInt ≤ y.toInt := by
  rwa [BitVec.sle_eq_decide, decide_eq_true_iff] at h

/-- The precondition says the tables are as routing makes them. -/
theorem routed_of [Cert.Pre_routed.Facts] (T0 : S544.Idx → BitVec 32) (T1 : S1.Idx → BitVec 32) (x2 : FVec F S278528x1024 .f32)
    (x3 : FVec F S32x1024x1024 .f32) (x4 : FVec F S32x1024 .f32) (x5 : FVec F S32x1024x1024 .f32) (x6 : FVec F S32x1024 .f32)
    (x7 : FVec F S32x1024x1024 .f32) (x8 : FVec F S32x1024 .f32) (z : Cert.Pre_routed.S_.Idx)
    (h : Cert.Pre_routed.fn (F := F) T0 T1 x2 x3 x4 x5 x6 x7 x8 z = 1#1) : Routed T0 T1 := by
  dsimp only [Cert.Pre_routed.fn] at h
  obtain ⟨h', hle⟩ := IntOp.andi_eq_one.mp h
  obtain ⟨hall, hge⟩ := IntOp.andi_eq_one.mp h'
  haveI : Subsingleton Cert.Pre_routed.S_.Idx := ⟨fun a b => funext fun x => x.elim0⟩
  have e : ∀ j : S1.Idx, j = ix1 0 := fun j => funext fun a => Fin.ext (by
    match a with
    | ⟨0, _⟩ => have h := (j 0).isLt; show (j 0).val = 0; exact Nat.lt_one_iff.mp h)
  have ge : (1#32 : BitVec 32).sle (T1 (ix1 0)) = true := by
    have g := of_bit _ hge
    rwa [show shapeCast Cert.Pre_routed.S_ T1 _ z = T1 (ix1 0) from congrArg T1 (e _)] at g
  have le : (T1 (ix1 0)).sle (544#32 : BitVec 32) = true := by
    have g := of_bit _ hle
    rwa [show shapeCast Cert.Pre_routed.S_ T1 _ z = T1 (ix1 0) from congrArg T1 (e _)] at g
  have pos := toInt_ge _ _ ge
  rw [show (1#32 : BitVec 32).toInt = 1 from by decide] at pos
  refine ⟨fun i => ?_, ?_, ?_⟩
  · obtain ⟨h0, h1⟩ := IntOp.andi_eq_one.mp (Host.reduce_andi_all _ _ _ _ z hall i)
    have g0 : (0#32 : BitVec 32).sle (T0 i) = true := of_bit _ h0
    have g1 : (T0 i).slt (32#32 : BitVec 32) = true := of_bit _ h1
    have p := toInt_ge _ _ g0
    rw [show (0#32 : BitVec 32).toInt = 0 from by decide] at p
    exact toNat_lt _ _ p g1
  · exact toNat_le _ _ (by decide) ge
  · exact toNat_le _ _ (by omega) le

variable (m : (ℓ : Loc nD τ sig) → Buf (Elt F) ℓ) (ρ : Dev nD → PrngReg)

/-- The one device's tables. -/
def T0of : S544.Idx → BitVec 32 := m (((⟨0, by decide⟩ : Dev nD) : Thread nD τ).loc main_arg0)
def T1of : S1.Idx → BitVec 32 := m (((⟨0, by decide⟩ : Dev nD) : Thread nD τ).loc main_arg1)

theorem at_of : At (T0of m) (T1of m) m := fun c => by
  have e : c = (⟨0, by decide⟩ : Dev nD) := Subsingleton.elim (α := Fin 1) _ _
  subst e
  exact ⟨rfl, rfl⟩

/-- The expert kernel's run under routed tables. -/
theorem run_all (hR : Routed (T0of m) (T1of m)) :
    θ_run (defs (F := F)) (onTc (τ := τ) (main (F := F))) ⟨m, fun _ => 0, ρ⟩ (fun r => (∀ c : Dev nD,
      r.2.mem ((c.tc : Thread nD τ).loc main_v4) = (dats hR m 0 c).arrAt (7 : Fin 8) (cfgA hR (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) := by
  refine (θ_run _ _ _).mono (fun r h => ⟨fun c => ?_, h.2⟩) (run_main hR m ρ (at_of m))
  obtain ⟨e0, e1, e2, e3, e4, e5, e6, e7, e8⟩ := V_arg m c
  have rest := (h.1 c).2
  have arr := (h.1 c).1
  exact ⟨arr (7 : Fin 8), (rest main_arg0 (show main_arg0 ∈ Pipeline.restRefs sig spec0 by decide)).trans e0, (rest main_arg1 (show main_arg1 ∈ Pipeline.restRefs sig spec0 by decide)).trans e1,
    (rest main_arg2 (show main_arg2 ∈ Pipeline.restRefs sig spec0 by decide)).trans e2, ((arr (1 : Fin 8)).trans ((dats hR m 0 c).arrAt_in (1 : Fin 8) rfl _)).trans e3,
    (rest main_arg4 (show main_arg4 ∈ Pipeline.restRefs sig spec0 by decide)).trans e4, ((arr (3 : Fin 8)).trans ((dats hR m 0 c).arrAt_in (3 : Fin 8) rfl _)).trans e5,
    (rest main_arg6 (show main_arg6 ∈ Pipeline.restRefs sig spec0 by decide)).trans e6, ((arr (5 : Fin 8)).trans ((dats hR m 0 c).arrAt_in (5 : Fin 8) rfl _)).trans e7,
    (rest main_arg8 (show main_arg8 ∈ Pipeline.restRefs sig spec0 by decide)).trans e8⟩

end Cert.Moe

end
-- ==== Proof.MoeSame.lean ====
/-
  The expert kernel is printed twice, once as written and once idealized, and no rewrite was applied: the two programs
  are the same text in two namespaces. Their body tables and their host programs are equal.
-/
module

public import proofs.«01_k».proof.Proof.Gen.MoeKernel.Launch
public import proofs.«01_k».proof.Proof.MoeFrame

@[expose] public section

noncomputable section

namespace Cert.Moe

open Idealize.ShloMosaic Idealize.SL.Sem

variable {F : FTy → Type} [FloatOps F]

/-- The kernel functions are one. -/
theorem body_same : Cert.MoeKernel.cc0_moe (F := F) = Cert.MoeKernelIdeal.cc0_moe (F := F) := by rfl

/-- So are the tables that run them on the staging buffers. -/
theorem bodies_same : Cert.MoeKernel.defs₀ (F := F) = Cert.MoeKernelIdeal.defs₀ (F := F) := by
  refine congrArg (Defs.onTc (nD := Cert.MoeKernelIdeal.nD) (τ := Cert.MoeKernelIdeal.τ) (sig := Cert.MoeKernelIdeal.sig)
    (Val := Elt F) (Λ := Cert.MoeKernelIdeal.Λ₀)) (funext fun l => funext fun x => ?_)
  match l, x with
  | ⟨0, _⟩, (t, s) =>
    dsimp only
    rw [body_same]
    rfl
  | ⟨_ + 1, h⟩, _ => exact absurd h (Nat.not_lt.2 (Nat.le_add_left _ _))

/-- The tables with the pipeline's own functions. -/
theorem defs_same : Cert.MoeKernel.defs (F := F) = Cert.MoeKernelIdeal.defs (F := F) := by
  unfold Cert.MoeKernel.defs Cert.MoeKernelIdeal.defs
  exact congrArg (Pipeline.defs (Cert.MoeKernelIdeal.pcfgs (F := F))) bodies_same

/-- The host programs. -/
theorem main_same : Cert.MoeKernel.main (F := F) = Cert.MoeKernelIdeal.main (F := F) := by rfl

end Cert.Moe

end

end
-- ==== Proof.MoeFormula.lean ====
/-
  An expert's answer to one row of features, written out at exact reals: the plain formula both the kernel's blocks and the
  reference's array are read as.
-/
module

public import Idealize.ShloMosaic.Lib.Pointwise

@[expose] public section

noncomputable section

namespace Cert.Moe

open Idealize.ShloMosaic

/-- The clip at 7, at −7 and the slope 1.702. -/
abbrev seven : EReal := Ideal.ofBits .f32 0x40E00000#32
abbrev negSeven : EReal := Ideal.ofBits .f32 0xC0E00000#32
abbrev slope : EReal := Ideal.ofBits .f32 0x3FD9DB23#32

/-- The gate of one hidden feature: a product with its weights plus its bias, at most 7. -/
def gate (X : Fin 1024 → EReal) (W : Fin 1024 → Fin 1024 → EReal) (b : Fin 1024 → EReal) (j : Fin 1024) : EReal :=
  min ((∑ k, X k * W k j) + b j) seven

/-- The upward product of one hidden feature plus its bias, held between −7 and 7. -/
def up (X : Fin 1024 → EReal) (W : Fin 1024 → Fin 1024 → EReal) (b : Fin 1024 → EReal) (j : Fin 1024) : EReal :=
  min seven (max negSeven ((∑ k, X k * W k j) + b j))

/-- One hidden feature: (up + 1) · (gate · logistic (1.702 gate)). -/
def hidden (g u : EReal) : EReal := (u + 1) * (g * Ideal.logistic (slope * g))

/-- An expert's answer to the row `X`, at feature `d`. -/
def reply (X : Fin 1024 → EReal) (Wg : Fin 1024 → Fin 1024 → EReal) (bg : Fin 1024 → EReal) (Wu : Fin 1024 → Fin 1024 → EReal) (bu : Fin 1024 → EReal)
    (Wd : Fin 1024 → Fin 1024 → EReal) (bd : Fin 1024 → EReal) (d : Fin 1024) : EReal :=
  (∑ j, hidden (gate X Wg bg j) (up X Wu bu j) * Wd j d) + bd d

end Cert.Moe
-- ==== Proof.MoeExpert.lean ====
/-
  The kernel's body at exact reals: a block's rows, its weights, and its answer as the plain formula.
-/
module

public import proofs.«01_k».proof.Proof.MoeBody
public import proofs.«01_k».proof.Proof.MoeFormula

@[expose] public section

set_option maxRecDepth 16384

noncomputable section

namespace Cert.Moe

open Cert.MoeKernelIdeal Cert.MoeKernelIdeal.Gen Idealize.ShloMosaic Idealize.ShloMosaic.TcCoe

theorem weight1 (w : Vec Ideal S1x1024x1024 .f32) (a b : Fin 1024) : k0_pay1 (F := Ideal) w (ix2 a b) = w (ix3 0 a b) := by
  pointwise [k0_pay1]
theorem weight2 (w : Vec Ideal S1x1024x1024 .f32) (a b : Fin 1024) : k0_pay2 (F := Ideal) w (ix2 a b) = w (ix3 0 a b) := by
  pointwise [k0_pay2]
theorem weight3 (w : Vec Ideal S1x1024x1024 .f32) (a b : Fin 1024) : k0_pay3 (F := Ideal) w (ix2 a b) = w (ix3 0 a b) := by
  pointwise [k0_pay3]

theorem row_eq (x : S4096x128.Idx → EReal) {a a' b b' : ℕ} (ha : a < 4096) (hb : b < 128) (ha' : a' < 4096) (hb' : b' < 128) (e : a = a') (f : b = b') :
    x (ix2 ⟨a, ha⟩ ⟨b, hb⟩) = x (ix2 ⟨a', ha'⟩ ⟨b', hb'⟩) := by
  subst e f; rfl

/-- Lane `d` of token `r` stands in row `8 r + d / 128` of its block. -/
theorem xTok_apply (x : S4096x128.Idx → EReal) (r : Fin 512) (d : Fin 1024) :
    xTok (F := Ideal) x (ix2 r d) = x (ix2 ⟨8 * r.val + d.val / 128, by omega⟩ ⟨d.val % 128, by omega⟩) := by
  unfold xTok
  pointwise [k0_pay8]
  split
  · exact row_eq x _ _ _ _ (by omega) (by omega)
  split
  · exact row_eq x _ _ _ _ (by omega) (by omega)
  split
  · exact row_eq x _ _ _ _ (by omega) (by omega)
  split
  · exact row_eq x _ _ _ _ (by omega) (by omega)
  split
  · exact row_eq x _ _ _ _ (by omega) (by omega)
  split
  · exact row_eq x _ _ _ _ (by omega) (by omega)
  split
  · exact row_eq x _ _ _ _ (by omega) (by omega)
  exact row_eq x _ _ _ _ (by omega) (by omega)

theorem gate_apply (x : S4096x128.Idx → EReal) (w : Vec Ideal S1024x1024 .bf16) (b : Vec Ideal S1x1x1024 .f32) (r : Fin 512) (d : Fin 1024) :
    k0_pay9 (F := Ideal) (fun y => x (sr0.idx y)) (fun y => x (sr1.idx y)) (fun y => x (sr2.idx y)) (fun y => x (sr3.idx y)) (fun y => x (sr4.idx y)) (fun y => x (sr5.idx y)) (fun y => x (sr6.idx y)) (fun y => x (sr7.idx y)) w b (ix2 r d)
      = gate (fun k => xTok (F := Ideal) x (ix2 r k)) (fun k j => w (ix2 k j)) (fun j => b (ix3 0 0 j)) d := by
  unfold xTok gate
  pointwise [k0_pay9]

theorem pay10_apply (X : FVec Ideal S512x1024 .bf16) (g : FVec Ideal S512x1024 .f32) (wu wd : Vec Ideal S1024x1024 .bf16) (bu bd : Vec Ideal S1x1x1024 .f32)
    (r : Fin 512) (d : Fin 1024) :
    k0_pay10 X g wu (constant S512x1024 .f32 0x00000000#32) bu wd bd (ix2 r d)
      = (∑ j, hidden (g (ix2 r j)) (up (fun k => X (ix2 r k)) (fun k j => wu (ix2 k j)) (fun j => bu (ix3 0 0 j)) j) * wd (ix2 j d)) + bd (ix3 0 0 d) := by
  unfold hidden up
  pointwise [k0_pay10]

/-- A block's answer, token by token. -/
theorem yTok_apply (x : S4096x128.Idx → EReal) (x1 x3 x5 : Vec Ideal S1x1024x1024 .f32) (x2 x4 x6 : S1x1x1024.Idx → EReal) (r : Fin 512) (d : Fin 1024) :
    yTok (F := Ideal) x (k0_pay1 x1) (k0_pay2 x3) (k0_pay3 x5) x2 x4 x6 (ix2 r d)
      = reply (fun k => x (ix2 ⟨8 * r.val + k.val / 128, by omega⟩ ⟨k.val % 128, by omega⟩)) (fun k j => x1 (ix3 0 k j)) (fun j => x2 (ix3 0 0 j))
          (fun k j => x3 (ix3 0 k j)) (fun j => x4 (ix3 0 0 j)) (fun k j => x5 (ix3 0 k j)) (fun j => x6 (ix3 0 0 j)) d := by
  unfold yTok
  rw [pay10_apply]
  unfold reply
  simp only [gate_apply, xTok_apply, weight1, weight2, weight3]

end Cert.Moe
-- ==== Proof.MoeReference.lean ====
/-
  The expert reference at exact reals: every stage read at an index, and its array as the plain formula.
-/
module

public import proofs.«01_k».proof.Proof.Gen.MoeReferenceIdeal.Read
public import proofs.«01_k».proof.Proof.MoeFormula

@[expose] public section

set_option maxRecDepth 16384

noncomputable section

namespace Cert.Moe

open Cert.MoeReferenceIdeal Cert.MoeReferenceIdeal.Gen Cert.MoeReferenceIdeal.Read Idealize.ShloMosaic Idealize.ShloMosaic.TcCoe

/-- The gather of every block's weights, at an index. -/
theorem gather_weight {α : Type} (x : S32x1024x1024.Idx → α) (idx : IVec S544x1 32) (n : Fin 544) (a b : Fin 1024) :
    Host.gather gather_S32x1024x1024_S544x1_S544x1024x1024_12_0_n_n_0_1_110241024 x idx (ix3 n a b) = x (ix3 ⟨min (idx (ix2 n 0)).toInt.toNat 31, by omega⟩ a b) := by
  unfold Host.gather
  refine congrArg x (funext fun z => Fin.ext ?_)
  match z with
  | ⟨0, _⟩ =>
    have hs : GatherDims.siIdx gather_S32x1024x1024_S544x1_S544x1024x1024_12_0_n_n_0_1_110241024 (ix3 n a b) ⟨0, by decide⟩ = ix2 n 0 := by
      funext b; match b with
      | ⟨0, _⟩ => rfl
      | ⟨1, _⟩ => rfl
    have e0 : GatherDims.start gather_S32x1024x1024_S544x1_S544x1024x1024_12_0_n_n_0_1_110241024 (ix3 n a b) idx 0
        = min (idx (GatherDims.siIdx gather_S32x1024x1024_S544x1_S544x1024x1024_12_0_n_n_0_1_110241024 (ix3 n a b) ⟨0, by decide⟩)).toInt.toNat 31 := rfl
    have e1 : GatherDims.batchCoord gather_S32x1024x1024_S544x1_S544x1024x1024_12_0_n_n_0_1_110241024 (ix3 n a b) 0 = 0 := rfl
    have e2 : GatherDims.offCoord gather_S32x1024x1024_S544x1_S544x1024x1024_12_0_n_n_0_1_110241024 (ix3 n a b) 0 = 0 := rfl
    rw [hs] at e0
    exact (congrArg₂ (· + ·) (congrArg₂ (· + ·) e0 e1) e2).trans (by show min (idx (ix2 n 0)).toInt.toNat 31 + 0 + 0 = min (idx (ix2 n 0)).toInt.toNat 31; omega)
  | ⟨1, _⟩ =>
    have e0 : GatherDims.start gather_S32x1024x1024_S544x1_S544x1024x1024_12_0_n_n_0_1_110241024 (ix3 n a b) idx 1 = 0 := rfl
    have e1 : GatherDims.batchCoord gather_S32x1024x1024_S544x1_S544x1024x1024_12_0_n_n_0_1_110241024 (ix3 n a b) 1 = 0 := rfl
    have e2 : GatherDims.offCoord gather_S32x1024x1024_S544x1_S544x1024x1024_12_0_n_n_0_1_110241024 (ix3 n a b) 1 = a.val := rfl
    exact (congrArg₂ (· + ·) (congrArg₂ (· + ·) e0 e1) e2).trans (by show 0 + 0 + a.val = a.val; omega)
  | ⟨2, _⟩ =>
    have e0 : GatherDims.start gather_S32x1024x1024_S544x1_S544x1024x1024_12_0_n_n_0_1_110241024 (ix3 n a b) idx 2 = 0 := rfl
    have e1 : GatherDims.batchCoord gather_S32x1024x1024_S544x1_S544x1024x1024_12_0_n_n_0_1_110241024 (ix3 n a b) 2 = 0 := rfl
    have e2 : GatherDims.offCoord gather_S32x1024x1024_S544x1_S544x1024x1024_12_0_n_n_0_1_110241024 (ix3 n a b) 2 = b.val := rfl
    exact (congrArg₂ (· + ·) (congrArg₂ (· + ·) e0 e1) e2).trans (by show 0 + 0 + b.val = b.val; omega)

/-- The gather of every block's biases, at an index. -/
theorem gather_bias {α : Type} (x : S32x1024.Idx → α) (idx : IVec S544x1 32) (n : Fin 544) (b : Fin 1024) :
    Host.gather gather_S32x1024_S544x1_S544x1024_1_0_n_n_0_1_11024 x idx (ix2 n b) = x (ix2 ⟨min (idx (ix2 n 0)).toInt.toNat 31, by omega⟩ b) := by
  unfold Host.gather
  refine congrArg x (funext fun z => Fin.ext ?_)
  match z with
  | ⟨0, _⟩ =>
    have hs : GatherDims.siIdx gather_S32x1024_S544x1_S544x1024_1_0_n_n_0_1_11024 (ix2 n b) ⟨0, by decide⟩ = ix2 n 0 := by
      funext b; match b with
      | ⟨0, _⟩ => rfl
      | ⟨1, _⟩ => rfl
    have e0 : GatherDims.start gather_S32x1024_S544x1_S544x1024_1_0_n_n_0_1_11024 (ix2 n b) idx 0
        = min (idx (GatherDims.siIdx gather_S32x1024_S544x1_S544x1024_1_0_n_n_0_1_11024 (ix2 n b) ⟨0, by decide⟩)).toInt.toNat 31 := rfl
    have e1 : GatherDims.batchCoord gather_S32x1024_S544x1_S544x1024_1_0_n_n_0_1_11024 (ix2 n b) 0 = 0 := rfl
    have e2 : GatherDims.offCoord gather_S32x1024_S544x1_S544x1024_1_0_n_n_0_1_11024 (ix2 n b) 0 = 0 := rfl
    rw [hs] at e0
    exact (congrArg₂ (· + ·) (congrArg₂ (· + ·) e0 e1) e2).trans (by show min (idx (ix2 n 0)).toInt.toNat 31 + 0 + 0 = min (idx (ix2 n 0)).toInt.toNat 31; omega)
  | ⟨1, _⟩ =>
    have e0 : GatherDims.start gather_S32x1024_S544x1_S544x1024_1_0_n_n_0_1_11024 (ix2 n b) idx 1 = 0 := rfl
    have e1 : GatherDims.batchCoord gather_S32x1024_S544x1_S544x1024_1_0_n_n_0_1_11024 (ix2 n b) 1 = 0 := rfl
    have e2 : GatherDims.offCoord gather_S32x1024_S544x1_S544x1024_1_0_n_n_0_1_11024 (ix2 n b) 1 = b.val := rfl
    exact (congrArg₂ (· + ·) (congrArg₂ (· + ·) e0 e1) e2).trans (by show 0 + 0 + b.val = b.val; omega)

/-- The expert index the reference gathers at: the table's word, counted from the end where negative. -/
def wrap (w : BitVec 32) : BitVec 32 := Scalar.select (IntOp.cmpi .slt w 0#32) (IntOp.addi w 32#32) w

theorem wrap_small : ∀ e : Fin 32, min (wrap (BitVec.ofNat 32 e.val)).toInt.toNat 31 = e.val := by decide +kernel

/-- A word below 32 is the expert it names. -/
theorem wrap_eq (w : BitVec 32) (h : w.toNat < 32) : min (wrap w).toInt.toNat 31 = w.toNat := by
  have e := wrap_small ⟨w.toNat, h⟩
  rwa [show BitVec.ofNat 32 (⟨w.toNat, h⟩ : Fin 32).val = w from by simp] at e

/-- Row `r` of block `n`. -/
def rowOf (x2 : S278528x1024.Idx → EReal) (n : Fin 544) (r : Fin 512) : Fin 1024 → EReal := fun k => x2 (ix2 ⟨512 * n.val + r.val, by omega⟩ k)

section

variable (x0 : (⟨S544, .i32⟩ : BufTy).Contents (Elt Ideal)) (x1 : (⟨S1, .i32⟩ : BufTy).Contents (Elt Ideal)) (x2 : (⟨S278528x1024, .f32⟩ : BufTy).Contents (Elt Ideal))
  (x3 : (⟨S32x1024x1024, .f32⟩ : BufTy).Contents (Elt Ideal)) (x4 : (⟨S32x1024, .f32⟩ : BufTy).Contents (Elt Ideal))
  (x5 : (⟨S32x1024x1024, .f32⟩ : BufTy).Contents (Elt Ideal)) (x6 : (⟨S32x1024, .f32⟩ : BufTy).Contents (Elt Ideal))
  (x7 : (⟨S32x1024x1024, .f32⟩ : BufTy).Contents (Elt Ideal)) (x8 : (⟨S32x1024, .f32⟩ : BufTy).Contents (Elt Ideal))

theorem at_v6 (n : Fin 544) : val_main_v6 (F := Ideal) x0 (ix2 n 0) = wrap (x0 (ix1 n)) := by
  unfold wrap
  pointwise [val_main_v6, val_main_v5, val_main_v2, val_main_v4, val_main_v1, val_main_v3, val_main_c, val_main_c_0, val_main_c_1, val_main_c_2, val_main_c_3, val_main_c_4, val_main_c_5, val_main_c_6, val_main_c_13, val_main_c_14, val_main_c_15, val_main_c_16]
theorem at_v14 (n : Fin 544) : val_main_v14 (F := Ideal) x0 (ix2 n 0) = wrap (x0 (ix1 n)) := by
  unfold wrap
  pointwise [val_main_v14, val_main_v13, val_main_v10, val_main_v12, val_main_v9, val_main_v11, val_main_c, val_main_c_0, val_main_c_1, val_main_c_2, val_main_c_3, val_main_c_4, val_main_c_5, val_main_c_6, val_main_c_13, val_main_c_14, val_main_c_15, val_main_c_16]
theorem at_v26 (n : Fin 544) : val_main_v26 (F := Ideal) x0 (ix2 n 0) = wrap (x0 (ix1 n)) := by
  unfold wrap
  pointwise [val_main_v26, val_main_v25, val_main_v22, val_main_v24, val_main_v21, val_main_v23, val_main_c, val_main_c_0, val_main_c_1, val_main_c_2, val_main_c_3, val_main_c_4, val_main_c_5, val_main_c_6, val_main_c_13, val_main_c_14, val_main_c_15, val_main_c_16]
theorem at_v34 (n : Fin 544) : val_main_v34 (F := Ideal) x0 (ix2 n 0) = wrap (x0 (ix1 n)) := by
  unfold wrap
  pointwise [val_main_v34, val_main_v33, val_main_v30, val_main_v32, val_main_v29, val_main_v31, val_main_c, val_main_c_0, val_main_c_1, val_main_c_2, val_main_c_3, val_main_c_4, val_main_c_5, val_main_c_6, val_main_c_13, val_main_c_14, val_main_c_15, val_main_c_16]
theorem at_v57 (n : Fin 544) : val_main_v57 (F := Ideal) x0 (ix2 n 0) = wrap (x0 (ix1 n)) := by
  unfold wrap
  pointwise [val_main_v57, val_main_v56, val_main_v53, val_main_v55, val_main_v52, val_main_v54, val_main_c, val_main_c_0, val_main_c_1, val_main_c_2, val_main_c_3, val_main_c_4, val_main_c_5, val_main_c_6, val_main_c_13, val_main_c_14, val_main_c_15, val_main_c_16]
theorem at_v65 (n : Fin 544) : val_main_v65 (F := Ideal) x0 (ix2 n 0) = wrap (x0 (ix1 n)) := by
  unfold wrap
  pointwise [val_main_v65, val_main_v64, val_main_v61, val_main_v63, val_main_v60, val_main_v62, val_main_c, val_main_c_0, val_main_c_1, val_main_c_2, val_main_c_3, val_main_c_4, val_main_c_5, val_main_c_6, val_main_c_13, val_main_c_14, val_main_c_15, val_main_c_16]

variable (n : Fin 544) (e : Fin 32) (he : (x0 (ix1 n)).toNat = e.val)

include he in
theorem at_v7 (a b : Fin 1024) : val_main_v7 (F := Ideal) x0 x3 (ix3 n a b) = x3 (ix3 e a b) := by
  unfold val_main_v7
  rw [gather_weight]
  refine congrArg (fun z => x3 (ix3 z a b)) (Fin.ext ?_)
  show min (val_main_v6 (F := Ideal) x0 (ix2 n 0)).toInt.toNat 31 = e.val
  rw [at_v6, wrap_eq _ (by rw [he]; exact e.isLt), he]
include he in
theorem at_v27 (a b : Fin 1024) : val_main_v27 (F := Ideal) x0 x5 (ix3 n a b) = x5 (ix3 e a b) := by
  unfold val_main_v27
  rw [gather_weight]
  refine congrArg (fun z => x5 (ix3 z a b)) (Fin.ext ?_)
  show min (val_main_v26 (F := Ideal) x0 (ix2 n 0)).toInt.toNat 31 = e.val
  rw [at_v26, wrap_eq _ (by rw [he]; exact e.isLt), he]
include he in
theorem at_v58 (a b : Fin 1024) : val_main_v58 (F := Ideal) x0 x7 (ix3 n a b) = x7 (ix3 e a b) := by
  unfold val_main_v58
  rw [gather_weight]
  refine congrArg (fun z => x7 (ix3 z a b)) (Fin.ext ?_)
  show min (val_main_v57 (F := Ideal) x0 (ix2 n 0)).toInt.toNat 31 = e.val
  rw [at_v57, wrap_eq _ (by rw [he]; exact e.isLt), he]
include he in
theorem at_v15 (b : Fin 1024) : val_main_v15 (F := Ideal) x0 x4 (ix2 n b) = x4 (ix2 e b) := by
  unfold val_main_v15
  rw [gather_bias]
  refine congrArg (fun z => x4 (ix2 z b)) (Fin.ext ?_)
  show min (val_main_v14 (F := Ideal) x0 (ix2 n 0)).toInt.toNat 31 = e.val
  rw [at_v14, wrap_eq _ (by rw [he]; exact e.isLt), he]
include he in
theorem at_v35 (b : Fin 1024) : val_main_v35 (F := Ideal) x0 x6 (ix2 n b) = x6 (ix2 e b) := by
  unfold val_main_v35
  rw [gather_bias]
  refine congrArg (fun z => x6 (ix2 z b)) (Fin.ext ?_)
  show min (val_main_v34 (F := Ideal) x0 (ix2 n 0)).toInt.toNat 31 = e.val
  rw [at_v34, wrap_eq _ (by rw [he]; exact e.isLt), he]
include he in
theorem at_v66 (b : Fin 1024) : val_main_v66 (F := Ideal) x0 x8 (ix2 n b) = x8 (ix2 e b) := by
  unfold val_main_v66
  rw [gather_bias]
  refine congrArg (fun z => x8 (ix2 z b)) (Fin.ext ?_)
  show min (val_main_v65 (F := Ideal) x0 (ix2 n 0)).toInt.toNat 31 = e.val
  rw [at_v65, wrap_eq _ (by rw [he]; exact e.isLt), he]

theorem at_v0 (r : Fin 512) (k : Fin 1024) : val_main_v0 (F := Ideal) x2 (ix3 n r k) = rowOf x2 n r k := by
  unfold rowOf
  pointwise [val_main_v0]
  simp only [Nat.mul_comm n.val 512]

include he in
theorem at_v20 (r : Fin 512) (j : Fin 1024) : val_main_v20 (F := Ideal) x0 x2 x3 x4 (ix3 n r j)
    = gate (rowOf x2 n r) (fun k j => x3 (ix3 e k j)) (fun j => x4 (ix2 e j)) j := by
  have hd : val_main_v8 (F := Ideal) x0 x2 x3 (ix3 n r j) = ∑ k : Fin 1024, rowOf x2 n r k * x3 (ix3 e k j) := by
    rw [val_main_v8_apply]
    refine Finset.sum_congr rfl fun k _ => ?_
    have hl : lidx_main_v8 (ix3 n r j) k = ix3 n r k := funext fun z => match z with | ⟨0, _⟩ => rfl | ⟨1, _⟩ => rfl | ⟨2, _⟩ => rfl
    have hr : ridx_main_v8 (ix3 n r j) k = ix3 n k j := funext fun z => match z with | ⟨0, _⟩ => rfl | ⟨1, _⟩ => rfl | ⟨2, _⟩ => rfl
    rw [hl, hr, at_v0, at_v7 x0 x3 n e he]
  have hb : val_main_v17 (F := Ideal) x0 x4 (ix3 n r j) = x4 (ix2 e j) := by
    rw [← at_v15 x0 x4 n e he j]
    pointwise [val_main_v17, val_main_v16]
  unfold gate
  dsimp only
  rw [← hd, ← hb]
  pointwise [val_main_v20, val_main_v18, val_main_v19, val_main_cst, val_main_cst_7, val_main_cst_8, val_main_cst_9, val_main_cst_10, val_main_cst_11, val_main_cst_12, val_main_cst_17]

include he in
theorem at_v39 (r : Fin 512) (j : Fin 1024) : val_main_v39 (F := Ideal) x0 x2 x5 x6 (ix3 n r j)
    = up (rowOf x2 n r) (fun k j => x5 (ix3 e k j)) (fun j => x6 (ix2 e j)) j := by
  have hd : val_main_v28 (F := Ideal) x0 x2 x5 (ix3 n r j) = ∑ k : Fin 1024, rowOf x2 n r k * x5 (ix3 e k j) := by
    rw [val_main_v28_apply]
    refine Finset.sum_congr rfl fun k _ => ?_
    have hl : lidx_main_v28 (ix3 n r j) k = ix3 n r k := funext fun z => match z with | ⟨0, _⟩ => rfl | ⟨1, _⟩ => rfl | ⟨2, _⟩ => rfl
    have hr : ridx_main_v28 (ix3 n r j) k = ix3 n k j := funext fun z => match z with | ⟨0, _⟩ => rfl | ⟨1, _⟩ => rfl | ⟨2, _⟩ => rfl
    rw [hl, hr, at_v0, at_v27 x0 x5 n e he]
  have hb : val_main_v37 (F := Ideal) x0 x6 (ix3 n r j) = x6 (ix2 e j) := by
    rw [← at_v35 x0 x6 n e he j]
    pointwise [val_main_v37, val_main_v36]
  unfold up
  dsimp only
  rw [← hd, ← hb]
  pointwise [val_main_v39, val_main_v38, val_main_call0_v0_apply, val_main_call0_v1, val_main_call0_v2, val_main_call0_v3_apply, val_main_call0_v4, val_main_cst, val_main_cst_7, val_main_cst_8, val_main_cst_9, val_main_cst_10, val_main_cst_11, val_main_cst_12, val_main_cst_17]

theorem at_v51 (r : Fin 512) (j : Fin 1024) : val_main_v51 (F := Ideal) x0 x2 x3 x4 x5 x6 (ix3 n r j)
    = hidden (val_main_v20 (F := Ideal) x0 x2 x3 x4 (ix3 n r j)) (val_main_v39 (F := Ideal) x0 x2 x5 x6 (ix3 n r j)) := by
  unfold hidden Ideal.logistic
  pointwise [val_main_v51, val_main_v50, val_main_v49, val_main_v48, val_main_v47, val_main_v46, val_main_v45, val_main_v44, val_main_v43, val_main_v42, val_main_v41, val_main_v40, val_main_cst, val_main_cst_7, val_main_cst_8, val_main_cst_9, val_main_cst_10, val_main_cst_11, val_main_cst_12, val_main_cst_17]

include he in
/-- The reference's answer to row `r` of block `n`, whose expert is `e`. -/
theorem at_v69 (r : Fin 512) (d : Fin 1024) : val_main_v69 (F := Ideal) x0 x2 x3 x4 x5 x6 x7 x8 (ix3 n r d)
    = reply (rowOf x2 n r) (fun k j => x3 (ix3 e k j)) (fun j => x4 (ix2 e j)) (fun k j => x5 (ix3 e k j)) (fun j => x6 (ix2 e j))
        (fun k j => x7 (ix3 e k j)) (fun j => x8 (ix2 e j)) d := by
  have hd : val_main_v59 (F := Ideal) x0 x2 x3 x4 x5 x6 x7 (ix3 n r d)
      = ∑ j : Fin 1024, hidden (gate (rowOf x2 n r) (fun k j => x3 (ix3 e k j)) (fun j => x4 (ix2 e j)) j)
          (up (rowOf x2 n r) (fun k j => x5 (ix3 e k j)) (fun j => x6 (ix2 e j)) j) * x7 (ix3 e j d) := by
    rw [val_main_v59_apply]
    refine Finset.sum_congr rfl fun k _ => ?_
    have hl : lidx_main_v59 (ix3 n r d) k = ix3 n r k := funext fun z => match z with | ⟨0, _⟩ => rfl | ⟨1, _⟩ => rfl | ⟨2, _⟩ => rfl
    have hr : ridx_main_v59 (ix3 n r d) k = ix3 n k d := funext fun z => match z with | ⟨0, _⟩ => rfl | ⟨1, _⟩ => rfl | ⟨2, _⟩ => rfl
    rw [hl, hr, at_v51, at_v20 x0 x2 x3 x4 n e he, at_v39 x0 x2 x5 x6 n e he, at_v58 x0 x7 n e he]
  have hb : val_main_v68 (F := Ideal) x0 x8 (ix3 n r d) = x8 (ix2 e d) := by
    rw [← at_v66 x0 x8 n e he d]
    pointwise [val_main_v68, val_main_v67]
  unfold reply
  dsimp only
  rw [← hd, ← hb]
  rfl

theorem at_v75 (r : Fin 512) (d : Fin 1024) : val_main_v75 (F := Ideal) x0 x1 x2 x3 x4 x5 x6 x7 x8 (ix3 n r d)
    = Scalar.select (IntOp.cmpi .slt (BitVec.ofNat 32 n.val) (x1 (ix1 0))) (val_main_v69 (F := Ideal) x0 x2 x3 x4 x5 x6 x7 x8 (ix3 n r d)) 0 := by
  pointwise [val_main_v75, val_main_call1_v1, val_main_call1_v2, val_main_call1_v0_apply, val_main_v74, val_main_v73, val_main_v72, val_main_v71, val_main_v70, val_main_cst, val_main_cst_7, val_main_cst_8, val_main_cst_9, val_main_cst_10, val_main_cst_11, val_main_cst_12, val_main_cst_17]

include he in
/-- THE REFERENCE'S ARRAY at row `R`, lane `l`: the answer of the block's expert where the block is used, zero elsewhere. -/
theorem reference_apply (R : Fin 2228224) (l : Fin 128) (hn : n.val = R.val / 4096) :
    val_main_v76 (F := Ideal) x0 x1 x2 x3 x4 x5 x6 x7 x8 (ix2 R l)
      = Scalar.select (IntOp.cmpi .slt (BitVec.ofNat 32 n.val) (x1 (ix1 0)))
          (reply (rowOf x2 n ⟨R.val % 4096 / 8, by omega⟩) (fun k j => x3 (ix3 e k j)) (fun j => x4 (ix2 e j)) (fun k j => x5 (ix3 e k j)) (fun j => x6 (ix2 e j))
            (fun k j => x7 (ix3 e k j)) (fun j => x8 (ix2 e j)) ⟨128 * (R.val % 8) + l.val, by omega⟩) 0 := by
  rw [val_main_v76_apply, ← at_v69 x0 x2 x3 x4 x5 x6 x7 x8 n e he, ← at_v75]
  refine congrArg _ (funext fun a => Fin.ext ?_)
  match a with
  | ⟨0, _⟩ => show (R.val * 128 + l.val) / 524288 = n.val; omega
  | ⟨1, _⟩ => show (R.val * 128 + l.val) / 1024 % 512 = R.val % 4096 / 8; omega
  | ⟨2, _⟩ => show (R.val * 128 + l.val) % 1024 = 128 * (R.val % 8) + l.val; omega

end

end Cert.Moe
-- ==== Proof.MoeValue.lean ====
/-
  The expert kernel's array and the reference's are one: every block, used or not, row by row.
-/
module

public import proofs.«01_k».proof.Proof.MoeRun
public import proofs.«01_k».proof.Proof.MoeExpert
public import proofs.«01_k».proof.Proof.MoeReference
public import Idealize.ShloMosaic.Lib.Pipeline.ValueKit.Geometry

@[expose] public section

set_option maxRecDepth 16384

noncomputable section

namespace Cert.Moe

open Cert.MoeKernelIdeal Cert.MoeKernelIdeal.Gen Idealize.ShloMosaic Idealize.ShloMosaic.TcCoe Idealize.ShloMosaic.Tactic

theorem same1 {n0 : ℕ} (a : Fin n0) : ValueIdx.ix1 a = ix1 a := funext fun z => match z with | ⟨0, _⟩ => rfl
theorem same2 {n0 n1 : ℕ} (a : Fin n0) (b : Fin n1) : ValueIdx.ix2 a b = ix2 a b := funext fun z => match z with | ⟨0, _⟩ => rfl | ⟨1, _⟩ => rfl
theorem same3 {n0 n1 n2 : ℕ} (a : Fin n0) (b : Fin n1) (d : Fin n2) : ValueIdx.ix3 a b d = ix3 a b d :=
  funext fun z => match z with | ⟨0, _⟩ => rfl | ⟨1, _⟩ => rfl | ⟨2, _⟩ => rfl

variable {T0 : S544.Idx → BitVec 32} {T1 : S1.Idx → BitVec 32} (hR : Routed T0 T1)
variable (m : (ℓ : Loc nD τ sig) → Buf (Elt Ideal) ℓ) (c : Dev nD)

/-- The rows the pipeline stages are the feature rows cut into eight. -/
theorem V_rows (R : Fin 2228224) (l : Fin 128) :
    V m c main_v0 (ix2 R l) = m ((c : Thread nD τ).loc main_arg2) (ix2 ⟨R.val / 8, by omega⟩ ⟨128 * (R.val % 8) + l.val, by omega⟩) := by
  unfold V hostOps0
  after_results
  pointwise []
  exact congrArg (m ((c : Thread nD τ).loc main_arg2)) (congrArg (ix2 _) (Fin.ext (by show R.val % 8 * 128 + l.val = 128 * (R.val % 8) + l.val; omega)))

theorem V_bias1 (e : Fin 32) (d : Fin 1024) : V m c main_v1 (ix3 e 0 d) = m ((c : Thread nD τ).loc main_arg4) (ix2 e d) := by
  unfold V hostOps0
  after_results
  pointwise []

theorem V_bias2 (e : Fin 32) (d : Fin 1024) : V m c main_v2 (ix3 e 0 d) = m ((c : Thread nD τ).loc main_arg6) (ix2 e d) := by
  unfold V hostOps0
  after_results
  pointwise []

theorem V_bias3 (e : Fin 32) (d : Fin 1024) : V m c main_v3 (ix3 e 0 d) = m ((c : Thread nD τ).loc main_arg8) (ix2 e d) := by
  unfold V hostOps0
  after_results
  pointwise []

/-- A used block's rows are its own. -/
theorem blk0_at (t : Fin (cfgA hR (F := Ideal)).N) (ht : t.val < (T1 (ValueIdx.ix1 0)).toNat) (y : S4096x128.Idx) :
    blk0 hR m c t y = V m c main_v0 (ix2 ⟨4096 * t.val + (y 0).val, by
      have := t.isLt; have := N_eq hR (F := Ideal); have h0 : (y 0).val < 4096 := (y 0).isLt; omega⟩ (y 1)) := by
  show V m c main_v0 ((((cfgA hR (F := Ideal)).win (0 : Fin 8)).blk t).view.emb y) = _
  refine congrArg (V m c main_v0) (funext fun a => Fin.ext ?_)
  have e := tr0 (F := Ideal) T0 T1 hR (crd hR t)
  have ec : (crd hR t 0).val = t.val := crd_val hR t
  match a with
  | ⟨0, _⟩ =>
    show cc0_transform_0 inb_S1_S1_0 numel1_S1 (tabs (F := Ideal) T0 T1) (crd hR t) (0 : Fin 2) * 4096 + 1 * (y 0).val = 4096 * t.val + (y 0).val
    rw [e]; show min (crd hR t 0).val ((T1 (ValueIdx.ix1 0)).toNat - 1) * 4096 + 1 * (y 0).val = _; rw [ec]; omega
  | ⟨1, _⟩ =>
    show cc0_transform_0 inb_S1_S1_0 numel1_S1 (tabs (F := Ideal) T0 T1) (crd hR t) (1 : Fin 2) * 128 + 1 * (y 1).val = (y 1).val
    rw [e]; show 0 * 128 + 1 * (y 1).val = _; omega

/-- Every point writes its own block of the array back. -/
theorem flush_all : ∀ t : Fin grid0.N, Pipeline.Window.flushOf grid0 true cc0_transform_7 t = true := by decide +kernel

theorem tr7 : ∀ t : Fin grid0.N, cc0_transform_7 (grid0.coords t) = ![t.val, 0] := by decide +kernel

theorem emb7 (t : Fin (cfgA hR (F := Ideal)).N) (y : S4096x128.Idx) :
    (((cfgA hR (F := Ideal)).win (7 : Fin 8)).blk t).view.emb y = ix2 (⟨4096 * t.val + (y 0).val, by
      have := t.isLt; have := N_eq hR (F := Ideal); have h0 : (y 0).val < 4096 := (y 0).isLt; omega⟩ : Fin 2228224) (y 1) := by
  refine funext fun a => Fin.ext ?_
  have e := tr7 t
  match a with
  | ⟨0, _⟩ =>
    show cc0_transform_7 (grid0.coords t) (0 : Fin 2) * 4096 + 1 * (y 0).val = 4096 * t.val + (y 0).val
    rw [e]; show t.val * 4096 + 1 * (y 0).val = _; omega
  | ⟨1, _⟩ =>
    show cc0_transform_7 (grid0.coords t) (1 : Fin 2) * 128 + 1 * (y 1).val = (y 1).val
    rw [e]; show 0 * 128 + 1 * (y 1).val = _; omega

/-- The expert reference's array at the kernel's arguments. -/
abbrev refArray : S2228224x128.Idx → EReal :=
  Cert.MoeReferenceIdeal.Read.val_main_v76 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- Whether a block is used, as the reference asks it. -/
theorem used_word (n : Fin 544) (v : BitVec 32) (h : v.toNat ≤ 544) :
    IntOp.cmpi .slt (BitVec.ofNat 32 n.val) v = BitVec.ofBool (decide (n.val < v.toNat)) := by
  have e : (BitVec.ofNat 32 n.val).toNat = n.val := by simp only [BitVec.toNat_ofNat]; omega
  show BitVec.ofBool ((BitVec.ofNat 32 n.val).slt v) = _
  rw [slt_small _ _ (by rw [e]; omega) (by omega), e]

/-- A used block's row of 1024 features is the reference's. -/
theorem row_at (t : Fin (cfgA hR (F := Ideal)).N) (n : Fin 544) (hn : n.val = t.val) (ht : t.val < (T1 (ValueIdx.ix1 0)).toNat) (r : Fin 512) :
    (fun k : Fin 1024 => blk0 hR m c t (ix2 ⟨8 * r.val + k.val / 128, by omega⟩ ⟨k.val % 128, by omega⟩))
      = rowOf (m ((c : Thread nD τ).loc main_arg2)) n r := by
  funext k
  unfold rowOf
  rw [blk0_at hR m c t ht]
  refine (V_rows m c _ _).trans (congrArg₂ (fun p q => m ((c : Thread nD τ).loc main_arg2) (ix2 p q)) (Fin.ext ?_) (Fin.ext ?_))
  · show (4096 * t.val + (8 * r.val + k.val / 128)) / 8 = 512 * n.val + r.val; omega
  · show 128 * ((4096 * t.val + (8 * r.val + k.val / 128)) % 8) + k.val % 128 = k.val; omega

/-- What a point leaves is the reference's rows of its block. -/
theorem out_eq (hT : At T0 T1 m) (t : Fin (cfgA hR (F := Ideal)).N) (n : Fin 544) (hn : n.val = t.val) (a : Fin 4096) (l : Fin 128) :
    out hR m c t (ix2 a l) = refArray m c (ix2 ⟨4096 * n.val + a.val, by omega⟩ l) := by
  have ec : (crd hR t 0).val = t.val := crd_val hR t
  obtain ⟨eT0, eT1⟩ := hT c
  obtain ⟨-, -, -, e3, -, e5, -, e7, -⟩ := V_arg m c
  have hx : expertIx (crd hR t) = ix1 n := by
    unfold expertIx
    rw [same1]
    exact congrArg ix1 (Fin.ext (ec.trans hn.symm))
  refine Eq.trans ?_ (reference_apply _ _ _ _ _ _ _ _ _ n (expert hR (crd hR t)) (by rw [eT0, ← hx]; rfl) _ l
    (by show n.val = (4096 * n.val + a.val) / 4096; omega)).symm
  rw [eT1, used_word n _ (by rw [← same1]; exact hR.le), Scalar.select_ofBool]
  unfold out answer
  rw [nuAt_eq, ← same1]
  by_cases hu : n.val < (T1 (ValueIdx.ix1 0)).toNat
  · rw [if_pos ((used_iff (crd hR t) _ hR.le).mpr (by rw [ec, ← hn]; exact hu)), if_pos (by simpa using hu)]
    have hr : (⟨(4096 * n.val + a.val) % 4096 / 8, by omega⟩ : Fin 512) = ⟨a.val / 8, by omega⟩ := Fin.ext (by show (4096 * n.val + a.val) % 4096 / 8 = a.val / 8; omega)
    have hd : (⟨128 * ((4096 * n.val + a.val) % 8) + l.val, by omega⟩ : Fin 1024) = ⟨128 * (a.val % 8) + l.val, by omega⟩ :=
      Fin.ext (by show 128 * ((4096 * n.val + a.val) % 8) + l.val = 128 * (a.val % 8) + l.val; omega)
    rw [hr, hd]
    unfold outRows
    refine (congrArg _ (same2 _ _)).trans ((yTok_apply _ _ _ _ _ _ _ ⟨a.val / 8, by omega⟩ ⟨128 * (a.val % 8) + l.val, by omega⟩).trans ?_)
    rw [row_at hR m c t n hn (hn ▸ hu)]
    have g1 : (fun k j : Fin 1024 => blk1 hR m c t (ix3 0 k j)) = fun k j => m ((c : Thread nD τ).loc main_arg3) (ix3 (expert hR (crd hR t)) k j) :=
      funext fun k => funext fun j => by rw [blk1_at, e3]; exact congrArg _ (same3 _ _ _)
    have g3 : (fun k j : Fin 1024 => blk3 hR m c t (ix3 0 k j)) = fun k j => m ((c : Thread nD τ).loc main_arg5) (ix3 (expert hR (crd hR t)) k j) :=
      funext fun k => funext fun j => by rw [blk3_at, e5]; exact congrArg _ (same3 _ _ _)
    have g5 : (fun k j : Fin 1024 => blk5 hR m c t (ix3 0 k j)) = fun k j => m ((c : Thread nD τ).loc main_arg7) (ix3 (expert hR (crd hR t)) k j) :=
      funext fun k => funext fun j => by rw [blk5_at, e7]; exact congrArg _ (same3 _ _ _)
    have g2 : (fun j : Fin 1024 => blk2 hR m c t (ix3 0 0 j)) = fun j => m ((c : Thread nD τ).loc main_arg4) (ix2 (expert hR (crd hR t)) j) :=
      funext fun j => by rw [blk2_at]; exact (congrArg _ (same3 _ _ _)).trans (V_bias1 m c _ j)
    have g4 : (fun j : Fin 1024 => blk4 hR m c t (ix3 0 0 j)) = fun j => m ((c : Thread nD τ).loc main_arg6) (ix2 (expert hR (crd hR t)) j) :=
      funext fun j => by rw [blk4_at]; exact (congrArg _ (same3 _ _ _)).trans (V_bias2 m c _ j)
    have g6 : (fun j : Fin 1024 => blk6 hR m c t (ix3 0 0 j)) = fun j => m ((c : Thread nD τ).loc main_arg8) (ix2 (expert hR (crd hR t)) j) :=
      funext fun j => by rw [blk6_at]; exact (congrArg _ (same3 _ _ _)).trans (V_bias3 m c _ j)
    rw [g1, g2, g3, g4, g5, g6]
  · rw [if_neg (fun h => hu (by have := (used_iff (crd hR t) _ hR.le).mp h; rwa [ec, ← hn] at this)), if_neg (by simpa using hu)]
    pointwise [k0_pay7]

/-- THE ARRAYS: what the kernel leaves is the reference's array. -/
theorem arrays_eq (hT : At T0 T1 m) : (dats hR m 0 c).arrAt (7 : Fin 8) (cfgA hR (F := Ideal)).N = refArray m c := by
  have hN := N_eq hR (F := Ideal)
  refine (dats hR m 0 c).arrAt_eq_of_emb (7 : Fin 8) _ (fun t _ y => ?_) (fun i => ?_)
  · have ht : t.val < 544 := lt_of_lt_of_eq t.isLt hN
    show out hR m c t y = refArray m c ((((cfgA hR (F := Ideal)).win (7 : Fin 8)).blk t).view.emb y)
    rw [emb7]
    have hy : y = ix2 (n0 := 4096) (n1 := 128) (y 0) (y 1) := funext fun z => match z with | ⟨0, _⟩ => rfl | ⟨1, _⟩ => rfl
    exact (congrArg _ hy).trans (out_eq hR m c hT t ⟨t.val, by omega⟩ rfl (y 0) (y 1))
  · have h0 : (i 0).val < 2228224 := (i 0).isLt
    have h1 : (i 1).val < 128 := (i 1).isLt
    let t : Fin (cfgA hR (F := Ideal)).N := ⟨(i 0).val / 4096, by omega⟩
    refine ⟨t, flush_all t, ?_⟩
    have hi : i = (((cfgA hR (F := Ideal)).win (7 : Fin 8)).blk t).view.emb (ix2 (n0 := 4096) (n1 := 128) ⟨(i 0).val % 4096, by omega⟩ ⟨(i 1).val, h1⟩) := by
      rw [emb7]
      refine funext fun z => Fin.ext ?_
      match z with
      | ⟨0, _⟩ => show (i 0).val = 4096 * ((i 0).val / 4096) + (i 0).val % 4096; omega
      | ⟨1, _⟩ => rfl
    rw [hi]
    exact View.emb_mem_set _ _

end Cert.Moe
-- ==== Proof.MergeBody.lean ====
module

public import proofs.«01_k».proof.Proof.Gen.MergeKernelIdeal.Skeleton
public import proofs.«01_k».proof.Proof.Gen.MergeKernelIdeal.Launch
public import Idealize.ShloMosaic.Lib.Pipeline.FrameBody
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.ValueIdx

/-! The merge kernel's body at one grid point: what it leaves in its three output blocks, from its
    eleven input blocks. -/

@[expose] public section

set_option maxRecDepth 16384

noncomputable section

namespace Cert.Merge

open Cert.MergeKernelIdeal Cert.MergeKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight interleaved sets of rows of an output block: set `k` is the rows `k`, `k + 8`, `k + 16`, … -/
abbrev mr0 : LoadRect S8192x128 := ⟨![0, 0], S1024x128.size, ![8, 1], inb_S8192x128_S1024x128_0_0_s_8_1⟩
abbrev mr1 : LoadRect S8192x128 := ⟨![1, 0], S1024x128.size, ![8, 1], inb_S8192x128_S1024x128_1_0_s_8_1⟩
abbrev mr2 : LoadRect S8192x128 := ⟨![2, 0], S1024x128.size, ![8, 1], inb_S8192x128_S1024x128_2_0_s_8_1⟩
abbrev mr3 : LoadRect S8192x128 := ⟨![3, 0], S1024x128.size, ![8, 1], inb_S8192x128_S1024x128_3_0_s_8_1⟩
abbrev mr4 : LoadRect S8192x128 := ⟨![4, 0], S1024x128.size, ![8, 1], inb_S8192x128_S1024x128_4_0_s_8_1⟩
abbrev mr5 : LoadRect S8192x128 := ⟨![5, 0], S1024x128.size, ![8, 1], inb_S8192x128_S1024x128_5_0_s_8_1⟩
abbrev mr6 : LoadRect S8192x128 := ⟨![6, 0], S1024x128.size, ![8, 1], inb_S8192x128_S1024x128_6_0_s_8_1⟩
abbrev mr7 : LoadRect S8192x128 := ⟨![7, 0], S1024x128.size, ![8, 1], inb_S8192x128_S1024x128_7_0_s_8_1⟩

/-- The two halves of the gate weights' columns. -/
abbrev lh : LoadRect S1024x2048 := (Rect.unit (s := S1024x2048) ![0, 0] S1024x1024.size inb_S1024x2048_S1024x1024_0_0).toLoadRect
abbrev rh : LoadRect S1024x2048 := (Rect.unit (s := S1024x2048) ![0, 1024] S1024x1024.size inb_S1024x2048_S1024x1024_0_1024).toLoadRect

/-- The normalised rows of a block, token by token. -/
abbrev xNew (x0 : S1024x1024.Idx → Elt F .f32) (x1 x2 : S1024x512.Idx → Elt F .bf16) (x3 : S1024x2048.Idx → Elt F .bf16) (x4 x5 : S512x1024.Idx → Elt F .bf16) (x6 : S1024x1024.Idx → Elt F .bf16) (x7 x8 : S1x1024.Idx → Elt F .f32) : FVec F S1024x1024 .f32 :=
  k0_pay9 (k0_pay6 x0 (fun y => x3 (lh.idx y)) x1 x4 (fun y => x3 (rh.idx y)) x2 x5 x6) (k0_pay7 x7) (k0_pay8 x8)

/-- The chosen experts of a block's tokens, and their shares, from the normalised rows. -/
abbrev picks (X : FVec F S1024x1024 .f32) (x9 : S32x1024.Idx → Elt F .bf16) (x10 : S32x1.Idx → Elt F .f32) : S4x1024.Idx → Elt F .i32 :=
  k0_pay4 (iota .tc S32x1024 32 [0] iota_S32x1024_d0_w32) (k0_pay20 X x9 x10) (k0_pay23 X x9 x10) (k0_pay24 X x9 x10) (k0_pay26 X x9 x10)
abbrev shares (X : FVec F S1024x1024 .f32) (x9 : S32x1024.Idx → Elt F .bf16) (x10 : S32x1.Idx → Elt F .f32) : S4x1024.Idx → Elt F .f32 :=
  k0_pay5 (iota .tc S32x1024 32 [0] iota_S32x1024_d0_w32) (k0_pay19 X x9 x10) (k0_pay22 X x9 x10) (k0_pay24 X x9 x10) (k0_pay25 X x9 x10) (k0_pay26 X x9 x10)

/-- A token's row of 1024 cut into eight rows of 128. -/
def outRows (Y : S1024x1024.Idx → F .f32) : S8192x128.Idx → Elt F .f32 := fun y =>
  Y (ValueIdx.ix2 ⟨(y 0).val / 8, by have : (y 0).val < 8192 := (y 0).isLt; omega⟩ ⟨128 * ((y 0).val % 8) + (y 1).val, by have : (y 1).val < 128 := (y 1).isLt; omega⟩)

theorem piece_eq (k : ℕ) (hk : k < 8) (Y : S1024x1024.Idx → F .f32) (h : S1024x1024.Slices ![0, 128 * k] S1024x128) (inb) (x : S1024x128.Idx) :
    extractStridedSlice S1024x128 ![0, 128 * k] Y h x = outRows Y ((⟨![k, 0], S1024x128.size, ![8, 1], inb⟩ : LoadRect S8192x128).idx x) := by
  have h0 : (x 0).val < 1024 := (x 0).isLt
  have h1 : (x 1).val < 128 := (x 1).isLt
  unfold extractStridedSlice outRows
  refine congrArg Y (funext fun a => Fin.ext ?_)
  match a with
  | ⟨0, _⟩ => show 0 + (x 0).val = (k + 8 * (x 0).val) / 8; omega
  | ⟨1, _⟩ => show 128 * k + (x 1).val = 128 * ((k + 8 * (x 0).val) % 8) + (0 + 1 * (x 1).val); omega

theorem mem_rows (k : ℕ) (inb) (pos) (y : S8192x128.Idx) (h : (y 0).val % 8 = k) :
    y ∈ (⟨⟨![k, 0], S1024x128.size, ![8, 1], inb⟩, pos⟩ : Rect S8192x128).set := by
  have h0 : (y 0).val < 8192 := (y 0).isLt
  have h1 : (y 1).val < 128 := (y 1).isLt
  refine LoadRect.mem_set _ |>.mpr fun a => ?_
  match a with
  | ⟨0, _⟩ => exact ⟨(y 0).val / 8, show _ < 1024 by omega, show (y 0).val = k + 8 * ((y 0).val / 8) by omega⟩
  | ⟨1, _⟩ => exact ⟨(y 1).val, show _ < 128 by omega, show (y 1).val = 0 + 1 * (y 1).val by omega⟩

/-- Eight interleaved stores of a token matrix's eight column bands leave its rows. -/
theorem out_read (v : View sig .tc .vmem S8192x128 .f32) (f : v.ty.Contents (Elt F)) (z : FVec F S1024x1024 .f32) (g b : FVec F S1x1024 .f32) :
    v.read (Elt F) (v.writes (Elt F) f
      [⟨⟨mr7, spos_8_1⟩, k0_pay17 (k0_pay9 z g b)⟩,
        ⟨⟨mr6, spos_8_1⟩, k0_pay16 z g b⟩,
        ⟨⟨mr5, spos_8_1⟩, k0_pay15 z g b⟩,
        ⟨⟨mr4, spos_8_1⟩, k0_pay14 z g b⟩,
        ⟨⟨mr3, spos_8_1⟩, k0_pay13 z g b⟩,
        ⟨⟨mr2, spos_8_1⟩, k0_pay12 z g b⟩,
        ⟨⟨mr1, spos_8_1⟩, k0_pay11 z g b⟩,
        ⟨⟨mr0, spos_8_1⟩, k0_pay10 z g b⟩]) = outRows (k0_pay9 z g b) := by
  funext y
  refine View.read_writes_apply_of_pieces v f (outRows _) _ ?_ y ?_
  · intro p hp x
    simp only [List.mem_cons, List.not_mem_nil, or_false] at hp
    rcases hp with rfl | rfl | rfl | rfl | rfl | rfl | rfl | rfl
    · exact piece_eq (F := F) 7 (by decide) (k0_pay9 z g b) slices_S1024x1024_o0_896_S1024x128 inb_S8192x128_S1024x128_7_0_s_8_1 x
    · exact piece_eq (F := F) 6 (by decide) (k0_pay9 z g b) slices_S1024x1024_o0_768_S1024x128 inb_S8192x128_S1024x128_6_0_s_8_1 x
    · exact piece_eq (F := F) 5 (by decide) (k0_pay9 z g b) slices_S1024x1024_o0_640_S1024x128 inb_S8192x128_S1024x128_5_0_s_8_1 x
    · exact piece_eq (F := F) 4 (by decide) (k0_pay9 z g b) slices_S1024x1024_o0_512_S1024x128 inb_S8192x128_S1024x128_4_0_s_8_1 x
    · exact piece_eq (F := F) 3 (by decide) (k0_pay9 z g b) slices_S1024x1024_o0_384_S1024x128 inb_S8192x128_S1024x128_3_0_s_8_1 x
    · exact piece_eq (F := F) 2 (by decide) (k0_pay9 z g b) slices_S1024x1024_o0_256_S1024x128 inb_S8192x128_S1024x128_2_0_s_8_1 x
    · exact piece_eq (F := F) 1 (by decide) (k0_pay9 z g b) slices_S1024x1024_o0_128_S1024x128 inb_S8192x128_S1024x128_1_0_s_8_1 x
    · exact piece_eq (F := F) 0 (by decide) (k0_pay9 z g b) slices_S1024x1024_o0_0_S1024x128 inb_S8192x128_S1024x128_0_0_s_8_1 x
  · have h8 : (y 0).val % 8 < 8 := Nat.mod_lt _ (by decide)
    generalize hr : (y 0).val % 8 = r at h8
    interval_cases r
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_rows 0 _ _ y hr⟩
    · exact ⟨_, List.mem_cons_of_mem _ (List.mem_cons_of_mem _ (List.mem_cons_of_mem _ (List.mem_cons_of_mem _ (List.mem_cons_of_mem _ (List.mem_cons_of_mem _ (List.mem_cons_self)))))), mem_rows 1 _ _ y hr⟩
    · exact ⟨_, List.mem_cons_of_mem _ (List.mem_cons_of_mem _ (List.mem_cons_of_mem _ (List.mem_cons_of_mem _ (List.mem_cons_of_mem _ (List.mem_cons_self))))), mem_rows 2 _ _ y hr⟩
    · exact ⟨_, List.mem_cons_of_mem _ (List.mem_cons_of_mem _ (List.mem_cons_of_mem _ (List.mem_cons_of_mem _ (List.mem_cons_self)))), mem_rows 3 _ _ y hr⟩
    · exact ⟨_, List.mem_cons_of_mem _ (List.mem_cons_of_mem _ (List.mem_cons_of_mem _ (List.mem_cons_self))), mem_rows 4 _ _ y hr⟩
    · exact ⟨_, List.mem_cons_of_mem _ (List.mem_cons_of_mem _ (List.mem_cons_self)), mem_rows 5 _ _ y hr⟩
    · exact ⟨_, List.mem_cons_of_mem _ (List.mem_cons_self), mem_rows 6 _ _ y hr⟩
    · exact ⟨_, List.mem_cons_self, mem_rows 7 _ _ y hr⟩

/-- One store over a whole buffer leaves what it stored. -/
theorem whole_read {s : Shape} {e : EltTy} {sp : Space} (v : View sig .tc sp s e) (f : v.ty.Contents (Elt F)) {off : Fin s.rank → ℕ} (inb : ∀ a, off a + s.size a ≤ s.size a) (w : s.Idx → Elt F e) :
    v.read (Elt F) (v.writes (Elt F) f [⟨Rect.unit off s.size inb, w⟩]) = w :=
  View.read_writes_full v f inb w []

set_option maxHeartbeats 1000000 in
/-- The body's run: from its eleven input blocks it reaches the end with the three output blocks at the
    normalised rows, the chosen experts and their shares, and the input blocks as they were. -/
theorem run_point (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S32x1024 .bf16) (harg10 : arg10.IsWhole) (arg11 : Memref sig .tc .vmem S32x1 .f32) (harg11 : arg11.IsWhole) (arg12 : Memref sig .tc .vmem S8192x128 .f32) (harg12 : arg12.IsWhole) (arg13 : Memref sig .tc .vmem S4x1024 .i32) (harg13 : arg13.IsWhole) (arg14 : Memref sig .tc .vmem S4x1024 .f32) (harg14 : arg14.IsWhole)
    (x0 : S1024x1024.Idx → Elt F .f32) (x1 : S1024x512.Idx → Elt F .bf16) (x2 : S1024x512.Idx → Elt F .bf16) (x3 : S1024x2048.Idx → Elt F .bf16) (x4 : S512x1024.Idx → Elt F .bf16) (x5 : S512x1024.Idx → Elt F .bf16) (x6 : S1024x1024.Idx → Elt F .bf16) (x7 : S1x1024.Idx → Elt F .f32) (x8 : S1x1024.Idx → Elt F .f32) (x9 : S32x1024.Idx → Elt F .bf16) (x10 : S32x1.Idx → Elt F .f32) (K : PUnit → sProp 𝕄) :
    iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ (∃ d, owns (c : Thread nD τ) arg12 fullShare d)
          ∗ (∃ d, owns (c : Thread nD τ) arg13 fullShare d)
          ∗ (∃ d, owns (c : Thread nD τ) arg14 fullShare d)
          ∗ (((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (arg10.view.loc (c : Thread nD τ) ↦[arg10.view.set]{fullShare} arg10.view.rep x9)
          ∗ (arg11.view.loc (c : Thread nD τ) ↦[arg11.view.set]{fullShare} arg11.view.rep x10)
          ∗ owns (c : Thread nD τ) arg12 fullShare (outRows (xNew x0 x1 x2 x3 x4 x5 x6 x7 x8))
          ∗ owns (c : Thread nD τ) arg13 fullShare (picks (xNew x0 x1 x2 x3 x4 x5 x6 x7 x8) x9 x10)
          ∗ owns (c : Thread nD τ) arg14 fullShare (shares (xNew x0 x1 x2 x3 x4 x5 x6 x7 x8) x9 x10)) -∗ K ⟨⟩))
      ⊢ wp frame (wpE (defs₀ (F := F)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  rw [cc0_merge_eq_skeleton]; unfold cc0_merge_skel
  iintro ⟨H0, H1, H2, H3, H4, H5, H6, H7, H8, H9, H10, ⟨%d11, %f11, -, HO11⟩, ⟨%d12, %f12, -, HO12⟩, ⟨%d13, %f13, -, HO13⟩, Hk⟩
  sl_exec!
  sl_step
  unfold run_point.sl.HO12_1 run_point.sl.HO13_1
  unfold run_point.sl.v78 run_point.sl.r_11 run_point.sl.r_10 run_point.sl.r_9 run_point.sl.r_8 run_point.sl.r_7 run_point.sl.r_6 run_point.sl.r_5 run_point.sl.r_4 run_point.sl.r_3 run_point.sl.r_2 run_point.sl.r_1 run_point.sl.r
  rw [View.readAt_rep_full arg1.view x0, View.readAt_rep_full arg2.view x1, View.readAt_rep_full arg3.view x2, View.readAt_rep_full arg5.view x4, View.readAt_rep_full arg6.view x5, View.readAt_rep_full arg7.view x6, View.readAt_rep_full arg8.view x7, View.readAt_rep_full arg9.view x8, View.readAt_rep_full arg10.view x9, View.readAt_rep_full arg11.view x10]
  rw [View.readAt_rep arg4.view lh x3, View.readAt_rep arg4.view rh x3]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HO11]
  · iexists _; isplitr; swap; · iexact HO11
    ipureintro; exact out_read _ _ _ _ _
  isplitl [HO12]
  · iexists _; isplitr; swap; · iexact HO12
    ipureintro; exact whole_read (F := F) _ _ inb_S4x1024_S4x1024_0_0 _
  · iexists _; isplitr; swap; · iexact HO13
    ipureintro; exact whole_read (F := F) _ _ inb_S4x1024_S4x1024_0_0 _

end Cert.Merge

end
-- ==== Proof.MergeRun.lean ====
/-
  The merge kernel's run: its body at every point, the blocks the windows bring, what every point leaves, and the launch.
-/
module

public import proofs.«01_k».proof.Proof.MergeBody
public import Idealize.ShloMosaic.Lib.Pipeline.TableIdle
public import Idealize.ShloMosaic.Lib.Pipeline.Kit
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.Merge

open Cert.MergeKernelIdeal Cert.MergeKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The windows' staging buffers at a point. -/
abbrev st0 (t : Fin cfg0.N) : Memref sig .tc .vmem S1024x1024 .f32 := win0_0.stage (cfg0.slots t (0 : Fin 14))
theorem wh0 (t : Fin cfg0.N) : (st0 t).IsWhole := hstage0_0 ((cfg0.slots t (0 : Fin 14)).cast nbuf0_0)
abbrev st1 (t : Fin cfg0.N) : Memref sig .tc .vmem S1024x512 .bf16 := win0_1.stage (cfg0.slots t (1 : Fin 14))
theorem wh1 (t : Fin cfg0.N) : (st1 t).IsWhole := hstage0_1 ((cfg0.slots t (1 : Fin 14)).cast nbuf0_1)
abbrev st2 (t : Fin cfg0.N) : Memref sig .tc .vmem S1024x512 .bf16 := win0_2.stage (cfg0.slots t (2 : Fin 14))
theorem wh2 (t : Fin cfg0.N) : (st2 t).IsWhole := hstage0_2 ((cfg0.slots t (2 : Fin 14)).cast nbuf0_2)
abbrev st3 (t : Fin cfg0.N) : Memref sig .tc .vmem S1024x2048 .bf16 := win0_3.stage (cfg0.slots t (3 : Fin 14))
theorem wh3 (t : Fin cfg0.N) : (st3 t).IsWhole := hstage0_3 ((cfg0.slots t (3 : Fin 14)).cast nbuf0_3)
abbrev st4 (t : Fin cfg0.N) : Memref sig .tc .vmem S512x1024 .bf16 := win0_4.stage (cfg0.slots t (4 : Fin 14))
theorem wh4 (t : Fin cfg0.N) : (st4 t).IsWhole := hstage0_4 ((cfg0.slots t (4 : Fin 14)).cast nbuf0_4)
abbrev st5 (t : Fin cfg0.N) : Memref sig .tc .vmem S512x1024 .bf16 := win0_5.stage (cfg0.slots t (5 : Fin 14))
theorem wh5 (t : Fin cfg0.N) : (st5 t).IsWhole := hstage0_5 ((cfg0.slots t (5 : Fin 14)).cast nbuf0_5)
abbrev st6 (t : Fin cfg0.N) : Memref sig .tc .vmem S1024x1024 .bf16 := win0_6.stage (cfg0.slots t (6 : Fin 14))
theorem wh6 (t : Fin cfg0.N) : (st6 t).IsWhole := hstage0_6 ((cfg0.slots t (6 : Fin 14)).cast nbuf0_6)
abbrev st7 (t : Fin cfg0.N) : Memref sig .tc .vmem S1x1024 .f32 := win0_7.stage (cfg0.slots t (7 : Fin 14))
theorem wh7 (t : Fin cfg0.N) : (st7 t).IsWhole := hstage0_7 ((cfg0.slots t (7 : Fin 14)).cast nbuf0_7)
abbrev st8 (t : Fin cfg0.N) : Memref sig .tc .vmem S1x1024 .f32 := win0_8.stage (cfg0.slots t (8 : Fin 14))
theorem wh8 (t : Fin cfg0.N) : (st8 t).IsWhole := hstage0_8 ((cfg0.slots t (8 : Fin 14)).cast nbuf0_8)
abbrev st9 (t : Fin cfg0.N) : Memref sig .tc .vmem S32x1024 .bf16 := win0_9.stage (cfg0.slots t (9 : Fin 14))
theorem wh9 (t : Fin cfg0.N) : (st9 t).IsWhole := hstage0_9 ((cfg0.slots t (9 : Fin 14)).cast nbuf0_9)
abbrev st10 (t : Fin cfg0.N) : Memref sig .tc .vmem S32x1 .f32 := win0_10.stage (cfg0.slots t (10 : Fin 14))
theorem wh10 (t : Fin cfg0.N) : (st10 t).IsWhole := hstage0_10 ((cfg0.slots t (10 : Fin 14)).cast nbuf0_10)
abbrev st11 (t : Fin cfg0.N) : Memref sig .tc .vmem S8192x128 .f32 := win0_11.stage (cfg0.slots t (11 : Fin 14))
theorem wh11 (t : Fin cfg0.N) : (st11 t).IsWhole := hstage0_11 ((cfg0.slots t (11 : Fin 14)).cast nbuf0_11)
abbrev st12 (t : Fin cfg0.N) : Memref sig .tc .vmem S4x1024 .i32 := win0_12.stage (cfg0.slots t (12 : Fin 14))
theorem wh12 (t : Fin cfg0.N) : (st12 t).IsWhole := hstage0_12 ((cfg0.slots t (12 : Fin 14)).cast nbuf0_12)
abbrev st13 (t : Fin cfg0.N) : Memref sig .tc .vmem S4x1024 .f32 := win0_13.stage (cfg0.slots t (13 : Fin 14))
theorem wh13 (t : Fin cfg0.N) : (st13 t).IsWhole := hstage0_13 ((cfg0.slots t (13 : Fin 14)).cast nbuf0_13)

variable (m : (ℓ : Loc nD τ sig) → Buf (Elt F) ℓ) (ρ : Dev nD → PrngReg)

/-- What every buffer holds when the pipeline starts: the launch's contents after the host's casts and reshapings. -/
def V (c : Dev nD) (b : Ref sig .tc) : Buf (Elt F) ((c : Thread nD τ).loc b) :=
  StableHlo.after (hostOps0 (F := F)) (fun b => m (c, b)) b

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def blk0 (c : Dev nD) (t : Fin cfg0.N) : S1024x1024.Idx → Elt F .f32 := iblk m c (0 : Fin 14) t
def blk1 (c : Dev nD) (t : Fin cfg0.N) : S1024x512.Idx → Elt F .bf16 := iblk m c (1 : Fin 14) t
def blk2 (c : Dev nD) (t : Fin cfg0.N) : S1024x512.Idx → Elt F .bf16 := iblk m c (2 : Fin 14) t
def blk3 (c : Dev nD) (t : Fin cfg0.N) : S1024x2048.Idx → Elt F .bf16 := iblk m c (3 : Fin 14) t
def blk4 (c : Dev nD) (t : Fin cfg0.N) : S512x1024.Idx → Elt F .bf16 := iblk m c (4 : Fin 14) t
def blk5 (c : Dev nD) (t : Fin cfg0.N) : S512x1024.Idx → Elt F .bf16 := iblk m c (5 : Fin 14) t
def blk6 (c : Dev nD) (t : Fin cfg0.N) : S1024x1024.Idx → Elt F .bf16 := iblk m c (6 : Fin 14) t
def blk7 (c : Dev nD) (t : Fin cfg0.N) : S1x1024.Idx → Elt F .f32 := iblk m c (7 : Fin 14) t
def blk8 (c : Dev nD) (t : Fin cfg0.N) : S1x1024.Idx → Elt F .f32 := iblk m c (8 : Fin 14) t
def blk9 (c : Dev nD) (t : Fin cfg0.N) : S32x1024.Idx → Elt F .bf16 := iblk m c (9 : Fin 14) t
def blk10 (c : Dev nD) (t : Fin cfg0.N) : S32x1.Idx → Elt F .f32 := iblk m c (10 : Fin 14) t

/-- What a point leaves in its three output blocks. -/
def normed (c : Dev nD) (t : Fin cfg0.N) : FVec F S1024x1024 .f32 :=
  xNew (blk0 m c t) (blk1 m c t) (blk2 m c t) (blk3 m c t) (blk4 m c t) (blk5 m c t) (blk6 m c t) (blk7 m c t) (blk8 m c t)
def outX (c : Dev nD) (t : Fin cfg0.N) : S8192x128.Idx → Elt F .f32 := outRows (normed m c t)
def outP (c : Dev nD) (t : Fin cfg0.N) : S4x1024.Idx → Elt F .i32 := picks (normed m c t) (blk9 m c t) (blk10 m c t)
def outS (c : Dev nD) (t : Fin cfg0.N) : S4x1024.Idx → Elt F .f32 := shares (normed m c t) (blk9 m c t) (blk10 m c t)

def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => blk6 m c t
    | ⟨7, _⟩ => blk7 m c t
    | ⟨8, _⟩ => blk8 m c t
    | ⟨9, _⟩ => blk9 m c t
    | ⟨10, _⟩ => blk10 m c t
    | ⟨11, _⟩ => outX m c t
    | ⟨12, _⟩ => outP m c t
    | ⟨13, _⟩ => outS m c t
  Φ _ := Pipeline.ΦA spec0 c
  q _ := fullShare
  owed _ := 0

theorem after0 (c : Dev nD) (t : Fin cfg0.N) : (dats m 0 c).after (0 : Fin 14) t = blk0 m c t := by dsimp only [dats]
theorem after1 (c : Dev nD) (t : Fin cfg0.N) : (dats m 0 c).after (1 : Fin 14) t = blk1 m c t := by dsimp only [dats]
theorem after2 (c : Dev nD) (t : Fin cfg0.N) : (dats m 0 c).after (2 : Fin 14) t = blk2 m c t := by dsimp only [dats]
theorem after3 (c : Dev nD) (t : Fin cfg0.N) : (dats m 0 c).after (3 : Fin 14) t = blk3 m c t := by dsimp only [dats]
theorem after4 (c : Dev nD) (t : Fin cfg0.N) : (dats m 0 c).after (4 : Fin 14) t = blk4 m c t := by dsimp only [dats]
theorem after5 (c : Dev nD) (t : Fin cfg0.N) : (dats m 0 c).after (5 : Fin 14) t = blk5 m c t := by dsimp only [dats]
theorem after6 (c : Dev nD) (t : Fin cfg0.N) : (dats m 0 c).after (6 : Fin 14) t = blk6 m c t := by dsimp only [dats]
theorem after7 (c : Dev nD) (t : Fin cfg0.N) : (dats m 0 c).after (7 : Fin 14) t = blk7 m c t := by dsimp only [dats]
theorem after8 (c : Dev nD) (t : Fin cfg0.N) : (dats m 0 c).after (8 : Fin 14) t = blk8 m c t := by dsimp only [dats]
theorem after9 (c : Dev nD) (t : Fin cfg0.N) : (dats m 0 c).after (9 : Fin 14) t = blk9 m c t := by dsimp only [dats]
theorem after10 (c : Dev nD) (t : Fin cfg0.N) : (dats m 0 c).after (10 : Fin 14) t = blk10 m c t := by dsimp only [dats]
theorem after11 (c : Dev nD) (t : Fin cfg0.N) : (dats m 0 c).after (11 : Fin 14) t = outX m c t := by dsimp only [dats]
theorem after12 (c : Dev nD) (t : Fin cfg0.N) : (dats m 0 c).after (12 : Fin 14) t = outP m c t := by dsimp only [dats]
theorem after13 (c : Dev nD) (t : Fin cfg0.N) : (dats m 0 c).after (13 : Fin 14) t = outS m c t := by dsimp only [dats]

/-- Every input's staging buffer holds its block when the body runs. -/
theorem before0 (c : Dev nD) (t : Fin cfg0.N) (d) : (dats m 0 c).before (0 : Fin 14) t d = blk0 m c t :=
  ((dats m 0 c).before_in_eq_fetched (0 : Fin 14) rfl (fun _ => rfl) (fun _ _ _ => rfl) (fun t => by rw [after0]; unfold Dat.blockOf blk0 iblk; rfl) t d).trans
    (by unfold Dat.fetched Dat.blockOf blk0 iblk; rfl)
theorem before1 (c : Dev nD) (t : Fin cfg0.N) (d) : (dats m 0 c).before (1 : Fin 14) t d = blk1 m c t :=
  ((dats m 0 c).before_in_eq_fetched (1 : Fin 14) rfl (fun _ => rfl) (fun _ _ _ => rfl) (fun t => by rw [after1]; unfold Dat.blockOf blk1 iblk; rfl) t d).trans
    (by unfold Dat.fetched Dat.blockOf blk1 iblk; rfl)
theorem before2 (c : Dev nD) (t : Fin cfg0.N) (d) : (dats m 0 c).before (2 : Fin 14) t d = blk2 m c t :=
  ((dats m 0 c).before_in_eq_fetched (2 : Fin 14) rfl (fun _ => rfl) (fun _ _ _ => rfl) (fun t => by rw [after2]; unfold Dat.blockOf blk2 iblk; rfl) t d).trans
    (by unfold Dat.fetched Dat.blockOf blk2 iblk; rfl)
theorem before3 (c : Dev nD) (t : Fin cfg0.N) (d) : (dats m 0 c).before (3 : Fin 14) t d = blk3 m c t :=
  ((dats m 0 c).before_in_eq_fetched (3 : Fin 14) rfl (fun _ => rfl) (fun _ _ _ => rfl) (fun t => by rw [after3]; unfold Dat.blockOf blk3 iblk; rfl) t d).trans
    (by unfold Dat.fetched Dat.blockOf blk3 iblk; rfl)
theorem before4 (c : Dev nD) (t : Fin cfg0.N) (d) : (dats m 0 c).before (4 : Fin 14) t d = blk4 m c t :=
  ((dats m 0 c).before_in_eq_fetched (4 : Fin 14) rfl (fun _ => rfl) (fun _ _ _ => rfl) (fun t => by rw [after4]; unfold Dat.blockOf blk4 iblk; rfl) t d).trans
    (by unfold Dat.fetched Dat.blockOf blk4 iblk; rfl)
theorem before5 (c : Dev nD) (t : Fin cfg0.N) (d) : (dats m 0 c).before (5 : Fin 14) t d = blk5 m c t :=
  ((dats m 0 c).before_in_eq_fetched (5 : Fin 14) rfl (fun _ => rfl) (fun _ _ _ => rfl) (fun t => by rw [after5]; unfold Dat.blockOf blk5 iblk; rfl) t d).trans
    (by unfold Dat.fetched Dat.blockOf blk5 iblk; rfl)
theorem before6 (c : Dev nD) (t : Fin cfg0.N) (d) : (dats m 0 c).before (6 : Fin 14) t d = blk6 m c t :=
  ((dats m 0 c).before_in_eq_fetched (6 : Fin 14) rfl (fun _ => rfl) (fun _ _ _ => rfl) (fun t => by rw [after6]; unfold Dat.blockOf blk6 iblk; rfl) t d).trans
    (by unfold Dat.fetched Dat.blockOf blk6 iblk; rfl)
theorem before7 (c : Dev nD) (t : Fin cfg0.N) (d) : (dats m 0 c).before (7 : Fin 14) t d = blk7 m c t :=
  ((dats m 0 c).before_in_eq_fetched (7 : Fin 14) rfl (fun _ => rfl) (fun _ _ _ => rfl) (fun t => by rw [after7]; unfold Dat.blockOf blk7 iblk; rfl) t d).trans
    (by unfold Dat.fetched Dat.blockOf blk7 iblk; rfl)
theorem before8 (c : Dev nD) (t : Fin cfg0.N) (d) : (dats m 0 c).before (8 : Fin 14) t d = blk8 m c t :=
  ((dats m 0 c).before_in_eq_fetched (8 : Fin 14) rfl (fun _ => rfl) (fun _ _ _ => rfl) (fun t => by rw [after8]; unfold Dat.blockOf blk8 iblk; rfl) t d).trans
    (by unfold Dat.fetched Dat.blockOf blk8 iblk; rfl)
theorem before9 (c : Dev nD) (t : Fin cfg0.N) (d) : (dats m 0 c).before (9 : Fin 14) t d = blk9 m c t :=
  ((dats m 0 c).before_in_eq_fetched (9 : Fin 14) rfl (fun _ => rfl) (fun _ _ _ => rfl) (fun t => by rw [after9]; unfold Dat.blockOf blk9 iblk; rfl) t d).trans
    (by unfold Dat.fetched Dat.blockOf blk9 iblk; rfl)
theorem before10 (c : Dev nD) (t : Fin cfg0.N) (d) : (dats m 0 c).before (10 : Fin 14) t d = blk10 m c t :=
  ((dats m 0 c).before_in_eq_fetched (10 : Fin 14) rfl (fun _ => rfl) (fun _ _ _ => rfl) (fun t => by rw [after10]; unfold Dat.blockOf blk10 iblk; rfl) t d).trans
    (by unfold Dat.fetched Dat.blockOf blk10 iblk; rfl)

abbrev bodyAt (t : Fin cfg0.N) : Prog (TpuEff nD τ sig (Elt F) Λ₀ .tc) PUnit :=
  cc0_merge (cfg0.grid.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t)

set_option maxHeartbeats 1000000 in
theorem sound_body (c : Dev nD) (t : Fin cfg0.N) :
    iprop((dats m 0 c).Φ t.castSucc ∗ (dats m 0 c).owesAt () t.castSucc
        ∗ (∃ d, owns (c : Thread nD τ) (st0 t) fullShare ((dats m 0 c).before (0 : Fin 14) t d))
        ∗ (∃ d, owns (c : Thread nD τ) (st1 t) fullShare ((dats m 0 c).before (1 : Fin 14) t d))
        ∗ (∃ d, owns (c : Thread nD τ) (st2 t) fullShare ((dats m 0 c).before (2 : Fin 14) t d))
        ∗ (∃ d, owns (c : Thread nD τ) (st3 t) fullShare ((dats m 0 c).before (3 : Fin 14) t d))
        ∗ (∃ d, owns (c : Thread nD τ) (st4 t) fullShare ((dats m 0 c).before (4 : Fin 14) t d))
        ∗ (∃ d, owns (c : Thread nD τ) (st5 t) fullShare ((dats m 0 c).before (5 : Fin 14) t d))
        ∗ (∃ d, owns (c : Thread nD τ) (st6 t) fullShare ((dats m 0 c).before (6 : Fin 14) t d))
        ∗ (∃ d, owns (c : Thread nD τ) (st7 t) fullShare ((dats m 0 c).before (7 : Fin 14) t d))
        ∗ (∃ d, owns (c : Thread nD τ) (st8 t) fullShare ((dats m 0 c).before (8 : Fin 14) t d))
        ∗ (∃ d, owns (c : Thread nD τ) (st9 t) fullShare ((dats m 0 c).before (9 : Fin 14) t d))
        ∗ (∃ d, owns (c : Thread nD τ) (st10 t) fullShare ((dats m 0 c).before (10 : Fin 14) t d))
        ∗ (∃ d, owns (c : Thread nD τ) (st11 t) fullShare ((dats m 0 c).before (11 : Fin 14) t d))
        ∗ (∃ d, owns (c : Thread nD τ) (st12 t) fullShare ((dats m 0 c).before (12 : Fin 14) t d))
        ∗ (∃ d, owns (c : Thread nD τ) (st13 t) fullShare ((dats m 0 c).before (13 : Fin 14) t d)))
      ⊢ wp frame (wpE (defs₀ (F := F)) Variants.none c none) Set.univ (bodyAt t) fun _ =>
          iprop((dats m 0 c).Φ t.succ ∗ (dats m 0 c).owesAt () t.succ
            ∗ owns (c : Thread nD τ) (st0 t) fullShare ((dats m 0 c).after (0 : Fin 14) t)
            ∗ owns (c : Thread nD τ) (st1 t) fullShare ((dats m 0 c).after (1 : Fin 14) t)
            ∗ owns (c : Thread nD τ) (st2 t) fullShare ((dats m 0 c).after (2 : Fin 14) t)
            ∗ owns (c : Thread nD τ) (st3 t) fullShare ((dats m 0 c).after (3 : Fin 14) t)
            ∗ owns (c : Thread nD τ) (st4 t) fullShare ((dats m 0 c).after (4 : Fin 14) t)
            ∗ owns (c : Thread nD τ) (st5 t) fullShare ((dats m 0 c).after (5 : Fin 14) t)
            ∗ owns (c : Thread nD τ) (st6 t) fullShare ((dats m 0 c).after (6 : Fin 14) t)
            ∗ owns (c : Thread nD τ) (st7 t) fullShare ((dats m 0 c).after (7 : Fin 14) t)
            ∗ owns (c : Thread nD τ) (st8 t) fullShare ((dats m 0 c).after (8 : Fin 14) t)
            ∗ owns (c : Thread nD τ) (st9 t) fullShare ((dats m 0 c).after (9 : Fin 14) t)
            ∗ owns (c : Thread nD τ) (st10 t) fullShare ((dats m 0 c).after (10 : Fin 14) t)
            ∗ owns (c : Thread nD τ) (st11 t) fullShare ((dats m 0 c).after (11 : Fin 14) t)
            ∗ owns (c : Thread nD τ) (st12 t) fullShare ((dats m 0 c).after (12 : Fin 14) t)
            ∗ owns (c : Thread nD τ) (st13 t) fullShare ((dats m 0 c).after (13 : Fin 14) t)) := by
  simp only [before0, before1, before2, before3, before4, before5, before6, before7, before8, before9, before10, after0, after1, after2, after3, after4, after5, after6, after7, after8, after9, after10, after11, after12, after13]
  rewrite [show (dats m 0 c).Φ t.succ = (dats m 0 c).Φ t.castSucc from rfl,
    show (dats m 0 c).owesAt () t.succ = (dats m 0 c).owesAt () t.castSucc from rfl]
  unfold outX outP outS normed
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_point c (cfg0.grid.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (blk0 m c t) (blk1 m c t) (blk2 m c t) (blk3 m c t) (blk4 m c t) (blk5 m c t) (blk6 m c t) (blk7 m c t) (blk8 m c t) (blk9 m c t) (blk10 m c t) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [H9]; · iapply rep_of_owns; iexact H9
  isplitl [H10]; · iapply rep_of_owns; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [Hg]; · iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  isplitl [H9]; · iapply owns_of_rep; iexact H9
  isplitl [H10]; · iapply owns_of_rep; iexact H10
  isplitl [H11]; · iexact H11
  isplitl [H12]; · iexact H12
  iexact H13

theorem body_obligation (c : Dev nD) : BodyObligation (dats m 0 c) (defs₀ (F := F)) Variants.none () Set.univ := fun t => by
  rw [bigSep_W0, bigSep_W0]
  exact sound_body m c t

/-! ## The launch -/

theorem share_eq (c : Dev nD) (w : Fin cfg0.W) : (dats m 0 c).share w = fullShare := by unfold Dat.share; split <;> rfl

theorem V_arg (c : Dev nD) :
    V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7)
    ∧ V m c main_arg8 = m ((c : Thread nD τ).loc main_arg8)
    ∧ V m c main_arg9 = m ((c : Thread nD τ).loc main_arg9)
    ∧ V m c main_arg10 = m ((c : Thread nD τ).loc main_arg10) := by
  unfold V hostOps0
  refine ⟨?_, ?_, ?_, ?_, ?_, ?_, ?_, ?_, ?_, ?_, ?_⟩ <;> after_results

set_option backward.isDefEq.respectTransparency.types false in
set_option maxHeartbeats 1000000 in
/-- Every execution terminates with every array at what the points leave, every other buffer as it was, every counter zero. -/
theorem run_main :
    θ_run (defs (F := F)) (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := share_eq m) (howed := fun _ _ => rfl) (V := V m)
    (hmain := Pipeline.hmain_prefix cfgs 0 defs₀ Variants.none m main hostOps0 hostOps0_sub ⟨rfl, rfl, rfl, rfl, rfl, rfl, rfl, rfl, rfl, rfl⟩ main_chain)
    (hA := fun _ _ => rfl) (hin := fun _ => .rfl) (hout := fun _ => .rfl)

/-- The merge kernel's run: the result is the array the points leave, the argument arrays end unchanged, every counter is zero. -/
theorem run_all :
    θ_run (defs (F := F)) (onTc (τ := τ) (main (F := F))) ⟨m, fun _ => 0, ρ⟩ (fun r => (∀ c : Dev nD,
      r.2.mem ((c.tc : Thread nD τ).loc main_v10_0) = (dats m 0 c).arrAt (11 : Fin 14) cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) := by
  refine (θ_run _ _ _).mono (fun r h => ⟨fun c => ?_, h.2⟩) (run_main m ρ)
  obtain ⟨e0, e1, e2, e3, e4, e5, e6, e7, e8, e9, e10⟩ := V_arg m c
  have rest := (h.1 c).2
  have arr := (h.1 c).1
  exact ⟨arr (11 : Fin 14), ((arr (0 : Fin 14)).trans ((dats m 0 c).arrAt_in (0 : Fin 14) rfl _)).trans e0, ((arr (1 : Fin 14)).trans ((dats m 0 c).arrAt_in (1 : Fin 14) rfl _)).trans e1, ((arr (2 : Fin 14)).trans ((dats m 0 c).arrAt_in (2 : Fin 14) rfl _)).trans e2, (rest main_arg3 (show main_arg3 ∈ Pipeline.restRefs sig spec0 by decide)).trans e3, (rest main_arg4 (show main_arg4 ∈ Pipeline.restRefs sig spec0 by decide)).trans e4, (rest main_arg5 (show main_arg5 ∈ Pipeline.restRefs sig spec0 by decide)).trans e5, (rest main_arg6 (show main_arg6 ∈ Pipeline.restRefs sig spec0 by decide)).trans e6, (rest main_arg7 (show main_arg7 ∈ Pipeline.restRefs sig spec0 by decide)).trans e7, (rest main_arg8 (show main_arg8 ∈ Pipeline.restRefs sig spec0 by decide)).trans e8, (rest main_arg9 (show main_arg9 ∈ Pipeline.restRefs sig spec0 by decide)).trans e9, (rest main_arg10 (show main_arg10 ∈ Pipeline.restRefs sig spec0 by decide)).trans e10⟩

end Cert.Merge

end
-- ==== Proof.MergeSame.lean ====
/-
  The merge kernel is printed twice, once as written and once idealized, and no rewrite was applied: the two programs
  are the same text in two namespaces. Their body tables and their host programs are equal.
-/
module

public import proofs.«01_k».proof.Proof.Gen.MergeKernel.Launch
public import proofs.«01_k».proof.Proof.MergeRun

@[expose] public section

noncomputable section

namespace Cert.Merge

open Idealize.ShloMosaic Idealize.SL.Sem

variable {F : FTy → Type} [FloatOps F]

/-- The kernel functions are one. -/
theorem body_same : Cert.MergeKernel.cc0_merge (F := F) = Cert.MergeKernelIdeal.cc0_merge (F := F) := by rfl

/-- So are the tables that run them on the staging buffers. -/
theorem bodies_same : Cert.MergeKernel.defs₀ (F := F) = Cert.MergeKernelIdeal.defs₀ (F := F) := by
  refine congrArg (Defs.onTc (nD := Cert.MergeKernelIdeal.nD) (τ := Cert.MergeKernelIdeal.τ) (sig := Cert.MergeKernelIdeal.sig)
    (Val := Elt F) (Λ := Cert.MergeKernelIdeal.Λ₀)) (funext fun l => funext fun x => ?_)
  match l, x with
  | ⟨0, _⟩, (t, s) =>
    dsimp only
    rw [body_same]
    rfl
  | ⟨_ + 1, h⟩, _ => exact absurd h (Nat.not_lt.2 (Nat.le_add_left _ _))

/-- The tables with the pipeline's own functions. -/
theorem defs_same : Cert.MergeKernel.defs (F := F) = Cert.MergeKernelIdeal.defs (F := F) := by
  unfold Cert.MergeKernel.defs Cert.MergeKernelIdeal.defs
  exact congrArg (Pipeline.defs (Cert.MergeKernelIdeal.pcfgs (F := F))) bodies_same

/-- The host programs. -/
theorem main_same : Cert.MergeKernel.main (F := F) = Cert.MergeKernelIdeal.main (F := F) := by rfl

end Cert.Merge

end

end
-- ==== Proof.MergeFormula.lean ====
/-
  One token of the merge at exact reals, written out: the plain formula both the kernel's blocks and the reference's array
  are read as.
-/
module

public import Idealize.ShloMosaic.Lib.Pointwise

@[expose] public section

noncomputable section

namespace Cert.Merge

open Idealize.ShloMosaic

/-- The weight of the layer's input beside the merged branches, the number of features, the small term under the root. -/
abbrev alpha : EReal := Ideal.ofBits .f32 0x3F9837F0#32
abbrev width : EReal := Ideal.ofBits .f32 0x44800000#32
abbrev small : EReal := Ideal.ofBits .f32 0x3727C5AC#32

/-- One branch's part of a merged feature: the gate's logistic times the branch's own product. -/
def part (X : Fin 1024 → EReal) (W : Fin 1024 → Fin 1024 → EReal) (y : Fin 512 → EReal) (B : Fin 512 → Fin 1024 → EReal) (j : Fin 1024) : EReal :=
  Ideal.logistic (∑ k, X k * W k j) * ∑ k, y k * B k j

/-- The token's features before they are normalised. -/
def mixed (X : Fin 1024 → EReal) (Wa Wb : Fin 1024 → Fin 1024 → EReal) (ya yb : Fin 512 → EReal) (Ba Bb : Fin 512 → Fin 1024 → EReal)
    (Wo : Fin 1024 → Fin 1024 → EReal) (d : Fin 1024) : EReal :=
  alpha * X d + ∑ j, (part X Wa ya Ba j + part X Wb yb Bb j) * Wo j d

def mean (Z : Fin 1024 → EReal) : EReal := Ideal.div (∑ k, Z k) width

/-- The features normalised over the token, then scaled and shifted. -/
def normRow (Z g b : Fin 1024 → EReal) (d : Fin 1024) : EReal :=
  (Z d - mean Z) * Ideal.rsqrt (mean (fun k => (Z k - mean Z) * (Z k - mean Z)) + small) * g d + b d

end Cert.Merge
-- ==== Proof.MergeBlock.lean ====
/-
  The merge kernel's body at exact reals: a block's normalised rows as the plain formula.
-/
module

public import proofs.«01_k».proof.Proof.MergeBody
public import proofs.«01_k».proof.Proof.MergeFormula

@[expose] public section

set_option maxRecDepth 16384

noncomputable section

namespace Cert.Merge

open Cert.MergeKernelIdeal Cert.MergeKernelIdeal.Gen Idealize.ShloMosaic Idealize.ShloMosaic.TcCoe

theorem mixed_apply (x0 : S1024x1024.Idx → EReal) (wa : S1024x1024.Idx → EReal) (ya : S1024x512.Idx → EReal) (Ba : S512x1024.Idx → EReal)
    (wb : S1024x1024.Idx → EReal) (yb : S1024x512.Idx → EReal) (Bb : S512x1024.Idx → EReal) (wo : S1024x1024.Idx → EReal) (r d : Fin 1024) :
    k0_pay6 (F := Ideal) x0 wa ya Ba wb yb Bb wo (ix2 r d)
      = mixed (fun k => x0 (ix2 r k)) (fun k j => wa (ix2 k j)) (fun k j => wb (ix2 k j)) (fun k => ya (ix2 r k)) (fun k => yb (ix2 r k))
          (fun k j => Ba (ix2 k j)) (fun k j => Bb (ix2 k j)) (fun k j => wo (ix2 k j)) d := by
  unfold mixed part
  pointwise [k0_pay6]

theorem norm_apply (z : FVec Ideal S1024x1024 .f32) (g b : FVec Ideal S1x1024 .f32) (r d : Fin 1024) :
    k0_pay9 (F := Ideal) z (k0_pay7 g) (k0_pay8 b) (ix2 r d)
      = normRow (fun k => z (ix2 r k)) (fun k => g (ix2 0 k)) (fun k => b (ix2 0 k)) d := by
  unfold normRow mean
  pointwise [k0_pay9, k0_pay7, k0_pay8]

end Cert.Merge
-- ==== Proof.MergeReference.lean ====
/-
  The merge reference at exact reals: every stage read at an index, and its array as the plain formula.
-/
module

public import proofs.«01_k».proof.Proof.Gen.MergeReferenceIdeal.Read
public import proofs.«01_k».proof.Proof.MergeFormula

@[expose] public section

set_option maxRecDepth 16384

noncomputable section

namespace Cert.Merge

open Cert.MergeReferenceIdeal Cert.MergeReferenceIdeal.Gen Cert.MergeReferenceIdeal.Read Idealize.ShloMosaic Idealize.ShloMosaic.TcCoe

section

variable (x0 : (⟨S65536x1024, .f32⟩ : BufTy).Contents (Elt Ideal)) (x1 x2 : (⟨S65536x512, .bf16⟩ : BufTy).Contents (Elt Ideal))
  (x3 : (⟨S1024x4808, .f32⟩ : BufTy).Contents (Elt Ideal)) (x4 x5 : (⟨S512x1024, .f32⟩ : BufTy).Contents (Elt Ideal))
  (x6 : (⟨S1024x1024, .f32⟩ : BufTy).Contents (Elt Ideal)) (x7 x8 : (⟨S1024, .f32⟩ : BufTy).Contents (Elt Ideal))

/-- The columns of the gates' weights. -/
def gateA : Fin 1024 → Fin 1024 → EReal := fun k j => x3 (ix2 k ⟨2760 + j.val, by omega⟩)
def gateB : Fin 1024 → Fin 1024 → EReal := fun k j => x3 (ix2 k ⟨3784 + j.val, by omega⟩)

/-- Token `R`'s features before they are normalised. -/
def mixedRow (R : Fin 65536) : Fin 1024 → EReal :=
  mixed (fun k => x0 (ix2 R k)) (gateA x3) (gateB x3) (fun k => x1 (ix2 R k)) (fun k => x2 (ix2 R k)) (fun k j => x4 (ix2 k j)) (fun k j => x5 (ix2 k j))
    (fun k j => x6 (ix2 k j))

variable (R : Fin 65536)

theorem at_v2 (j : Fin 1024) : val_main_v2 (F := Ideal) x0 x3 (ix2 R j) = ∑ k : Fin 1024, x0 (ix2 R k) * gateA x3 k j := by
  rw [val_main_v2_apply, val_main_v1_apply]
  refine Finset.sum_congr rfl fun k _ => ?_
  rw [val_main_v0_apply]
  unfold gateA
  refine congrArg₂ (fun p q => x0 p * x3 q) (funext fun z => Fin.ext ?_) (funext fun z => Fin.ext ?_)
  · match z with
    | ⟨0, _⟩ => rfl
    | ⟨1, _⟩ => rfl
  · match z with
    | ⟨0, _⟩ => rfl
    | ⟨1, _⟩ => rfl

theorem at_v3 (j : Fin 1024) : val_main_v3 (F := Ideal) x0 x3 (ix2 R j) = ∑ k : Fin 1024, x0 (ix2 R k) * gateB x3 k j := by
  rw [val_main_v3_apply, val_main_v1_apply]
  refine Finset.sum_congr rfl fun k _ => ?_
  rw [val_main_v0_apply]
  unfold gateB
  refine congrArg₂ (fun p q => x0 p * x3 q) (funext fun z => Fin.ext ?_) (funext fun z => Fin.ext ?_)
  · match z with
    | ⟨0, _⟩ => rfl
    | ⟨1, _⟩ => rfl
  · match z with
    | ⟨0, _⟩ => rfl
    | ⟨1, _⟩ => show 2760 + (1024 + j.val) = 3784 + j.val; omega

theorem at_v11 (j : Fin 1024) : val_main_v11 (F := Ideal) x1 x4 (ix2 R j) = ∑ k : Fin 512, x1 (ix2 R k) * x4 (ix2 k j) := by
  rw [val_main_v11_apply]
  refine Finset.sum_congr rfl fun k _ => ?_
  have hl : lidx_main_v11 (ix2 R j) k = ix2 R k := funext fun z => match z with | ⟨0, _⟩ => rfl | ⟨1, _⟩ => rfl
  have hr : ridx_main_v11 (ix2 R j) k = ix2 k j := funext fun z => match z with | ⟨0, _⟩ => rfl | ⟨1, _⟩ => rfl
  rw [hl, hr]
  rfl

theorem at_v20 (j : Fin 1024) : val_main_v20 (F := Ideal) x2 x5 (ix2 R j) = ∑ k : Fin 512, x2 (ix2 R k) * x5 (ix2 k j) := by
  rw [val_main_v20_apply]
  refine Finset.sum_congr rfl fun k _ => ?_
  have hl : lidx_main_v20 (ix2 R j) k = ix2 R k := funext fun z => match z with | ⟨0, _⟩ => rfl | ⟨1, _⟩ => rfl
  have hr : ridx_main_v20 (ix2 R j) k = ix2 k j := funext fun z => match z with | ⟨0, _⟩ => rfl | ⟨1, _⟩ => rfl
  rw [hl, hr]
  rfl

theorem at_v22 (j : Fin 1024) : val_main_v22 (F := Ideal) x0 x1 x2 x3 x4 x5 (ix2 R j)
    = part (fun k => x0 (ix2 R k)) (gateA x3) (fun k => x1 (ix2 R k)) (fun k j => x4 (ix2 k j)) j
      + part (fun k => x0 (ix2 R k)) (gateB x3) (fun k => x2 (ix2 R k)) (fun k j => x5 (ix2 k j)) j := by
  unfold part
  rw [← at_v2, ← at_v3, ← at_v11, ← at_v20]
  unfold Ideal.logistic
  pointwise [val_main_v22, val_main_v21, val_main_v12, val_main_v18, val_main_v17, val_main_v16, val_main_v15, val_main_v14, val_main_v13,
    val_main_v9, val_main_v8, val_main_v7, val_main_v6, val_main_v5, val_main_v4, val_main_cst, val_main_cst_0, val_main_cst_1, val_main_cst_2]

theorem at_v26 (d : Fin 1024) : val_main_v26 (F := Ideal) x0 x1 x2 x3 x4 x5 x6 (ix2 R d) = mixedRow x0 x1 x2 x3 x4 x5 x6 R d := by
  have hd : val_main_v25 (F := Ideal) x0 x1 x2 x3 x4 x5 x6 (ix2 R d)
      = ∑ j : Fin 1024, (part (fun k => x0 (ix2 R k)) (gateA x3) (fun k => x1 (ix2 R k)) (fun k j => x4 (ix2 k j)) j
          + part (fun k => x0 (ix2 R k)) (gateB x3) (fun k => x2 (ix2 R k)) (fun k j => x5 (ix2 k j)) j) * x6 (ix2 j d) := by
    rw [val_main_v25_apply]
    refine Finset.sum_congr rfl fun k _ => ?_
    have hl : lidx_main_v25 (ix2 R d) k = ix2 R k := funext fun z => match z with | ⟨0, _⟩ => rfl | ⟨1, _⟩ => rfl
    have hr : ridx_main_v25 (ix2 R d) k = ix2 k d := funext fun z => match z with | ⟨0, _⟩ => rfl | ⟨1, _⟩ => rfl
    rw [hl, hr, at_v22]
  unfold mixedRow mixed
  dsimp only
  rw [← hd]
  pointwise [val_main_v26, val_main_v24, val_main_v23, val_main_cst_3]

/-- The row's mean. -/
theorem at_v30 : val_main_v30 (F := Ideal) x0 x1 x2 x3 x4 x5 x6 (ix2 R 0) = mean (mixedRow x0 x1 x2 x3 x4 x5 x6 R) := by
  have hs : val_main_v27 (F := Ideal) x0 x1 x2 x3 x4 x5 x6 (ix1 R) = ∑ k : Fin 1024, mixedRow x0 x1 x2 x3 x4 x5 x6 R k := by
    rw [val_main_v27_apply]
    rw [show val_main_cst_4 (F := Ideal) (Shape.Idx.first h_S_) = (0 : EReal) from by pointwise [val_main_cst_4], zero_add]
    refine Finset.sum_congr rfl fun k _ => ?_
    rw [← at_v26]
    exact congrArg _ (funext fun z => match z with | ⟨0, _⟩ => rfl | ⟨1, _⟩ => rfl)
  unfold mean
  rw [← hs]
  pointwise [val_main_v30, val_main_v29, val_main_v28, val_main_cst_5]

theorem at_v37 : val_main_v37 (F := Ideal) x0 x1 x2 x3 x4 x5 x6 (ix2 R 0)
    = mean (fun k => (mixedRow x0 x1 x2 x3 x4 x5 x6 R k - mean (mixedRow x0 x1 x2 x3 x4 x5 x6 R))
        * (mixedRow x0 x1 x2 x3 x4 x5 x6 R k - mean (mixedRow x0 x1 x2 x3 x4 x5 x6 R))) := by
  have he (k : Fin 1024) : val_main_v33 (F := Ideal) x0 x1 x2 x3 x4 x5 x6 (ix2 R k)
      = (mixedRow x0 x1 x2 x3 x4 x5 x6 R k - mean (mixedRow x0 x1 x2 x3 x4 x5 x6 R))
        * (mixedRow x0 x1 x2 x3 x4 x5 x6 R k - mean (mixedRow x0 x1 x2 x3 x4 x5 x6 R)) := by
    rw [← at_v26, ← at_v30]
    pointwise [val_main_v33, val_main_v32, val_main_v31]
  have hs : val_main_v34 (F := Ideal) x0 x1 x2 x3 x4 x5 x6 (ix1 R)
      = ∑ k : Fin 1024, (mixedRow x0 x1 x2 x3 x4 x5 x6 R k - mean (mixedRow x0 x1 x2 x3 x4 x5 x6 R))
        * (mixedRow x0 x1 x2 x3 x4 x5 x6 R k - mean (mixedRow x0 x1 x2 x3 x4 x5 x6 R)) := by
    rw [val_main_v34_apply]
    rw [show val_main_cst_6 (F := Ideal) (Shape.Idx.first h_S_) = (0 : EReal) from by pointwise [val_main_cst_6], zero_add]
    refine Finset.sum_congr rfl fun k _ => ?_
    rw [← he]
    exact congrArg _ (funext fun z => match z with | ⟨0, _⟩ => rfl | ⟨1, _⟩ => rfl)
  rw [show ∀ Z, mean Z = Ideal.div (∑ k, Z k) width from fun _ => rfl]
  dsimp only
  rw [← hs]
  pointwise [val_main_v37, val_main_v36, val_main_v35, val_main_cst_7]

theorem at_v50 (d : Fin 1024) : val_main_v50 (F := Ideal) x0 x1 x2 x3 x4 x5 x6 x7 x8 (ix2 R d)
    = normRow (mixedRow x0 x1 x2 x3 x4 x5 x6 R) (fun k => x7 (ix1 k)) (fun k => x8 (ix1 k)) d := by
  unfold normRow
  rw [← at_v37, ← at_v30, ← at_v26]
  pointwise [val_main_v50, val_main_v49, val_main_v48, val_main_v47, val_main_v46, val_main_v45, val_main_v44, val_main_v43, val_main_v42, val_main_v41,
    val_main_v40, val_main_v39, val_main_v38, val_main_cst_8]

end

/-- THE REFERENCE'S ARRAY at row `r`, lane `l`: feature `128 (r mod 8) + l` of token `r / 8`. -/
theorem reference_apply (x0 : (⟨S65536x1024, .f32⟩ : BufTy).Contents (Elt Ideal)) (x1 x2 : (⟨S65536x512, .bf16⟩ : BufTy).Contents (Elt Ideal))
    (x3 : (⟨S1024x4808, .f32⟩ : BufTy).Contents (Elt Ideal)) (x4 x5 : (⟨S512x1024, .f32⟩ : BufTy).Contents (Elt Ideal))
    (x6 : (⟨S1024x1024, .f32⟩ : BufTy).Contents (Elt Ideal)) (x7 x8 : (⟨S1024, .f32⟩ : BufTy).Contents (Elt Ideal)) (r : Fin 524288) (l : Fin 128) :
    val_main_v51 (F := Ideal) x0 x1 x2 x3 x4 x5 x6 x7 x8 (ix2 r l)
      = normRow (mixedRow x0 x1 x2 x3 x4 x5 x6 ⟨r.val / 8, by omega⟩) (fun k => x7 (ix1 k)) (fun k => x8 (ix1 k)) ⟨128 * (r.val % 8) + l.val, by omega⟩ := by
  rw [val_main_v51_apply, ← at_v50]
  refine congrArg _ (funext fun a => Fin.ext ?_)
  match a with
  | ⟨0, _⟩ => show (r.val * 128 + l.val) / 1024 = r.val / 8; omega
  | ⟨1, _⟩ => show (r.val * 128 + l.val) % 1024 = 128 * (r.val % 8) + l.val; omega

end Cert.Merge
-- ==== Proof.MergeValue.lean ====
/-
  The merge kernel's array and the reference's are one, token by token.
-/
module

public import proofs.«01_k».proof.Proof.MergeRun
public import proofs.«01_k».proof.Proof.MergeBlock
public import proofs.«01_k».proof.Proof.MergeReference
public import Idealize.ShloMosaic.Lib.Pipeline.ValueKit.Geometry

@[expose] public section

set_option maxRecDepth 16384

noncomputable section

namespace Cert.Merge

open Cert.MergeKernelIdeal Cert.MergeKernelIdeal.Gen Idealize.ShloMosaic Idealize.ShloMosaic.TcCoe Idealize.ShloMosaic.Tactic

theorem same2 {n0 n1 : ℕ} (a : Fin n0) (b : Fin n1) : ValueIdx.ix2 a b = ix2 a b := funext fun z => match z with | ⟨0, _⟩ => rfl | ⟨1, _⟩ => rfl

variable (m : (ℓ : Loc nD τ sig) → Buf (Elt Ideal) ℓ) (c : Dev nD)

/-- What the host's casts, slice and reshapings leave for the windows to stage. -/
theorem V_gates (k : Fin 1024) (j : Fin 2048) : V m c main_v1 (ix2 k j) = m ((c : Thread nD τ).loc main_arg3) (ix2 k ⟨2760 + j.val, by omega⟩) := by
  unfold V hostOps0
  after_results
  pointwise []
theorem V_branchA (k : Fin 512) (j : Fin 1024) : V m c main_v2 (ix2 k j) = m ((c : Thread nD τ).loc main_arg4) (ix2 k j) := by
  unfold V hostOps0
  after_results
  pointwise []
theorem V_branchB (k : Fin 512) (j : Fin 1024) : V m c main_v3 (ix2 k j) = m ((c : Thread nD τ).loc main_arg5) (ix2 k j) := by
  unfold V hostOps0
  after_results
  pointwise []
theorem V_proj (k j : Fin 1024) : V m c main_v4 (ix2 k j) = m ((c : Thread nD τ).loc main_arg6) (ix2 k j) := by
  unfold V hostOps0
  after_results
  pointwise []
theorem V_scale (k : Fin 1024) : V m c main_v5 (ix2 0 k) = m ((c : Thread nD τ).loc main_arg7) (ix1 k) := by
  unfold V hostOps0
  after_results
  pointwise []
theorem V_shift (k : Fin 1024) : V m c main_v6 (ix2 0 k) = m ((c : Thread nD τ).loc main_arg8) (ix1 k) := by
  unfold V hostOps0
  after_results
  pointwise []

theorem steps : cfg0.N = 64 := N_0

theorem tr0 : ∀ t : Fin grid0.N, cc0_transform_0 (grid0.coords t) = ![t.val, 0] := by decide +kernel
theorem tr1 : ∀ t : Fin grid0.N, cc0_transform_1 (grid0.coords t) = ![t.val, 0] := by decide +kernel
theorem tr2 : ∀ t : Fin grid0.N, cc0_transform_2 (grid0.coords t) = ![t.val, 0] := by decide +kernel
theorem tr11 : ∀ t : Fin grid0.N, cc0_transform_11 (grid0.coords t) = ![t.val, 0] := by decide +kernel
theorem tr3 : ∀ t : Fin grid0.N, cc0_transform_3 (grid0.coords t) = ![0, 0] := by decide +kernel
theorem tr4 : ∀ t : Fin grid0.N, cc0_transform_4 (grid0.coords t) = ![0, 0] := by decide +kernel
theorem tr5 : ∀ t : Fin grid0.N, cc0_transform_5 (grid0.coords t) = ![0, 0] := by decide +kernel
theorem tr6 : ∀ t : Fin grid0.N, cc0_transform_6 (grid0.coords t) = ![0, 0] := by decide +kernel
theorem tr7 : ∀ t : Fin grid0.N, cc0_transform_7 (grid0.coords t) = ![0, 0] := by decide +kernel
theorem tr8 : ∀ t : Fin grid0.N, cc0_transform_8 (grid0.coords t) = ![0, 0] := by decide +kernel

/-- Every window's block, read off the array it stages. -/
theorem blk0_at (t : Fin cfg0.N) (y : S1024x1024.Idx) :
    blk0 m c t y = V m c main_arg0 (ix2 (⟨1024 * t.val + (y 0).val, by
      have := t.isLt; have := steps; have h0 : (y 0).val < 1024 := (y 0).isLt; omega⟩ : Fin 65536) (y 1)) := by
  show V m c main_arg0 (((cfg0.win (0 : Fin 14)).blk t).view.emb y) = _
  refine congrArg (V m c main_arg0) (funext fun a => Fin.ext ?_)
  have e := tr0 t
  match a with
  | ⟨0, _⟩ =>
    show cc0_transform_0 (grid0.coords t) (0 : Fin 2) * 1024 + 1 * (y 0).val = 1024 * t.val + (y 0).val
    rw [e]; show t.val * 1024 + 1 * (y 0).val = _; omega
  | ⟨1, _⟩ =>
    show cc0_transform_0 (grid0.coords t) (1 : Fin 2) * 1024 + 1 * (y 1).val = (y 1).val
    rw [e]; show 0 * 1024 + 1 * (y 1).val = _; omega
theorem blk1_at (t : Fin cfg0.N) (y : S1024x512.Idx) :
    blk1 m c t y = V m c main_arg1 (ix2 (⟨1024 * t.val + (y 0).val, by
      have := t.isLt; have := steps; have h0 : (y 0).val < 1024 := (y 0).isLt; omega⟩ : Fin 65536) (y 1)) := by
  show V m c main_arg1 (((cfg0.win (1 : Fin 14)).blk t).view.emb y) = _
  refine congrArg (V m c main_arg1) (funext fun a => Fin.ext ?_)
  have e := tr1 t
  match a with
  | ⟨0, _⟩ =>
    show cc0_transform_1 (grid0.coords t) (0 : Fin 2) * 1024 + 1 * (y 0).val = 1024 * t.val + (y 0).val
    rw [e]; show t.val * 1024 + 1 * (y 0).val = _; omega
  | ⟨1, _⟩ =>
    show cc0_transform_1 (grid0.coords t) (1 : Fin 2) * 512 + 1 * (y 1).val = (y 1).val
    rw [e]; show 0 * 512 + 1 * (y 1).val = _; omega
theorem blk2_at (t : Fin cfg0.N) (y : S1024x512.Idx) :
    blk2 m c t y = V m c main_arg2 (ix2 (⟨1024 * t.val + (y 0).val, by
      have := t.isLt; have := steps; have h0 : (y 0).val < 1024 := (y 0).isLt; omega⟩ : Fin 65536) (y 1)) := by
  show V m c main_arg2 (((cfg0.win (2 : Fin 14)).blk t).view.emb y) = _
  refine congrArg (V m c main_arg2) (funext fun a => Fin.ext ?_)
  have e := tr2 t
  match a with
  | ⟨0, _⟩ =>
    show cc0_transform_2 (grid0.coords t) (0 : Fin 2) * 1024 + 1 * (y 0).val = 1024 * t.val + (y 0).val
    rw [e]; show t.val * 1024 + 1 * (y 0).val = _; omega
  | ⟨1, _⟩ =>
    show cc0_transform_2 (grid0.coords t) (1 : Fin 2) * 512 + 1 * (y 1).val = (y 1).val
    rw [e]; show 0 * 512 + 1 * (y 1).val = _; omega
theorem blk3_at (t : Fin cfg0.N) (y : S1024x2048.Idx) :
    blk3 m c t y = V m c main_v1 y := by
  show V m c main_v1 (((cfg0.win (3 : Fin 14)).blk t).view.emb y) = _
  refine congrArg (V m c main_v1) (funext fun a => Fin.ext ?_)
  have e := tr3 t
  match a with
  | ⟨0, _⟩ =>
    show cc0_transform_3 (grid0.coords t) (0 : Fin 2) * 1024 + 1 * (y 0).val = (y 0).val
    rw [e]; show 0 * 1024 + 1 * (y 0).val = _; omega
  | ⟨1, _⟩ =>
    show cc0_transform_3 (grid0.coords t) (1 : Fin 2) * 2048 + 1 * (y 1).val = (y 1).val
    rw [e]; show 0 * 2048 + 1 * (y 1).val = _; omega
theorem blk4_at (t : Fin cfg0.N) (y : S512x1024.Idx) :
    blk4 m c t y = V m c main_v2 y := by
  show V m c main_v2 (((cfg0.win (4 : Fin 14)).blk t).view.emb y) = _
  refine congrArg (V m c main_v2) (funext fun a => Fin.ext ?_)
  have e := tr4 t
  match a with
  | ⟨0, _⟩ =>
    show cc0_transform_4 (grid0.coords t) (0 : Fin 2) * 512 + 1 * (y 0).val = (y 0).val
    rw [e]; show 0 * 512 + 1 * (y 0).val = _; omega
  | ⟨1, _⟩ =>
    show cc0_transform_4 (grid0.coords t) (1 : Fin 2) * 1024 + 1 * (y 1).val = (y 1).val
    rw [e]; show 0 * 1024 + 1 * (y 1).val = _; omega
theorem blk5_at (t : Fin cfg0.N) (y : S512x1024.Idx) :
    blk5 m c t y = V m c main_v3 y := by
  show V m c main_v3 (((cfg0.win (5 : Fin 14)).blk t).view.emb y) = _
  refine congrArg (V m c main_v3) (funext fun a => Fin.ext ?_)
  have e := tr5 t
  match a with
  | ⟨0, _⟩ =>
    show cc0_transform_5 (grid0.coords t) (0 : Fin 2) * 512 + 1 * (y 0).val = (y 0).val
    rw [e]; show 0 * 512 + 1 * (y 0).val = _; omega
  | ⟨1, _⟩ =>
    show cc0_transform_5 (grid0.coords t) (1 : Fin 2) * 1024 + 1 * (y 1).val = (y 1).val
    rw [e]; show 0 * 1024 + 1 * (y 1).val = _; omega
theorem blk6_at (t : Fin cfg0.N) (y : S1024x1024.Idx) :
    blk6 m c t y = V m c main_v4 y := by
  show V m c main_v4 (((cfg0.win (6 : Fin 14)).blk t).view.emb y) = _
  refine congrArg (V m c main_v4) (funext fun a => Fin.ext ?_)
  have e := tr6 t
  match a with
  | ⟨0, _⟩ =>
    show cc0_transform_6 (grid0.coords t) (0 : Fin 2) * 1024 + 1 * (y 0).val = (y 0).val
    rw [e]; show 0 * 1024 + 1 * (y 0).val = _; omega
  | ⟨1, _⟩ =>
    show cc0_transform_6 (grid0.coords t) (1 : Fin 2) * 1024 + 1 * (y 1).val = (y 1).val
    rw [e]; show 0 * 1024 + 1 * (y 1).val = _; omega
theorem blk7_at (t : Fin cfg0.N) (y : S1x1024.Idx) :
    blk7 m c t y = V m c main_v5 y := by
  show V m c main_v5 (((cfg0.win (7 : Fin 14)).blk t).view.emb y) = _
  refine congrArg (V m c main_v5) (funext fun a => Fin.ext ?_)
  have e := tr7 t
  match a with
  | ⟨0, _⟩ =>
    show cc0_transform_7 (grid0.coords t) (0 : Fin 2) * 1 + 1 * (y 0).val = (y 0).val
    rw [e]; show 0 * 1 + 1 * (y 0).val = _; omega
  | ⟨1, _⟩ =>
    show cc0_transform_7 (grid0.coords t) (1 : Fin 2) * 1024 + 1 * (y 1).val = (y 1).val
    rw [e]; show 0 * 1024 + 1 * (y 1).val = _; omega
theorem blk8_at (t : Fin cfg0.N) (y : S1x1024.Idx) :
    blk8 m c t y = V m c main_v6 y := by
  show V m c main_v6 (((cfg0.win (8 : Fin 14)).blk t).view.emb y) = _
  refine congrArg (V m c main_v6) (funext fun a => Fin.ext ?_)
  have e := tr8 t
  match a with
  | ⟨0, _⟩ =>
    show cc0_transform_8 (grid0.coords t) (0 : Fin 2) * 1 + 1 * (y 0).val = (y 0).val
    rw [e]; show 0 * 1 + 1 * (y 0).val = _; omega
  | ⟨1, _⟩ =>
    show cc0_transform_8 (grid0.coords t) (1 : Fin 2) * 1024 + 1 * (y 1).val = (y 1).val
    rw [e]; show 0 * 1024 + 1 * (y 1).val = _; omega

/-- The gates' two halves of the staged weights. -/
theorem half_a (t : Fin cfg0.N) (k j : Fin 1024) : blk3 m c t (lh.idx (ix2 (n0 := 1024) (n1 := 1024) k j)) = gateA (m ((c : Thread nD τ).loc main_arg3)) k j := by
  have e : lh.idx (ix2 (n0 := 1024) (n1 := 1024) k j) = ix2 k (⟨j.val, by omega⟩ : Fin 2048) := funext fun a => Fin.ext (by
    match a with
    | ⟨0, _⟩ => show 0 + 1 * k.val = k.val; omega
    | ⟨1, _⟩ => show 0 + 1 * j.val = j.val; omega)
  rw [e, blk3_at]
  exact V_gates m c k _
theorem half_b (t : Fin cfg0.N) (k j : Fin 1024) : blk3 m c t (rh.idx (ix2 (n0 := 1024) (n1 := 1024) k j)) = gateB (m ((c : Thread nD τ).loc main_arg3)) k j := by
  have e : rh.idx (ix2 (n0 := 1024) (n1 := 1024) k j) = ix2 k (⟨1024 + j.val, by omega⟩ : Fin 2048) := funext fun a => Fin.ext (by
    match a with
    | ⟨0, _⟩ => show 0 + 1 * k.val = k.val; omega
    | ⟨1, _⟩ => show 1024 + 1 * j.val = 1024 + j.val; omega)
  rw [e, blk3_at]
  refine (V_gates m c k _).trans (congrArg (fun p => m ((c : Thread nD τ).loc main_arg3) (ix2 k p)) (Fin.ext ?_))
  show 2760 + (1024 + j.val) = 3784 + j.val; omega

/-- The merge reference's array at the kernel's arguments. -/
abbrev refArray : S524288x128.Idx → EReal :=
  Cert.MergeReferenceIdeal.Read.val_main_v51 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- A point's normalised row is the reference's formula at its token. -/
theorem normed_at (t : Fin cfg0.N) (r d : Fin 1024) (T : Fin 65536) (hT : T.val = 1024 * t.val + r.val) :
    normed m c t (ix2 r d) = normRow (mixedRow (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) T)
      (fun k => m ((c : Thread nD τ).loc main_arg7) (ix1 k)) (fun k => m ((c : Thread nD τ).loc main_arg8) (ix1 k)) d := by
  obtain ⟨e0, e1, e2, -⟩ := V_arg m c
  have g0 : (fun k : Fin 1024 => blk0 m c t (ix2 r k)) = fun k => m ((c : Thread nD τ).loc main_arg0) (ix2 T k) :=
    funext fun k => by rw [blk0_at, e0]; exact congrArg (fun p => m ((c : Thread nD τ).loc main_arg0) (ix2 p k)) (Fin.ext hT.symm)
  have g1 : (fun k : Fin 512 => blk1 m c t (ix2 r k)) = fun k => m ((c : Thread nD τ).loc main_arg1) (ix2 T k) :=
    funext fun k => by rw [blk1_at, e1]; exact congrArg (fun p => m ((c : Thread nD τ).loc main_arg1) (ix2 p k)) (Fin.ext hT.symm)
  have g2 : (fun k : Fin 512 => blk2 m c t (ix2 r k)) = fun k => m ((c : Thread nD τ).loc main_arg2) (ix2 T k) :=
    funext fun k => by rw [blk2_at, e2]; exact congrArg (fun p => m ((c : Thread nD τ).loc main_arg2) (ix2 p k)) (Fin.ext hT.symm)
  have ga : (fun k j : Fin 1024 => blk3 m c t (lh.idx (ix2 (n0 := 1024) (n1 := 1024) k j))) = gateA (m ((c : Thread nD τ).loc main_arg3)) :=
    funext fun k => funext fun j => half_a m c t k j
  have gb : (fun k j : Fin 1024 => blk3 m c t (rh.idx (ix2 (n0 := 1024) (n1 := 1024) k j))) = gateB (m ((c : Thread nD τ).loc main_arg3)) :=
    funext fun k => funext fun j => half_b m c t k j
  have g4 : (fun (k : Fin 512) (j : Fin 1024) => blk4 m c t (ix2 k j)) = fun k j => m ((c : Thread nD τ).loc main_arg4) (ix2 k j) :=
    funext fun k => funext fun j => by rw [blk4_at]; exact V_branchA m c k j
  have g5 : (fun (k : Fin 512) (j : Fin 1024) => blk5 m c t (ix2 k j)) = fun k j => m ((c : Thread nD τ).loc main_arg5) (ix2 k j) :=
    funext fun k => funext fun j => by rw [blk5_at]; exact V_branchB m c k j
  have g6 : (fun k j : Fin 1024 => blk6 m c t (ix2 k j)) = fun k j => m ((c : Thread nD τ).loc main_arg6) (ix2 k j) :=
    funext fun k => funext fun j => by rw [blk6_at]; exact V_proj m c k j
  have g7 : (fun k : Fin 1024 => blk7 m c t (ix2 0 k)) = fun k => m ((c : Thread nD τ).loc main_arg7) (ix1 k) :=
    funext fun k => by rw [blk7_at]; exact V_scale m c k
  have g8 : (fun k : Fin 1024 => blk8 m c t (ix2 0 k)) = fun k => m ((c : Thread nD τ).loc main_arg8) (ix1 k) :=
    funext fun k => by rw [blk8_at]; exact V_shift m c k
  unfold normed
  refine (norm_apply _ _ _ r d).trans ?_
  rw [g7, g8]
  refine congrArg (fun Z => normRow Z _ _ d) (funext fun k => ?_)
  refine (mixed_apply _ _ _ _ _ _ _ _ r k).trans ?_
  rw [g0, g1, g2, g4, g5, g6, ga, gb]
  rfl

/-- Every point writes its own block of the array back. -/
theorem flush_all : ∀ t : Fin grid0.N, Pipeline.Window.flushOf grid0 true cc0_transform_11 t = true := by decide +kernel

theorem emb11 (t : Fin cfg0.N) (y : S8192x128.Idx) :
    ((cfg0.win (11 : Fin 14)).blk t).view.emb y = ix2 (⟨8192 * t.val + (y 0).val, by
      have := t.isLt; have := steps; have h0 : (y 0).val < 8192 := (y 0).isLt; omega⟩ : Fin 524288) (y 1) := by
  refine funext fun a => Fin.ext ?_
  have e := tr11 t
  match a with
  | ⟨0, _⟩ =>
    show cc0_transform_11 (grid0.coords t) (0 : Fin 2) * 8192 + 1 * (y 0).val = 8192 * t.val + (y 0).val
    rw [e]; show t.val * 8192 + 1 * (y 0).val = _; omega
  | ⟨1, _⟩ =>
    show cc0_transform_11 (grid0.coords t) (1 : Fin 2) * 128 + 1 * (y 1).val = (y 1).val
    rw [e]; show 0 * 128 + 1 * (y 1).val = _; omega

/-- What a point leaves is the reference's rows of its block. -/
theorem out_eq (t : Fin cfg0.N) (n : Fin 64) (hn : n.val = t.val) (a : Fin 8192) (l : Fin 128) :
    outX m c t (ix2 a l) = refArray m c (ix2 ⟨8192 * n.val + a.val, by omega⟩ l) := by
  refine Eq.trans ?_ (reference_apply _ _ _ _ _ _ _ _ _ _ l).symm
  unfold outX outRows
  refine (congrArg _ (same2 _ _)).trans ((normed_at m c t ⟨a.val / 8, by omega⟩ ⟨128 * (a.val % 8) + l.val, by omega⟩
    ⟨(8192 * n.val + a.val) / 8, by omega⟩ (by show (8192 * n.val + a.val) / 8 = 1024 * t.val + a.val / 8; omega)).trans ?_)
  exact congrArg (normRow _ _ _) (Fin.ext (by show 128 * (a.val % 8) + l.val = 128 * ((8192 * n.val + a.val) % 8) + l.val; omega))

/-- THE ARRAYS: what the kernel leaves is the reference's array. -/
theorem arrays_eq : (dats m 0 c).arrAt (11 : Fin 14) cfg0.N = refArray m c := by
  have hN := steps
  refine (dats m 0 c).arrAt_eq_of_emb (11 : Fin 14) _ (fun t _ y => ?_) (fun i => ?_)
  · have ht : t.val < 64 := lt_of_lt_of_eq t.isLt hN
    show outX m c t y = refArray m c (((cfg0.win (11 : Fin 14)).blk t).view.emb y)
    rw [emb11]
    have hy : y = ix2 (n0 := 8192) (n1 := 128) (y 0) (y 1) := funext fun z => match z with | ⟨0, _⟩ => rfl | ⟨1, _⟩ => rfl
    exact (congrArg _ hy).trans (out_eq m c t ⟨t.val, by omega⟩ rfl (y 0) (y 1))
  · have h0 : (i 0).val < 524288 := (i 0).isLt
    have h1 : (i 1).val < 128 := (i 1).isLt
    let t : Fin cfg0.N := ⟨(i 0).val / 8192, by omega⟩
    refine ⟨t, flush_all t, ?_⟩
    have hi : i = ((cfg0.win (11 : Fin 14)).blk t).view.emb (ix2 (n0 := 8192) (n1 := 128) ⟨(i 0).val % 8192, by omega⟩ ⟨(i 1).val, h1⟩) := by
      rw [emb11]
      refine funext fun z => Fin.ext ?_
      match z with
      | ⟨0, _⟩ => show (i 0).val = 8192 * ((i 0).val / 8192) + (i 0).val % 8192; omega
      | ⟨1, _⟩ => rfl
    rw [hi]
    exact View.emb_mem_set _ _

end Cert.Merge
-- ==== Proof.ProjFormula.lean ====
/-
  One token of the input projection at exact reals, written out: the plain formulas both the kernel's blocks and the
  reference's arrays are read as.
-/
module

public import Idealize.ShloMosaic.Lib.Pointwise

@[expose] public section

noncomputable section

namespace Cert.Proj

open Idealize.ShloMosaic

/-- The lengths of the two normalised rows, and the small term under their roots. -/
abbrev latentWidth : EReal := Ideal.ofBits .f32 0x43000000#32
abbrev indexWidth : EReal := Ideal.ofBits .f32 0x42800000#32
abbrev small : EReal := Ideal.ofBits .f32 0x3727C5AC#32

/-- A token's product with column `j` of the weights. -/
def column {n : ℕ} (X : Fin 1024 → EReal) (W : Fin 1024 → Fin n → EReal) (j : Fin n) : EReal := ∑ k, X k * W k j

/-- The latent row over its root mean square, scaled. -/
def latentRow (Z g : Fin 128 → EReal) (d : Fin 128) : EReal :=
  Z d * Ideal.rsqrt (Ideal.div (∑ k, Z k * Z k) latentWidth + small) * g d

def mean (Z : Fin 64 → EReal) : EReal := Ideal.div (∑ k, Z k) indexWidth

/-- The index key normalised over the token, then scaled and shifted. -/
def indexRow (Z g b : Fin 64 → EReal) (d : Fin 64) : EReal :=
  (Z d - mean Z) * Ideal.rsqrt (mean (fun k => (Z k - mean Z) * (Z k - mean Z)) + small) * g d + b d

end Cert.Proj
-- ==== Proof.ProjBlock.lean ====
/-
  The projection kernel's body at exact reals: each block it stores, as the plain formulas.
-/
module

public import proofs.«01_k».proof.Proof.Gen.ProjKernelIdeal.Frame
public import proofs.«01_k».proof.Proof.ProjFormula

@[expose] public section

set_option maxRecDepth 16384

noncomputable section

namespace Cert.Proj

open Cert.ProjKernelIdeal Cert.ProjKernelIdeal.Gen Idealize.ShloMosaic Idealize.ShloMosaic.TcCoe

variable (x0 : S1024x1024.Idx → EReal)

theorem query_product (w : S1024x512.Idx → EReal) (r : Fin 1024) (d : Fin 512) :
    k0_pay7 (F := Ideal) x0 w (ix2 r d) = column (fun k => x0 (ix2 r k)) (fun k j => w (ix2 k j)) d := by
  unfold column
  pointwise [k0_pay7, k0_pay5]

theorem latent_product (w : S1024x128.Idx → EReal) (g : S1x128.Idx → EReal) (r : Fin 1024) (d : Fin 128) :
    k0_pay10 (F := Ideal) (k0_pay8 x0 w) (k0_pay9 g) (ix2 r d)
      = latentRow (column (fun k => x0 (ix2 r k)) (fun k j => w (ix2 k j))) (fun k => g (ix2 0 k)) d := by
  unfold latentRow column
  pointwise [k0_pay10, k0_pay9, k0_pay8, k0_pay5]

theorem index_product (w : S1024x128.Idx → EReal) (g b : S1x64.Idx → EReal) (r : Fin 1024) (d : Fin 64) :
    k0_pay11 (F := Ideal) (k0_pay5 x0) w g b (ix2 r d)
      = indexRow (column (fun k => x0 (ix2 r k)) (fun k (j : Fin 64) => w (ix2 k ⟨j.val, by omega⟩))) (fun k => g (ix2 0 k)) (fun k => b (ix2 0 k)) d := by
  unfold indexRow mean column
  pointwise [k0_pay11, k0_pay5]

theorem gate_product (w : S1024x128.Idx → EReal) (r : Fin 1024) (d : Fin 8) :
    k0_pay1 (F := Ideal) (k0_pay12 (k0_pay5 x0) w) (ix2 r d)
      = column (fun k => x0 (ix2 r k)) (fun k (j : Fin 8) => w (ix2 k ⟨j.val, by omega⟩)) d := by
  unfold column
  pointwise [k0_pay1, k0_pay12, k0_pay5]

theorem bandq_product (w : S1024x512.Idx → EReal) (r : Fin 1024) (d : Fin 512) :
    k0_pay2 (F := Ideal) (k0_pay5 x0) w (ix2 r d) = column (fun k => x0 (ix2 r k)) (fun k j => w (ix2 k j)) d := by
  unfold column
  pointwise [k0_pay2, k0_pay5]

theorem bandk_product (w : S1024x512.Idx → EReal) (r : Fin 1024) (d : Fin 512) :
    k0_pay3 (F := Ideal) (k0_pay5 x0) w (ix2 r d) = column (fun k => x0 (ix2 r k)) (fun k j => w (ix2 k j)) d := by
  unfold column
  pointwise [k0_pay3, k0_pay5]

theorem bandv_product (w : S1024x512.Idx → EReal) (r : Fin 1024) (d : Fin 512) :
    k0_pay4 (F := Ideal) (k0_pay5 x0) w (ix2 r d) = column (fun k => x0 (ix2 r k)) (fun k j => w (ix2 k j)) d := by
  unfold column
  pointwise [k0_pay4, k0_pay5]

end Cert.Proj
-- ==== Proof.ProjHost.lean ====
/-
  What the host lays out for the projection kernel, read at an index: the columns of the staged weights are columns of the
  projection's weights.
-/
module

public import proofs.«01_k».proof.Proof.Gen.ProjKernelIdeal.Frame
public import Idealize.ShloMosaic.Lib.Pointwise
public import Idealize.ShloMosaic.Lib.KernelVsHost
public import Idealize.ShloMosaic.Lib.Pipeline.ValueKit.Geometry

@[expose] public section

set_option maxRecDepth 65536

noncomputable section

namespace Cert.Proj

open Cert.ProjKernelIdeal Cert.ProjKernelIdeal.Gen Idealize.ShloMosaic Idealize.ShloMosaic.TcCoe Idealize.ShloMosaic.Tactic

variable (m : (ℓ : Loc nD τ sig) → Buf (Elt Ideal) ℓ) (c : Dev nD)

/-- Eight groups of the projection's columns, two of them padded to 128. -/
def groups (W : (⟨S1024x4808, .f32⟩ : BufTy).Contents (Elt Ideal)) : List ((s : Shape) × (s.Idx → EReal)) :=
    [⟨S1024x512, extractStridedSlice S1024x512 ![0, 0] W slices_S1024x4808_S1024x512_0_0⟩,
     ⟨S1024x512, extractStridedSlice S1024x512 ![0, 640] W slices_S1024x4808_S1024x512_0_640⟩,
     ⟨S1024x128, extractStridedSlice S1024x128 ![0, 512] W slices_S1024x4808_S1024x128_0_512⟩,
     ⟨S1024x128, pad S1024x128 ![0, 0] ![0, 64] ![0, 0] (extractStridedSlice S1024x64 ![0, 1152] W slices_S1024x4808_S1024x64_0_1152)
        (sitofp (F := Ideal) .f32 (constantI S_ 32 0#32)) pads_S1024x64_S1024x128_000_0640 h_S_⟩,
     ⟨S1024x128, pad S1024x128 ![0, 0] ![0, 120] ![0, 0] (extractStridedSlice S1024x8 ![0, 1216] W slices_S1024x4808_S1024x8_0_1216)
        (sitofp (F := Ideal) .f32 (constantI S_ 32 0#32)) pads_S1024x8_S1024x128_000_01200 h_S_⟩,
     ⟨S1024x512, extractStridedSlice S1024x512 ![0, 1224] W slices_S1024x4808_S1024x512_0_1224⟩,
     ⟨S1024x512, extractStridedSlice S1024x512 ![0, 1736] W slices_S1024x4808_S1024x512_0_1736⟩,
     ⟨S1024x512, extractStridedSlice S1024x512 ![0, 2248] W slices_S1024x4808_S1024x512_0_2248⟩]

/-- The staged weights: the groups side by side. -/
def staged (W : (⟨S1024x4808, .f32⟩ : BufTy).Contents (Elt Ideal)) : (⟨S1024x2944, .f32⟩ : BufTy).Contents (Elt Ideal) :=
  concatenate S1024x2944 1 (groups W)
    concatenates_S1024x512_S1024x512_S1024x128_S1024x128_S1024x128_S1024x512_S1024x512_S1024x512_S1024x2944_d1

theorem V_staged : V m c main_v13 = (truncf (F := Ideal) .bf16 (staged (m ((c : Thread nD τ).loc main_arg1))) bitsLt_bf16_f32 : (⟨S1024x2944, .bf16⟩ : BufTy).Contents (Elt Ideal)) := by
  unfold V staged groups hostOps0 hostOps0_1 hostOps0_2 hostOps0_3 hostOps0_4
  simp only [List.flatten_cons, List.flatten_nil, List.append_nil, List.cons_append, List.nil_append]
  after_results
  dsimp only [Matrix.cons_val]
  rfl

theorem V_latent_scale (k : Fin 128) : V m c main_v64 (ix2 0 k) = m ((c : Thread nD τ).loc main_arg2) (ix1 k) := by
  unfold V hostOps0 hostOps0_1 hostOps0_2 hostOps0_3 hostOps0_4
  simp only [List.flatten_cons, List.flatten_nil, List.append_nil, List.cons_append, List.nil_append]
  after_results
  pointwise []
theorem V_index_scale (k : Fin 64) : V m c main_v65 (ix2 0 k) = m ((c : Thread nD τ).loc main_arg3) (ix1 k) := by
  unfold V hostOps0 hostOps0_1 hostOps0_2 hostOps0_3 hostOps0_4
  simp only [List.flatten_cons, List.flatten_nil, List.append_nil, List.cons_append, List.nil_append]
  after_results
  pointwise []
theorem V_index_shift (k : Fin 64) : V m c main_v66 (ix2 0 k) = m ((c : Thread nD τ).loc main_arg4) (ix1 k) := by
  unfold V hostOps0 hostOps0_1 hostOps0_2 hostOps0_3 hostOps0_4
  simp only [List.flatten_cons, List.flatten_nil, List.append_nil, List.cons_append, List.nil_append]
  after_results
  pointwise []

section

variable (W : (⟨S1024x4808, .f32⟩ : BufTy).Contents (Elt Ideal)) (k : Fin 1024)

theorem staged_query (j : Fin 512) : staged W (ix2 k ⟨512 + j.val, by omega⟩) = W (ix2 k ⟨640 + j.val, by omega⟩) := by
  refine (concatenate_apply_piece (t := S1024x2944) (1 : Fin 2) (groups W) _ (ix2 k (⟨512 + j.val, by omega⟩ : Fin 2944)) 1 (by rw [show (groups W).length = 8 from rfl]; omega) S1024x512 _ rfl rfl 512 (by rfl) (ix2 k j) (fun b hb => ?_) rfl).trans ?_
  · match b with
    | ⟨0, _⟩ => rfl
    | ⟨1, _⟩ => exact absurd rfl hb
  · pointwise []

theorem staged_latent (j : Fin 128) : staged W (ix2 k ⟨1024 + j.val, by omega⟩) = W (ix2 k ⟨512 + j.val, by omega⟩) := by
  refine (concatenate_apply_piece (t := S1024x2944) (1 : Fin 2) (groups W) _ (ix2 k (⟨1024 + j.val, by omega⟩ : Fin 2944)) 2 (by rw [show (groups W).length = 8 from rfl]; omega) S1024x128 _ rfl rfl 1024 (by rfl) (ix2 k j) (fun b hb => ?_) rfl).trans ?_
  · match b with
    | ⟨0, _⟩ => rfl
    | ⟨1, _⟩ => exact absurd rfl hb
  · pointwise []

theorem staged_index (j : Fin 64) : staged W (ix2 k ⟨1152 + j.val, by omega⟩) = W (ix2 k ⟨1152 + j.val, by omega⟩) := by
  refine (concatenate_apply_piece (t := S1024x2944) (1 : Fin 2) (groups W) _ (ix2 k (⟨1152 + j.val, by omega⟩ : Fin 2944)) 3 (by rw [show (groups W).length = 8 from rfl]; omega) S1024x128 _ rfl rfl 1152 (by rfl) (ix2 k (⟨j.val, by omega⟩ : Fin 128)) (fun b hb => ?_) rfl).trans ?_
  · match b with
    | ⟨0, _⟩ => rfl
    | ⟨1, _⟩ => exact absurd rfl hb
  · refine (pad_apply_of_inside _ _ _ _ _ _ _ _ (ix2 k j) fun a => ?_).trans (by pointwise [])
    match a with
    | ⟨0, _⟩ => show k.val = 0 + k.val * 1; omega
    | ⟨1, _⟩ => show j.val = 0 + j.val * 1; omega

theorem staged_gate (j : Fin 8) : staged W (ix2 k ⟨1280 + j.val, by omega⟩) = W (ix2 k ⟨1216 + j.val, by omega⟩) := by
  refine (concatenate_apply_piece (t := S1024x2944) (1 : Fin 2) (groups W) _ (ix2 k (⟨1280 + j.val, by omega⟩ : Fin 2944)) 4 (by rw [show (groups W).length = 8 from rfl]; omega) S1024x128 _ rfl rfl 1280 (by rfl) (ix2 k (⟨j.val, by omega⟩ : Fin 128)) (fun b hb => ?_) rfl).trans ?_
  · match b with
    | ⟨0, _⟩ => rfl
    | ⟨1, _⟩ => exact absurd rfl hb
  · refine (pad_apply_of_inside _ _ _ _ _ _ _ _ (ix2 k j) fun a => ?_).trans (by pointwise [])
    match a with
    | ⟨0, _⟩ => show k.val = 0 + k.val * 1; omega
    | ⟨1, _⟩ => show j.val = 0 + j.val * 1; omega

theorem staged_bandq (j : Fin 512) : staged W (ix2 k ⟨1408 + j.val, by omega⟩) = W (ix2 k ⟨1224 + j.val, by omega⟩) := by
  refine (concatenate_apply_piece (t := S1024x2944) (1 : Fin 2) (groups W) _ (ix2 k (⟨1408 + j.val, by omega⟩ : Fin 2944)) 5 (by rw [show (groups W).length = 8 from rfl]; omega) S1024x512 _ rfl rfl 1408 (by rfl) (ix2 k j) (fun b hb => ?_) rfl).trans ?_
  · match b with
    | ⟨0, _⟩ => rfl
    | ⟨1, _⟩ => exact absurd rfl hb
  · pointwise []

theorem staged_bandk (j : Fin 512) : staged W (ix2 k ⟨1920 + j.val, by omega⟩) = W (ix2 k ⟨1736 + j.val, by omega⟩) := by
  refine (concatenate_apply_piece (t := S1024x2944) (1 : Fin 2) (groups W) _ (ix2 k (⟨1920 + j.val, by omega⟩ : Fin 2944)) 6 (by rw [show (groups W).length = 8 from rfl]; omega) S1024x512 _ rfl rfl 1920 (by rfl) (ix2 k j) (fun b hb => ?_) rfl).trans ?_
  · match b with
    | ⟨0, _⟩ => rfl
    | ⟨1, _⟩ => exact absurd rfl hb
  · pointwise []

theorem staged_bandv (j : Fin 512) : staged W (ix2 k ⟨2432 + j.val, by omega⟩) = W (ix2 k ⟨2248 + j.val, by omega⟩) := by
  refine (concatenate_apply_piece (t := S1024x2944) (1 : Fin 2) (groups W) _ (ix2 k (⟨2432 + j.val, by omega⟩ : Fin 2944)) 7 (by rw [show (groups W).length = 8 from rfl]; omega) S1024x512 _ rfl rfl 2432 (by rfl) (ix2 k j) (fun b hb => ?_) rfl).trans ?_
  · match b with
    | ⟨0, _⟩ => rfl
    | ⟨1, _⟩ => exact absurd rfl hb
  · pointwise []

end

end Cert.Proj
-- ==== Proof.ProjReference.lean ====
/-
  The projection reference at exact reals: its seven arrays as the plain formulas.
-/
module

public import proofs.«01_k».proof.Proof.Gen.ProjReferenceIdeal.Read
public import proofs.«01_k».proof.Proof.ProjFormula

@[expose] public section

set_option maxRecDepth 16384

noncomputable section

namespace Cert.Proj

open Cert.ProjReferenceIdeal Cert.ProjReferenceIdeal.Gen Cert.ProjReferenceIdeal.Read Idealize.ShloMosaic Idealize.ShloMosaic.TcCoe

variable (x0 : (⟨S65536x1024, .f32⟩ : BufTy).Contents (Elt Ideal)) (x1 : (⟨S1024x4808, .f32⟩ : BufTy).Contents (Elt Ideal))
  (x2 : (⟨S128, .f32⟩ : BufTy).Contents (Elt Ideal)) (x3 x4 : (⟨S64, .f32⟩ : BufTy).Contents (Elt Ideal)) (R : Fin 65536)

/-- Token `R`'s product with the `n` columns of the weights from `o` on. -/
def part (n o : ℕ) (h : o + n ≤ 4808) : Fin n → EReal := column (fun k => x0 (ix2 R k)) (fun k (j : Fin n) => x1 (ix2 k ⟨o + j.val, by omega⟩))

theorem at_v0 (j : Fin 4808) : val_main_v0 (F := Ideal) x0 x1 (ix2 R j) = ∑ k : Fin 1024, x0 (ix2 R k) * x1 (ix2 k j) := by
  rw [val_main_v0_apply]
  refine Finset.sum_congr rfl fun k _ => ?_
  refine congrArg₂ (fun p q => x0 p * x1 q) (funext fun z => Fin.ext ?_) (funext fun z => Fin.ext ?_)
  · match z with
    | ⟨0, _⟩ => rfl
    | ⟨1, _⟩ => rfl
  · match z with
    | ⟨0, _⟩ => rfl
    | ⟨1, _⟩ => rfl

theorem at_v2 (j : Fin 128) : val_main_v2 (F := Ideal) x0 x1 (ix2 R j) = part x0 x1 R 128 512 (by omega) j := by
  rw [val_main_v2_apply]
  refine Eq.trans (congrArg _ (funext fun z => Fin.ext ?_)) (at_v0 x0 x1 R ⟨512 + j.val, by omega⟩)
  match z with
  | ⟨0, _⟩ => rfl
  | ⟨1, _⟩ => rfl

theorem at_v3 (j : Fin 512) : val_main_v3 (F := Ideal) x0 x1 (ix2 R j) = part x0 x1 R 512 640 (by omega) j := by
  rw [val_main_v3_apply]
  refine Eq.trans (congrArg _ (funext fun z => Fin.ext ?_)) (at_v0 x0 x1 R ⟨640 + j.val, by omega⟩)
  match z with
  | ⟨0, _⟩ => rfl
  | ⟨1, _⟩ => rfl

theorem at_v48 (j : Fin 512) : val_main_v48 (F := Ideal) x0 x1 (ix2 R j) = part x0 x1 R 512 640 (by omega) j := by
  rw [← at_v3]
  pointwise [val_main_v48]

theorem at_v4 (j : Fin 64) : val_main_v4 (F := Ideal) x0 x1 (ix2 R j) = part x0 x1 R 64 1152 (by omega) j := by
  rw [val_main_v4_apply]
  refine Eq.trans (congrArg _ (funext fun z => Fin.ext ?_)) (at_v0 x0 x1 R ⟨1152 + j.val, by omega⟩)
  match z with
  | ⟨0, _⟩ => rfl
  | ⟨1, _⟩ => rfl

theorem at_v5 (j : Fin 8) : val_main_v5 (F := Ideal) x0 x1 (ix2 R j) = part x0 x1 R 8 1216 (by omega) j := by
  rw [val_main_v5_apply]
  refine Eq.trans (congrArg _ (funext fun z => Fin.ext ?_)) (at_v0 x0 x1 R ⟨1216 + j.val, by omega⟩)
  match z with
  | ⟨0, _⟩ => rfl
  | ⟨1, _⟩ => rfl

theorem at_v6 (j : Fin 512) : val_main_v6 (F := Ideal) x0 x1 (ix2 R j) = part x0 x1 R 512 1224 (by omega) j := by
  rw [val_main_v6_apply]
  refine Eq.trans (congrArg _ (funext fun z => Fin.ext ?_)) (at_v0 x0 x1 R ⟨1224 + j.val, by omega⟩)
  match z with
  | ⟨0, _⟩ => rfl
  | ⟨1, _⟩ => rfl

theorem at_v51 (j : Fin 512) : val_main_v51 (F := Ideal) x0 x1 (ix2 R j) = part x0 x1 R 512 1224 (by omega) j := by
  rw [← at_v6]
  pointwise [val_main_v51]

theorem at_v7 (j : Fin 512) : val_main_v7 (F := Ideal) x0 x1 (ix2 R j) = part x0 x1 R 512 1736 (by omega) j := by
  rw [val_main_v7_apply]
  refine Eq.trans (congrArg _ (funext fun z => Fin.ext ?_)) (at_v0 x0 x1 R ⟨1736 + j.val, by omega⟩)
  match z with
  | ⟨0, _⟩ => rfl
  | ⟨1, _⟩ => rfl

theorem at_v52 (j : Fin 512) : val_main_v52 (F := Ideal) x0 x1 (ix2 R j) = part x0 x1 R 512 1736 (by omega) j := by
  rw [← at_v7]
  pointwise [val_main_v52]

theorem at_v8 (j : Fin 512) : val_main_v8 (F := Ideal) x0 x1 (ix2 R j) = part x0 x1 R 512 2248 (by omega) j := by
  rw [val_main_v8_apply]
  refine Eq.trans (congrArg _ (funext fun z => Fin.ext ?_)) (at_v0 x0 x1 R ⟨2248 + j.val, by omega⟩)
  match z with
  | ⟨0, _⟩ => rfl
  | ⟨1, _⟩ => rfl

theorem at_v53 (j : Fin 512) : val_main_v53 (F := Ideal) x0 x1 (ix2 R j) = part x0 x1 R 512 2248 (by omega) j := by
  rw [← at_v8]
  pointwise [val_main_v53]

theorem at_v49 (d : Fin 128) : val_main_v49 (F := Ideal) x0 x1 x2 (ix2 R d) = latentRow (part x0 x1 R 128 512 (by omega)) (fun k => x2 (ix1 k)) d := by
  have hs : val_main_v12 (F := Ideal) x0 x1 (ix1 R) = ∑ k : Fin 128, part x0 x1 R 128 512 (by omega) k * part x0 x1 R 128 512 (by omega) k := by
    rw [val_main_v12_apply]
    rw [show val_main_cst (F := Ideal) (Shape.Idx.first h_S_) = (0 : EReal) from by pointwise [val_main_cst], zero_add]
    refine Finset.sum_congr rfl fun k _ => ?_
    rw [← at_v2]
    refine (congrArg _ (funext fun z => match z with | ⟨0, _⟩ => rfl | ⟨1, _⟩ => rfl : idx_main_v12 (ix1 R) k = ix2 R k)).trans ?_
    pointwise [val_main_v11]
  unfold latentRow
  rw [← hs, ← at_v2]
  pointwise [val_main_v49, val_main_v23, val_main_v22, val_main_v21, val_main_v20, val_main_v19, val_main_v18, val_main_v17, val_main_v16,
    val_main_v15, val_main_v14, val_main_v13, val_main_cst_0, val_main_cst_1]

theorem at_v27 : val_main_v27 (F := Ideal) x0 x1 (ix2 R 0) = mean (part x0 x1 R 64 1152 (by omega)) := by
  have hs : val_main_v24 (F := Ideal) x0 x1 (ix1 R) = ∑ k : Fin 64, part x0 x1 R 64 1152 (by omega) k := by
    rw [val_main_v24_apply]
    rw [show val_main_cst_2 (F := Ideal) (Shape.Idx.first h_S_) = (0 : EReal) from by pointwise [val_main_cst_2], zero_add]
    refine Finset.sum_congr rfl fun k _ => ?_
    rw [← at_v4]
    exact congrArg _ (funext fun z => match z with | ⟨0, _⟩ => rfl | ⟨1, _⟩ => rfl)
  unfold mean
  rw [← hs]
  pointwise [val_main_v27, val_main_v26, val_main_v25, val_main_cst_3]

theorem at_v34 : val_main_v34 (F := Ideal) x0 x1 (ix2 R 0)
    = mean (fun k => (part x0 x1 R 64 1152 (by omega) k - mean (part x0 x1 R 64 1152 (by omega)))
        * (part x0 x1 R 64 1152 (by omega) k - mean (part x0 x1 R 64 1152 (by omega)))) := by
  have he (k : Fin 64) : val_main_v30 (F := Ideal) x0 x1 (ix2 R k)
      = (part x0 x1 R 64 1152 (by omega) k - mean (part x0 x1 R 64 1152 (by omega)))
        * (part x0 x1 R 64 1152 (by omega) k - mean (part x0 x1 R 64 1152 (by omega))) := by
    rw [← at_v27, ← at_v4]
    pointwise [val_main_v30, val_main_v29, val_main_v28]
  have hs : val_main_v31 (F := Ideal) x0 x1 (ix1 R)
      = ∑ k : Fin 64, (part x0 x1 R 64 1152 (by omega) k - mean (part x0 x1 R 64 1152 (by omega)))
        * (part x0 x1 R 64 1152 (by omega) k - mean (part x0 x1 R 64 1152 (by omega))) := by
    rw [val_main_v31_apply]
    rw [show val_main_cst_4 (F := Ideal) (Shape.Idx.first h_S_) = (0 : EReal) from by pointwise [val_main_cst_4], zero_add]
    refine Finset.sum_congr rfl fun k _ => ?_
    rw [← he]
    exact congrArg _ (funext fun z => match z with | ⟨0, _⟩ => rfl | ⟨1, _⟩ => rfl)
  rw [show ∀ Z, mean Z = Ideal.div (∑ k, Z k) indexWidth from fun _ => rfl]
  dsimp only
  rw [← hs]
  pointwise [val_main_v34, val_main_v33, val_main_v32, val_main_cst_5]

theorem at_v50 (d : Fin 64) : val_main_v50 (F := Ideal) x0 x1 x3 x4 (ix2 R d)
    = indexRow (part x0 x1 R 64 1152 (by omega)) (fun k => x3 (ix1 k)) (fun k => x4 (ix1 k)) d := by
  unfold indexRow
  rw [← at_v34, ← at_v27, ← at_v4]
  pointwise [val_main_v50, val_main_v47, val_main_v46, val_main_v45, val_main_v44, val_main_v43, val_main_v42, val_main_v41, val_main_v40,
    val_main_v39, val_main_v38, val_main_v37, val_main_v36, val_main_v35, val_main_cst_6]

end Cert.Proj
-- ==== Proof.ProjValue.lean ====
/-
  The projection kernel's seven arrays and the reference's are the same, token by token.
-/
module

public import proofs.«01_k».proof.Proof.Gen.ProjKernelIdeal.Value
public import proofs.«01_k».proof.Proof.ProjBlock
public import proofs.«01_k».proof.Proof.ProjHost
public import proofs.«01_k».proof.Proof.ProjReference
public import Idealize.ShloMosaic.Lib.Pipeline.ValueKit.Geometry

@[expose] public section

set_option maxRecDepth 16384

noncomputable section

namespace Cert.Proj

open Cert.ProjKernelIdeal Cert.ProjKernelIdeal.Gen Cert.ProjKernelIdeal.Value Idealize.ShloMosaic Idealize.ShloMosaic.TcCoe

variable (m : (ℓ : Loc nD τ sig) → Buf (Elt Ideal) ℓ) (c : Dev nD)

/-- The kernel's arguments: the tokens, the weights, the scale of the latents, the scale and shift of the index keys. -/
abbrev tokens : S65536x1024.Idx → EReal := m ((c : Thread nD τ).loc main_arg0)
abbrev weights : S1024x4808.Idx → EReal := m ((c : Thread nD τ).loc main_arg1)
abbrev latentScale : S128.Idx → EReal := m ((c : Thread nD τ).loc main_arg2)
abbrev indexScale : S64.Idx → EReal := m ((c : Thread nD τ).loc main_arg3)
abbrev indexShift : S64.Idx → EReal := m ((c : Thread nD τ).loc main_arg4)

theorem steps : cfg0.N = 64 := N_0

/-- The windows' blocks: point `t` reads rows block `t` of the tokens and all of the weights and vectors, and writes block `t` of each array. -/
theorem tr0 : ∀ t : Fin grid0.N, cc0_transform_0 (grid0.coords t) = ![t.val, 0] := by decide +kernel
theorem tr7 : ∀ t : Fin grid0.N, cc0_transform_7 (grid0.coords t) = ![t.val, 0] := by decide +kernel
theorem tr8 : ∀ t : Fin grid0.N, cc0_transform_8 (grid0.coords t) = ![t.val, 0] := by decide +kernel
theorem tr9 : ∀ t : Fin grid0.N, cc0_transform_9 (grid0.coords t) = ![t.val, 0] := by decide +kernel
theorem tr10 : ∀ t : Fin grid0.N, cc0_transform_10 (grid0.coords t) = ![t.val, 0] := by decide +kernel
theorem tr11 : ∀ t : Fin grid0.N, cc0_transform_11 (grid0.coords t) = ![t.val, 0] := by decide +kernel
theorem tr12 : ∀ t : Fin grid0.N, cc0_transform_12 (grid0.coords t) = ![t.val, 0] := by decide +kernel
theorem tr13 : ∀ t : Fin grid0.N, cc0_transform_13 (grid0.coords t) = ![t.val, 0] := by decide +kernel
theorem tr1 : ∀ t : Fin grid0.N, cc0_transform_1 (grid0.coords t) = ![0, 0] := by decide +kernel
theorem tr3 : ∀ t : Fin grid0.N, cc0_transform_3 (grid0.coords t) = ![0, 0] := by decide +kernel
theorem tr4 : ∀ t : Fin grid0.N, cc0_transform_4 (grid0.coords t) = ![0, 0] := by decide +kernel
theorem tr5 : ∀ t : Fin grid0.N, cc0_transform_5 (grid0.coords t) = ![0, 0] := by decide +kernel
theorem flush7 : ∀ t : Fin grid0.N, Pipeline.Window.flushOf grid0 true cc0_transform_7 t = true := by decide +kernel
theorem flush8 : ∀ t : Fin grid0.N, Pipeline.Window.flushOf grid0 true cc0_transform_8 t = true := by decide +kernel
theorem flush9 : ∀ t : Fin grid0.N, Pipeline.Window.flushOf grid0 true cc0_transform_9 t = true := by decide +kernel
theorem flush10 : ∀ t : Fin grid0.N, Pipeline.Window.flushOf grid0 true cc0_transform_10 t = true := by decide +kernel
theorem flush11 : ∀ t : Fin grid0.N, Pipeline.Window.flushOf grid0 true cc0_transform_11 t = true := by decide +kernel
theorem flush12 : ∀ t : Fin grid0.N, Pipeline.Window.flushOf grid0 true cc0_transform_12 t = true := by decide +kernel
theorem flush13 : ∀ t : Fin grid0.N, Pipeline.Window.flushOf grid0 true cc0_transform_13 t = true := by decide +kernel

/-- Token `1024 t + r`, row `r` of point `t`'s block. -/
abbrev token (t : Fin cfg0.N) (r : Fin 1024) : Fin 65536 := ⟨1024 * t.val + r.val, by have := t.isLt; have := steps; omega⟩

/-- Every input window's block, read off the array it stages. -/
theorem block_tokens (t : Fin cfg0.N) (r k : Fin 1024) : iblk m c 0 t (ix2 r k) = tokens m c (ix2 (token t r) k) := by
  refine Eq.trans ?_ (congrFun (V_main_arg0 m c) (ix2 (token t r) k))
  show V m c main_arg0 (((cfg0.win (0 : Fin 14)).blk t).view.emb (ix2 r k)) = _
  refine congrArg (V m c main_arg0) (funext fun a => Fin.ext ?_)
  have e := tr0 t
  match a with
  | ⟨0, _⟩ =>
    show cc0_transform_0 (grid0.coords t) (0 : Fin 2) * 1024 + 1 * r.val = 1024 * t.val + r.val
    rw [e]; show t.val * 1024 + 1 * r.val = _; omega
  | ⟨1, _⟩ =>
    show cc0_transform_0 (grid0.coords t) (1 : Fin 2) * 1024 + 1 * k.val = k.val
    rw [e]; show 0 * 1024 + 1 * k.val = _; omega
theorem block_weights (t : Fin cfg0.N) (k : Fin 1024) (j : Fin 2944) : iblk m c 1 t (ix2 k j) = staged (weights m c) (ix2 k j) := by
  refine Eq.trans ?_ (congrFun (V_staged m c) (ix2 k j))
  show V m c main_v13 (((cfg0.win (1 : Fin 14)).blk t).view.emb (ix2 k j)) = _
  refine congrArg (V m c main_v13) (funext fun a => Fin.ext ?_)
  have e := tr1 t
  match a with
  | ⟨0, _⟩ =>
    show cc0_transform_1 (grid0.coords t) (0 : Fin 2) * 1024 + 1 * k.val = k.val
    rw [e]; show 0 * 1024 + 1 * k.val = _; omega
  | ⟨1, _⟩ =>
    show cc0_transform_1 (grid0.coords t) (1 : Fin 2) * 2944 + 1 * j.val = j.val
    rw [e]; show 0 * 2944 + 1 * j.val = _; omega
theorem block_latent_scale (t : Fin cfg0.N) (j : Fin 128) : iblk m c 3 t (ix2 0 j) = latentScale m c (ix1 j) := by
  refine Eq.trans ?_ (V_latent_scale m c j)
  show V m c main_v64 (((cfg0.win (3 : Fin 14)).blk t).view.emb (ix2 (0 : Fin 1) j)) = _
  refine congrArg (V m c main_v64) (funext fun a => Fin.ext ?_)
  have e := tr3 t
  match a with
  | ⟨0, _⟩ =>
    show cc0_transform_3 (grid0.coords t) (0 : Fin 2) * 1 + 1 * (0 : Fin 1).val = (0 : Fin 1).val
    rw [e]; show 0 * 1 + 1 * (0 : Fin 1).val = _; omega
  | ⟨1, _⟩ =>
    show cc0_transform_3 (grid0.coords t) (1 : Fin 2) * 128 + 1 * j.val = j.val
    rw [e]; show 0 * 128 + 1 * j.val = _; omega
theorem block_index_scale (t : Fin cfg0.N) (j : Fin 64) : iblk m c 4 t (ix2 0 j) = indexScale m c (ix1 j) := by
  refine Eq.trans ?_ (V_index_scale m c j)
  show V m c main_v65 (((cfg0.win (4 : Fin 14)).blk t).view.emb (ix2 (0 : Fin 1) j)) = _
  refine congrArg (V m c main_v65) (funext fun a => Fin.ext ?_)
  have e := tr4 t
  match a with
  | ⟨0, _⟩ =>
    show cc0_transform_4 (grid0.coords t) (0 : Fin 2) * 1 + 1 * (0 : Fin 1).val = (0 : Fin 1).val
    rw [e]; show 0 * 1 + 1 * (0 : Fin 1).val = _; omega
  | ⟨1, _⟩ =>
    show cc0_transform_4 (grid0.coords t) (1 : Fin 2) * 64 + 1 * j.val = j.val
    rw [e]; show 0 * 64 + 1 * j.val = _; omega
theorem block_index_shift (t : Fin cfg0.N) (j : Fin 64) : iblk m c 5 t (ix2 0 j) = indexShift m c (ix1 j) := by
  refine Eq.trans ?_ (V_index_shift m c j)
  show V m c main_v66 (((cfg0.win (5 : Fin 14)).blk t).view.emb (ix2 (0 : Fin 1) j)) = _
  refine congrArg (V m c main_v66) (funext fun a => Fin.ext ?_)
  have e := tr5 t
  match a with
  | ⟨0, _⟩ =>
    show cc0_transform_5 (grid0.coords t) (0 : Fin 2) * 1 + 1 * (0 : Fin 1).val = (0 : Fin 1).val
    rw [e]; show 0 * 1 + 1 * (0 : Fin 1).val = _; omega
  | ⟨1, _⟩ =>
    show cc0_transform_5 (grid0.coords t) (1 : Fin 2) * 64 + 1 * j.val = j.val
    rw [e]; show 0 * 64 + 1 * j.val = _; omega

/-- A point's product with a group of the staged columns is its tokens' product with the projection's columns. -/
theorem column_eq (t : Fin cfg0.N) (r : Fin 1024) (n o : ℕ) (h : o + n ≤ 4808) (w : Fin 1024 → Fin n → EReal)
    (hw : ∀ k j, w k j = weights m c (ix2 k ⟨o + j.val, by omega⟩)) :
    column (fun k => iblk m c 0 t (ix2 r k)) w = part (tokens m c) (weights m c) (token t r) n o h := by
  unfold part
  rw [show (fun k => iblk m c 0 t (ix2 r k)) = fun k => tokens m c (ix2 (token t r) k) from funext fun k => block_tokens m c t r k]
  exact congrArg _ (funext fun k => funext fun j => hw k j)

/-- The index queries: their columns among the staged ones, the block written at a point, and the array. -/
theorem load_query (t : Fin cfg0.N) (k : Fin 1024) (j : Fin 512) :
    View.ld (iblk m c 1 t) r0_3 (ix2 k j) = weights m c (ix2 k ⟨640 + j.val, by omega⟩) := by
  rw [← staged_query (weights m c) k j, ← block_weights m c t]
  refine congrArg (iblk m c 1 t) (funext fun a => Fin.ext ?_)
  match a with
  | ⟨0, _⟩ => show 0 + 1 * k.val = k.val; omega
  | ⟨1, _⟩ => show 512 + 1 * j.val = 512 + j.val; omega

abbrev ref7 : S65536x512.Idx → EReal := Cert.ProjReferenceIdeal.Read.val_main_v48 (F := Ideal) (tokens m c) (weights m c)
theorem stored_query (x0 : Vec Ideal S1024x1024 .f32) (x1 : Vec Ideal S1024x2944 .bf16) (x2 : Vec Ideal S512x1024 .bf16) (x3 : Vec Ideal S1x128 .f32) (x4 x5 : Vec Ideal S1x64 .f32) :
    out0_7 (F := Ideal) x0 x1 x2 x3 x4 x5 = k0_pay7 x0 (View.ld x1 r0_3) := by
  unfold out0_7
  rw [View.canon_cons_unit_lit _ _ _ (by decide), View.ld_unit_lit _ x0 (by decide)]

theorem out7_eq (t : Fin cfg0.N) (r : Fin 1024) (d : Fin 512) :
    out0_7 (iblk m c 0 t) (iblk m c 1 t) (iblk m c 2 t) (iblk m c 3 t) (iblk m c 4 t) (iblk m c 5 t) (ix2 r d) = ref7 m c (ix2 (token t r) d) := by
  refine (congrFun (stored_query _ _ _ _ _ _) (ix2 r d)).trans ?_
  refine (query_product _ _ r d).trans ?_
  rw [column_eq m c t r 512 640 (by omega) _ (load_query m c t)]
  exact (at_v48 _ _ _ d).symm

theorem emb7 (t : Fin cfg0.N) (y : S1024x512.Idx) : ((cfg0.win (7 : Fin 14)).blk t).view.emb y = ix2 (token t (y 0)) (y 1) := by
  refine funext fun a => Fin.ext ?_
  have e := tr7 t
  match a with
  | ⟨0, _⟩ =>
    show cc0_transform_7 (grid0.coords t) (0 : Fin 2) * 1024 + 1 * (y 0).val = 1024 * t.val + (y 0).val
    rw [e]; show t.val * 1024 + 1 * (y 0).val = _; omega
  | ⟨1, _⟩ =>
    show cc0_transform_7 (grid0.coords t) (1 : Fin 2) * 512 + 1 * (y 1).val = (y 1).val
    rw [e]; show 0 * 512 + 1 * (y 1).val = _; omega

theorem array7 : (dats m 0 c).arrAt (7 : Fin 14) cfg0.N = ref7 m c := by
  have hN := steps
  refine (dats m 0 c).arrAt_eq_of_emb (7 : Fin 14) _ (fun t _ y => ?_) (fun i => ?_)
  · refine (congrFun (flushed7 m c t) y).trans ?_
    show out0_7 (iblk m c 0 t) (iblk m c 1 t) (iblk m c 2 t) (iblk m c 3 t) (iblk m c 4 t) (iblk m c 5 t) y = ref7 m c (((cfg0.win (7 : Fin 14)).blk t).view.emb y)
    rw [emb7]
    have hy : y = ix2 (n0 := 1024) (n1 := 512) (y 0) (y 1) := funext fun z => match z with | ⟨0, _⟩ => rfl | ⟨1, _⟩ => rfl
    exact (congrArg _ hy).trans (out7_eq m c t (y 0) (y 1))
  · have h0 : (i 0).val < 65536 := (i 0).isLt
    have h1 : (i 1).val < 512 := (i 1).isLt
    let t : Fin cfg0.N := ⟨(i 0).val / 1024, by omega⟩
    refine ⟨t, flush7 t, ?_⟩
    have hi : i = ((cfg0.win (7 : Fin 14)).blk t).view.emb (ix2 (n0 := 1024) (n1 := 512) ⟨(i 0).val % 1024, by omega⟩ ⟨(i 1).val, h1⟩) := by
      rw [emb7]
      refine funext fun z => Fin.ext ?_
      match z with
      | ⟨0, _⟩ => show (i 0).val = 1024 * ((i 0).val / 1024) + (i 0).val % 1024; omega
      | ⟨1, _⟩ => rfl
    rw [hi]
    exact View.emb_mem_set _ _

/-- The latents: their columns among the staged ones, the block written at a point, and the array. -/
theorem load_latent (t : Fin cfg0.N) (k : Fin 1024) (j : Fin 128) :
    View.ld (iblk m c 1 t) r0_5 (ix2 k j) = weights m c (ix2 k ⟨512 + j.val, by omega⟩) := by
  rw [← staged_latent (weights m c) k j, ← block_weights m c t]
  refine congrArg (iblk m c 1 t) (funext fun a => Fin.ext ?_)
  match a with
  | ⟨0, _⟩ => show 0 + 1 * k.val = k.val; omega
  | ⟨1, _⟩ => show 1024 + 1 * j.val = 1024 + j.val; omega

abbrev ref8 : S65536x128.Idx → EReal := Cert.ProjReferenceIdeal.Read.val_main_v49 (F := Ideal) (tokens m c) (weights m c) (latentScale m c)
theorem stored_latent (x0 : Vec Ideal S1024x1024 .f32) (x1 : Vec Ideal S1024x2944 .bf16) (x2 : Vec Ideal S512x1024 .bf16) (x3 : Vec Ideal S1x128 .f32) (x4 x5 : Vec Ideal S1x64 .f32) :
    out0_8 (F := Ideal) x0 x1 x2 x3 x4 x5 = k0_pay10 (k0_pay8 x0 (View.ld x1 r0_5)) (k0_pay9 x3) := by
  unfold out0_8
  rw [View.canon_cons_unit_lit _ _ _ (by decide), View.ld_unit_lit _ x0 (by decide), View.ld_unit_lit _ x3 (by decide)]

theorem out8_eq (t : Fin cfg0.N) (r : Fin 1024) (d : Fin 128) :
    out0_8 (iblk m c 0 t) (iblk m c 1 t) (iblk m c 2 t) (iblk m c 3 t) (iblk m c 4 t) (iblk m c 5 t) (ix2 r d) = ref8 m c (ix2 (token t r) d) := by
  refine (congrFun (stored_latent _ _ _ _ _ _) (ix2 r d)).trans ?_
  refine (latent_product _ _ _ r d).trans ?_
  rw [column_eq m c t r 128 512 (by omega) _ (load_latent m c t), funext (block_latent_scale m c t)]
  exact (at_v49 _ _ _ _ d).symm

theorem emb8 (t : Fin cfg0.N) (y : S1024x128.Idx) : ((cfg0.win (8 : Fin 14)).blk t).view.emb y = ix2 (token t (y 0)) (y 1) := by
  refine funext fun a => Fin.ext ?_
  have e := tr8 t
  match a with
  | ⟨0, _⟩ =>
    show cc0_transform_8 (grid0.coords t) (0 : Fin 2) * 1024 + 1 * (y 0).val = 1024 * t.val + (y 0).val
    rw [e]; show t.val * 1024 + 1 * (y 0).val = _; omega
  | ⟨1, _⟩ =>
    show cc0_transform_8 (grid0.coords t) (1 : Fin 2) * 128 + 1 * (y 1).val = (y 1).val
    rw [e]; show 0 * 128 + 1 * (y 1).val = _; omega

theorem array8 : (dats m 0 c).arrAt (8 : Fin 14) cfg0.N = ref8 m c := by
  have hN := steps
  refine (dats m 0 c).arrAt_eq_of_emb (8 : Fin 14) _ (fun t _ y => ?_) (fun i => ?_)
  · refine (congrFun (flushed8 m c t) y).trans ?_
    show out0_8 (iblk m c 0 t) (iblk m c 1 t) (iblk m c 2 t) (iblk m c 3 t) (iblk m c 4 t) (iblk m c 5 t) y = ref8 m c (((cfg0.win (8 : Fin 14)).blk t).view.emb y)
    rw [emb8]
    have hy : y = ix2 (n0 := 1024) (n1 := 128) (y 0) (y 1) := funext fun z => match z with | ⟨0, _⟩ => rfl | ⟨1, _⟩ => rfl
    exact (congrArg _ hy).trans (out8_eq m c t (y 0) (y 1))
  · have h0 : (i 0).val < 65536 := (i 0).isLt
    have h1 : (i 1).val < 128 := (i 1).isLt
    let t : Fin cfg0.N := ⟨(i 0).val / 1024, by omega⟩
    refine ⟨t, flush8 t, ?_⟩
    have hi : i = ((cfg0.win (8 : Fin 14)).blk t).view.emb (ix2 (n0 := 1024) (n1 := 128) ⟨(i 0).val % 1024, by omega⟩ ⟨(i 1).val, h1⟩) := by
      rw [emb8]
      refine funext fun z => Fin.ext ?_
      match z with
      | ⟨0, _⟩ => show (i 0).val = 1024 * ((i 0).val / 1024) + (i 0).val % 1024; omega
      | ⟨1, _⟩ => rfl
    rw [hi]
    exact View.emb_mem_set _ _

/-- The index keys: their columns among the staged ones, the block written at a point, and the array. -/
theorem load_index (t : Fin cfg0.N) (k : Fin 1024) (j : Fin 64) :
    View.ld (iblk m c 1 t) r0_8 (ix2 k (⟨j.val, by omega⟩ : Fin 128)) = weights m c (ix2 k ⟨1152 + j.val, by omega⟩) := by
  rw [← staged_index (weights m c) k j, ← block_weights m c t]
  refine congrArg (iblk m c 1 t) (funext fun a => Fin.ext ?_)
  match a with
  | ⟨0, _⟩ => show 0 + 1 * k.val = k.val; omega
  | ⟨1, _⟩ => show 1152 + 1 * j.val = 1152 + j.val; omega

abbrev ref9 : S65536x64.Idx → EReal := Cert.ProjReferenceIdeal.Read.val_main_v50 (F := Ideal) (tokens m c) (weights m c) (indexScale m c) (indexShift m c)
theorem stored_index (x0 : Vec Ideal S1024x1024 .f32) (x1 : Vec Ideal S1024x2944 .bf16) (x2 : Vec Ideal S512x1024 .bf16) (x3 : Vec Ideal S1x128 .f32) (x4 x5 : Vec Ideal S1x64 .f32) :
    out0_9 (F := Ideal) x0 x1 x2 x3 x4 x5 = k0_pay11 (k0_pay5 x0) (View.ld x1 r0_8) x4 x5 := by
  unfold out0_9 k0_pay13
  rw [View.canon_cons_unit_lit _ _ _ (by decide), View.ld_unit_lit _ x0 (by decide), View.ld_unit_lit _ x4 (by decide), View.ld_unit_lit _ x5 (by decide)]

theorem out9_eq (t : Fin cfg0.N) (r : Fin 1024) (d : Fin 64) :
    out0_9 (iblk m c 0 t) (iblk m c 1 t) (iblk m c 2 t) (iblk m c 3 t) (iblk m c 4 t) (iblk m c 5 t) (ix2 r d) = ref9 m c (ix2 (token t r) d) := by
  refine (congrFun (stored_index _ _ _ _ _ _) (ix2 r d)).trans ?_
  refine (index_product _ _ _ _ r d).trans ?_
  rw [column_eq m c t r 64 1152 (by omega) _ (load_index m c t), funext (block_index_scale m c t), funext (block_index_shift m c t)]
  exact (at_v50 _ _ _ _ _ d).symm

theorem emb9 (t : Fin cfg0.N) (y : S1024x64.Idx) : ((cfg0.win (9 : Fin 14)).blk t).view.emb y = ix2 (token t (y 0)) (y 1) := by
  refine funext fun a => Fin.ext ?_
  have e := tr9 t
  match a with
  | ⟨0, _⟩ =>
    show cc0_transform_9 (grid0.coords t) (0 : Fin 2) * 1024 + 1 * (y 0).val = 1024 * t.val + (y 0).val
    rw [e]; show t.val * 1024 + 1 * (y 0).val = _; omega
  | ⟨1, _⟩ =>
    show cc0_transform_9 (grid0.coords t) (1 : Fin 2) * 64 + 1 * (y 1).val = (y 1).val
    rw [e]; show 0 * 64 + 1 * (y 1).val = _; omega

theorem array9 : (dats m 0 c).arrAt (9 : Fin 14) cfg0.N = ref9 m c := by
  have hN := steps
  refine (dats m 0 c).arrAt_eq_of_emb (9 : Fin 14) _ (fun t _ y => ?_) (fun i => ?_)
  · refine (congrFun (flushed9 m c t) y).trans ?_
    show out0_9 (iblk m c 0 t) (iblk m c 1 t) (iblk m c 2 t) (iblk m c 3 t) (iblk m c 4 t) (iblk m c 5 t) y = ref9 m c (((cfg0.win (9 : Fin 14)).blk t).view.emb y)
    rw [emb9]
    have hy : y = ix2 (n0 := 1024) (n1 := 64) (y 0) (y 1) := funext fun z => match z with | ⟨0, _⟩ => rfl | ⟨1, _⟩ => rfl
    exact (congrArg _ hy).trans (out9_eq m c t (y 0) (y 1))
  · have h0 : (i 0).val < 65536 := (i 0).isLt
    have h1 : (i 1).val < 64 := (i 1).isLt
    let t : Fin cfg0.N := ⟨(i 0).val / 1024, by omega⟩
    refine ⟨t, flush9 t, ?_⟩
    have hi : i = ((cfg0.win (9 : Fin 14)).blk t).view.emb (ix2 (n0 := 1024) (n1 := 64) ⟨(i 0).val % 1024, by omega⟩ ⟨(i 1).val, h1⟩) := by
      rw [emb9]
      refine funext fun z => Fin.ext ?_
      match z with
      | ⟨0, _⟩ => show (i 0).val = 1024 * ((i 0).val / 1024) + (i 0).val % 1024; omega
      | ⟨1, _⟩ => rfl
    rw [hi]
    exact View.emb_mem_set _ _

/-- The index weights: their columns among the staged ones, the block written at a point, and the array. -/
theorem load_gate (t : Fin cfg0.N) (k : Fin 1024) (j : Fin 8) :
    View.ld (iblk m c 1 t) r0_11 (ix2 k (⟨j.val, by omega⟩ : Fin 128)) = weights m c (ix2 k ⟨1216 + j.val, by omega⟩) := by
  rw [← staged_gate (weights m c) k j, ← block_weights m c t]
  refine congrArg (iblk m c 1 t) (funext fun a => Fin.ext ?_)
  match a with
  | ⟨0, _⟩ => show 0 + 1 * k.val = k.val; omega
  | ⟨1, _⟩ => show 1280 + 1 * j.val = 1280 + j.val; omega

abbrev ref10 : S65536x8.Idx → EReal := Cert.ProjReferenceIdeal.Read.val_main_v5 (F := Ideal) (tokens m c) (weights m c)
theorem stored_gate (x0 : Vec Ideal S1024x1024 .f32) (x1 : Vec Ideal S1024x2944 .bf16) (x2 : Vec Ideal S512x1024 .bf16) (x3 : Vec Ideal S1x128 .f32) (x4 x5 : Vec Ideal S1x64 .f32) :
    out0_10 (F := Ideal) x0 x1 x2 x3 x4 x5 = k0_pay1 (k0_pay12 (k0_pay5 x0) (View.ld x1 r0_11)) := by
  unfold out0_10 k0_pay13
  rw [View.canon_cons_unit_lit _ _ _ (by decide), View.ld_unit_lit _ x0 (by decide)]

theorem out10_eq (t : Fin cfg0.N) (r : Fin 1024) (d : Fin 8) :
    out0_10 (iblk m c 0 t) (iblk m c 1 t) (iblk m c 2 t) (iblk m c 3 t) (iblk m c 4 t) (iblk m c 5 t) (ix2 r d) = ref10 m c (ix2 (token t r) d) := by
  refine (congrFun (stored_gate _ _ _ _ _ _) (ix2 r d)).trans ?_
  refine (gate_product _ _ r d).trans ?_
  rw [column_eq m c t r 8 1216 (by omega) _ (load_gate m c t)]
  exact (at_v5 _ _ _ d).symm

theorem emb10 (t : Fin cfg0.N) (y : S1024x8.Idx) : ((cfg0.win (10 : Fin 14)).blk t).view.emb y = ix2 (token t (y 0)) (y 1) := by
  refine funext fun a => Fin.ext ?_
  have e := tr10 t
  match a with
  | ⟨0, _⟩ =>
    show cc0_transform_10 (grid0.coords t) (0 : Fin 2) * 1024 + 1 * (y 0).val = 1024 * t.val + (y 0).val
    rw [e]; show t.val * 1024 + 1 * (y 0).val = _; omega
  | ⟨1, _⟩ =>
    show cc0_transform_10 (grid0.coords t) (1 : Fin 2) * 8 + 1 * (y 1).val = (y 1).val
    rw [e]; show 0 * 8 + 1 * (y 1).val = _; omega

theorem array10 : (dats m 0 c).arrAt (10 : Fin 14) cfg0.N = ref10 m c := by
  have hN := steps
  refine (dats m 0 c).arrAt_eq_of_emb (10 : Fin 14) _ (fun t _ y => ?_) (fun i => ?_)
  · refine (congrFun (flushed10 m c t) y).trans ?_
    show out0_10 (iblk m c 0 t) (iblk m c 1 t) (iblk m c 2 t) (iblk m c 3 t) (iblk m c 4 t) (iblk m c 5 t) y = ref10 m c (((cfg0.win (10 : Fin 14)).blk t).view.emb y)
    rw [emb10]
    have hy : y = ix2 (n0 := 1024) (n1 := 8) (y 0) (y 1) := funext fun z => match z with | ⟨0, _⟩ => rfl | ⟨1, _⟩ => rfl
    exact (congrArg _ hy).trans (out10_eq m c t (y 0) (y 1))
  · have h0 : (i 0).val < 65536 := (i 0).isLt
    have h1 : (i 1).val < 8 := (i 1).isLt
    let t : Fin cfg0.N := ⟨(i 0).val / 1024, by omega⟩
    refine ⟨t, flush10 t, ?_⟩
    have hi : i = ((cfg0.win (10 : Fin 14)).blk t).view.emb (ix2 (n0 := 1024) (n1 := 8) ⟨(i 0).val % 1024, by omega⟩ ⟨(i 1).val, h1⟩) := by
      rw [emb10]
      refine funext fun z => Fin.ext ?_
      match z with
      | ⟨0, _⟩ => show (i 0).val = 1024 * ((i 0).val / 1024) + (i 0).val % 1024; omega
      | ⟨1, _⟩ => rfl
    rw [hi]
    exact View.emb_mem_set _ _

/-- The band's queries: their columns among the staged ones, the block written at a point, and the array. -/
theorem load_bandq (t : Fin cfg0.N) (k : Fin 1024) (j : Fin 512) :
    View.ld (iblk m c 1 t) r0_13 (ix2 k j) = weights m c (ix2 k ⟨1224 + j.val, by omega⟩) := by
  rw [← staged_bandq (weights m c) k j, ← block_weights m c t]
  refine congrArg (iblk m c 1 t) (funext fun a => Fin.ext ?_)
  match a with
  | ⟨0, _⟩ => show 0 + 1 * k.val = k.val; omega
  | ⟨1, _⟩ => show 1408 + 1 * j.val = 1408 + j.val; omega

abbrev ref11 : S65536x512.Idx → EReal := Cert.ProjReferenceIdeal.Read.val_main_v51 (F := Ideal) (tokens m c) (weights m c)
theorem stored_bandq (x0 : Vec Ideal S1024x1024 .f32) (x1 : Vec Ideal S1024x2944 .bf16) (x2 : Vec Ideal S512x1024 .bf16) (x3 : Vec Ideal S1x128 .f32) (x4 x5 : Vec Ideal S1x64 .f32) :
    out0_11 (F := Ideal) x0 x1 x2 x3 x4 x5 = k0_pay2 (k0_pay5 x0) (View.ld x1 r0_13) := by
  unfold out0_11 k0_pay13
  rw [View.canon_cons_unit_lit _ _ _ (by decide), View.ld_unit_lit _ x0 (by decide)]

theorem out11_eq (t : Fin cfg0.N) (r : Fin 1024) (d : Fin 512) :
    out0_11 (iblk m c 0 t) (iblk m c 1 t) (iblk m c 2 t) (iblk m c 3 t) (iblk m c 4 t) (iblk m c 5 t) (ix2 r d) = ref11 m c (ix2 (token t r) d) := by
  refine (congrFun (stored_bandq _ _ _ _ _ _) (ix2 r d)).trans ?_
  refine (bandq_product _ _ r d).trans ?_
  rw [column_eq m c t r 512 1224 (by omega) _ (load_bandq m c t)]
  exact (at_v51 _ _ _ d).symm

theorem emb11 (t : Fin cfg0.N) (y : S1024x512.Idx) : ((cfg0.win (11 : Fin 14)).blk t).view.emb y = ix2 (token t (y 0)) (y 1) := by
  refine funext fun a => Fin.ext ?_
  have e := tr11 t
  match a with
  | ⟨0, _⟩ =>
    show cc0_transform_11 (grid0.coords t) (0 : Fin 2) * 1024 + 1 * (y 0).val = 1024 * t.val + (y 0).val
    rw [e]; show t.val * 1024 + 1 * (y 0).val = _; omega
  | ⟨1, _⟩ =>
    show cc0_transform_11 (grid0.coords t) (1 : Fin 2) * 512 + 1 * (y 1).val = (y 1).val
    rw [e]; show 0 * 512 + 1 * (y 1).val = _; omega

theorem array11 : (dats m 0 c).arrAt (11 : Fin 14) cfg0.N = ref11 m c := by
  have hN := steps
  refine (dats m 0 c).arrAt_eq_of_emb (11 : Fin 14) _ (fun t _ y => ?_) (fun i => ?_)
  · refine (congrFun (flushed11 m c t) y).trans ?_
    show out0_11 (iblk m c 0 t) (iblk m c 1 t) (iblk m c 2 t) (iblk m c 3 t) (iblk m c 4 t) (iblk m c 5 t) y = ref11 m c (((cfg0.win (11 : Fin 14)).blk t).view.emb y)
    rw [emb11]
    have hy : y = ix2 (n0 := 1024) (n1 := 512) (y 0) (y 1) := funext fun z => match z with | ⟨0, _⟩ => rfl | ⟨1, _⟩ => rfl
    exact (congrArg _ hy).trans (out11_eq m c t (y 0) (y 1))
  · have h0 : (i 0).val < 65536 := (i 0).isLt
    have h1 : (i 1).val < 512 := (i 1).isLt
    let t : Fin cfg0.N := ⟨(i 0).val / 1024, by omega⟩
    refine ⟨t, flush11 t, ?_⟩
    have hi : i = ((cfg0.win (11 : Fin 14)).blk t).view.emb (ix2 (n0 := 1024) (n1 := 512) ⟨(i 0).val % 1024, by omega⟩ ⟨(i 1).val, h1⟩) := by
      rw [emb11]
      refine funext fun z => Fin.ext ?_
      match z with
      | ⟨0, _⟩ => show (i 0).val = 1024 * ((i 0).val / 1024) + (i 0).val % 1024; omega
      | ⟨1, _⟩ => rfl
    rw [hi]
    exact View.emb_mem_set _ _

/-- The band's keys: their columns among the staged ones, the block written at a point, and the array. -/
theorem load_bandk (t : Fin cfg0.N) (k : Fin 1024) (j : Fin 512) :
    View.ld (iblk m c 1 t) r0_14 (ix2 k j) = weights m c (ix2 k ⟨1736 + j.val, by omega⟩) := by
  rw [← staged_bandk (weights m c) k j, ← block_weights m c t]
  refine congrArg (iblk m c 1 t) (funext fun a => Fin.ext ?_)
  match a with
  | ⟨0, _⟩ => show 0 + 1 * k.val = k.val; omega
  | ⟨1, _⟩ => show 1920 + 1 * j.val = 1920 + j.val; omega

abbrev ref12 : S65536x512.Idx → EReal := Cert.ProjReferenceIdeal.Read.val_main_v52 (F := Ideal) (tokens m c) (weights m c)
theorem stored_bandk (x0 : Vec Ideal S1024x1024 .f32) (x1 : Vec Ideal S1024x2944 .bf16) (x2 : Vec Ideal S512x1024 .bf16) (x3 : Vec Ideal S1x128 .f32) (x4 x5 : Vec Ideal S1x64 .f32) :
    out0_12 (F := Ideal) x0 x1 x2 x3 x4 x5 = k0_pay3 (k0_pay5 x0) (View.ld x1 r0_14) := by
  unfold out0_12 k0_pay13
  rw [View.canon_cons_unit_lit _ _ _ (by decide), View.ld_unit_lit _ x0 (by decide)]

theorem out12_eq (t : Fin cfg0.N) (r : Fin 1024) (d : Fin 512) :
    out0_12 (iblk m c 0 t) (iblk m c 1 t) (iblk m c 2 t) (iblk m c 3 t) (iblk m c 4 t) (iblk m c 5 t) (ix2 r d) = ref12 m c (ix2 (token t r) d) := by
  refine (congrFun (stored_bandk _ _ _ _ _ _) (ix2 r d)).trans ?_
  refine (bandk_product _ _ r d).trans ?_
  rw [column_eq m c t r 512 1736 (by omega) _ (load_bandk m c t)]
  exact (at_v52 _ _ _ d).symm

theorem emb12 (t : Fin cfg0.N) (y : S1024x512.Idx) : ((cfg0.win (12 : Fin 14)).blk t).view.emb y = ix2 (token t (y 0)) (y 1) := by
  refine funext fun a => Fin.ext ?_
  have e := tr12 t
  match a with
  | ⟨0, _⟩ =>
    show cc0_transform_12 (grid0.coords t) (0 : Fin 2) * 1024 + 1 * (y 0).val = 1024 * t.val + (y 0).val
    rw [e]; show t.val * 1024 + 1 * (y 0).val = _; omega
  | ⟨1, _⟩ =>
    show cc0_transform_12 (grid0.coords t) (1 : Fin 2) * 512 + 1 * (y 1).val = (y 1).val
    rw [e]; show 0 * 512 + 1 * (y 1).val = _; omega

theorem array12 : (dats m 0 c).arrAt (12 : Fin 14) cfg0.N = ref12 m c := by
  have hN := steps
  refine (dats m 0 c).arrAt_eq_of_emb (12 : Fin 14) _ (fun t _ y => ?_) (fun i => ?_)
  · refine (congrFun (flushed12 m c t) y).trans ?_
    show out0_12 (iblk m c 0 t) (iblk m c 1 t) (iblk m c 2 t) (iblk m c 3 t) (iblk m c 4 t) (iblk m c 5 t) y = ref12 m c (((cfg0.win (12 : Fin 14)).blk t).view.emb y)
    rw [emb12]
    have hy : y = ix2 (n0 := 1024) (n1 := 512) (y 0) (y 1) := funext fun z => match z with | ⟨0, _⟩ => rfl | ⟨1, _⟩ => rfl
    exact (congrArg _ hy).trans (out12_eq m c t (y 0) (y 1))
  · have h0 : (i 0).val < 65536 := (i 0).isLt
    have h1 : (i 1).val < 512 := (i 1).isLt
    let t : Fin cfg0.N := ⟨(i 0).val / 1024, by omega⟩
    refine ⟨t, flush12 t, ?_⟩
    have hi : i = ((cfg0.win (12 : Fin 14)).blk t).view.emb (ix2 (n0 := 1024) (n1 := 512) ⟨(i 0).val % 1024, by omega⟩ ⟨(i 1).val, h1⟩) := by
      rw [emb12]
      refine funext fun z => Fin.ext ?_
      match z with
      | ⟨0, _⟩ => show (i 0).val = 1024 * ((i 0).val / 1024) + (i 0).val % 1024; omega
      | ⟨1, _⟩ => rfl
    rw [hi]
    exact View.emb_mem_set _ _

/-- The band's values: their columns among the staged ones, the block written at a point, and the array. -/
theorem load_bandv (t : Fin cfg0.N) (k : Fin 1024) (j : Fin 512) :
    View.ld (iblk m c 1 t) r0_15 (ix2 k j) = weights m c (ix2 k ⟨2248 + j.val, by omega⟩) := by
  rw [← staged_bandv (weights m c) k j, ← block_weights m c t]
  refine congrArg (iblk m c 1 t) (funext fun a => Fin.ext ?_)
  match a with
  | ⟨0, _⟩ => show 0 + 1 * k.val = k.val; omega
  | ⟨1, _⟩ => show 2432 + 1 * j.val = 2432 + j.val; omega

abbrev ref13 : S65536x512.Idx → EReal := Cert.ProjReferenceIdeal.Read.val_main_v53 (F := Ideal) (tokens m c) (weights m c)
theorem stored_bandv (x0 : Vec Ideal S1024x1024 .f32) (x1 : Vec Ideal S1024x2944 .bf16) (x2 : Vec Ideal S512x1024 .bf16) (x3 : Vec Ideal S1x128 .f32) (x4 x5 : Vec Ideal S1x64 .f32) :
    out0_13 (F := Ideal) x0 x1 x2 x3 x4 x5 = k0_pay4 (k0_pay5 x0) (View.ld x1 r0_15) := by
  unfold out0_13 k0_pay13
  rw [View.canon_cons_unit_lit _ _ _ (by decide), View.ld_unit_lit _ x0 (by decide)]

theorem out13_eq (t : Fin cfg0.N) (r : Fin 1024) (d : Fin 512) :
    out0_13 (iblk m c 0 t) (iblk m c 1 t) (iblk m c 2 t) (iblk m c 3 t) (iblk m c 4 t) (iblk m c 5 t) (ix2 r d) = ref13 m c (ix2 (token t r) d) := by
  refine (congrFun (stored_bandv _ _ _ _ _ _) (ix2 r d)).trans ?_
  refine (bandv_product _ _ r d).trans ?_
  rw [column_eq m c t r 512 2248 (by omega) _ (load_bandv m c t)]
  exact (at_v53 _ _ _ d).symm

theorem emb13 (t : Fin cfg0.N) (y : S1024x512.Idx) : ((cfg0.win (13 : Fin 14)).blk t).view.emb y = ix2 (token t (y 0)) (y 1) := by
  refine funext fun a => Fin.ext ?_
  have e := tr13 t
  match a with
  | ⟨0, _⟩ =>
    show cc0_transform_13 (grid0.coords t) (0 : Fin 2) * 1024 + 1 * (y 0).val = 1024 * t.val + (y 0).val
    rw [e]; show t.val * 1024 + 1 * (y 0).val = _; omega
  | ⟨1, _⟩ =>
    show cc0_transform_13 (grid0.coords t) (1 : Fin 2) * 512 + 1 * (y 1).val = (y 1).val
    rw [e]; show 0 * 512 + 1 * (y 1).val = _; omega

theorem array13 : (dats m 0 c).arrAt (13 : Fin 14) cfg0.N = ref13 m c := by
  have hN := steps
  refine (dats m 0 c).arrAt_eq_of_emb (13 : Fin 14) _ (fun t _ y => ?_) (fun i => ?_)
  · refine (congrFun (flushed13 m c t) y).trans ?_
    show out0_13 (iblk m c 0 t) (iblk m c 1 t) (iblk m c 2 t) (iblk m c 3 t) (iblk m c 4 t) (iblk m c 5 t) y = ref13 m c (((cfg0.win (13 : Fin 14)).blk t).view.emb y)
    rw [emb13]
    have hy : y = ix2 (n0 := 1024) (n1 := 512) (y 0) (y 1) := funext fun z => match z with | ⟨0, _⟩ => rfl | ⟨1, _⟩ => rfl
    exact (congrArg _ hy).trans (out13_eq m c t (y 0) (y 1))
  · have h0 : (i 0).val < 65536 := (i 0).isLt
    have h1 : (i 1).val < 512 := (i 1).isLt
    let t : Fin cfg0.N := ⟨(i 0).val / 1024, by omega⟩
    refine ⟨t, flush13 t, ?_⟩
    have hi : i = ((cfg0.win (13 : Fin 14)).blk t).view.emb (ix2 (n0 := 1024) (n1 := 512) ⟨(i 0).val % 1024, by omega⟩ ⟨(i 1).val, h1⟩) := by
      rw [emb13]
      refine funext fun z => Fin.ext ?_
      match z with
      | ⟨0, _⟩ => show (i 0).val = 1024 * ((i 0).val / 1024) + (i 0).val % 1024; omega
      | ⟨1, _⟩ => rfl
    rw [hi]
    exact View.emb_mem_set _ _

end Cert.Proj
-- ==== Proof.lean ====
/-
  The proof of the claims. The frames are the programs' runs weakened; each value claim puts a kernel's run and its
  reference's run side by side: the two arrays agree (`Cert.Band.arrays_eq` and `Cert.Moe.arrays_eq` under their
  preconditions, `Cert.Merge.arrays_eq` and the seven of `Cert.Proj` without one).
-/
module

public import proofs.«01_k».proof.Proof.Gen.ProjKernel.Frame
public import proofs.«01_k».proof.Proof.Gen.ProjKernelIdeal.Value
public import proofs.«01_k».proof.Proof.Gen.ProjKernelIdeal.Skeleton
public import proofs.«01_k».proof.Proof.Gen.ProjReferenceIdeal.Run
public import proofs.«01_k».proof.Proof.Gen.ProjReferenceIdeal.Read
public import proofs.«01_k».proof.Proof.Gen.MergeKernel.Launch
public import proofs.«01_k».proof.Proof.Gen.MergeKernelIdeal.Launch
public import proofs.«01_k».proof.Proof.Gen.MergeKernelIdeal.Skeleton
public import proofs.«01_k».proof.Proof.Gen.MergeReferenceIdeal.Run
public import proofs.«01_k».proof.Proof.Gen.MergeReferenceIdeal.Read
public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Gen.ReferenceIdeal.Read
public import proofs.«01_k».proof.Proof.Gen.MoeKernel.Launch
public import proofs.«01_k».proof.Proof.Gen.MoeKernelIdeal.Launch
public import proofs.«01_k».proof.Proof.Gen.MoeKernelIdeal.Skeleton
public import proofs.«01_k».proof.Proof.Gen.Pre_routed
public import proofs.«01_k».proof.Proof.Gen.MoeReferenceIdeal.Run
public import proofs.«01_k».proof.Proof.Gen.MoeReferenceIdeal.Read
public import proofs.«01_k».proof.Proof.Finite
public import proofs.«01_k».proof.Proof.Equation
public import proofs.«01_k».proof.Proof.MoeFrame
public import proofs.«01_k».proof.Proof.MoeSame
public import proofs.«01_k».proof.Proof.MoeValue
public import proofs.«01_k».proof.Proof.MergeSame
public import proofs.«01_k».proof.Proof.MergeValue
public import proofs.«01_k».proof.Proof.ProjValue
public import Idealize.ShloMosaic.Adequacy
public import Idealize.ShloMosaic.Init
public import Idealize.ShloMosaic.Lib.Quiescent

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v76_eq]
  obtain ⟨h0, h1, h2, h3⟩ := hagree c
  rw [h0, h1, h2, h3]
  obtain ⟨hq, hk, hR⟩ := Cert.Pre_finite.Band.all_real _ _ _ _ (fun x => x.elim0) (congrFun (hpre c) _)
  exact Cert.Band.arrays_eq m c hq hk hR

theorem frame_moe_kernel : Cert.quiescent_MoeKernel := by
  intro m ρ hpre
  have hR : Cert.Moe.Routed (Cert.Moe.T0of m) (Cert.Moe.T1of m) :=
    Cert.Moe.routed_of _ _ _ _ _ _ _ _ _ (fun x => x.elim0) (congrFun (hpre ⟨0, by decide⟩) _)
  rw [Cert.Moe.defs_same, Cert.Moe.main_same]
  exact (θ_run Cert.MoeKernelIdeal.defs _ _).mono (fun _ h => ⟨fun c => (h.1 c).2, h.2⟩) (Cert.Moe.run_all (F := Bits) m ρ hR)

theorem frame_moe_ideal : Cert.quiescent_MoeKernelIdeal := fun m ρ hpre =>
  (θ_run Cert.MoeKernelIdeal.defs _ _).mono (fun _ h => ⟨fun c => (h.1 c).2, h.2⟩)
    (Cert.Moe.run_all (F := Ideal) m ρ (Cert.Moe.routed_of _ _ _ _ _ _ _ _ _ (fun x => x.elim0) (congrFun (hpre ⟨0, by decide⟩) _)))

theorem frame_moe_reference : Cert.quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

theorem value_moe : Cert.algebraic_MoeKernelIdeal_MoeReferenceIdeal := by
  intro m ρ m' ρ' hpre hagree
  have hR : Cert.Moe.Routed (Cert.Moe.T0of m) (Cert.Moe.T1of m) :=
    Cert.Moe.routed_of _ _ _ _ _ _ _ _ _ (fun x => x.elim0) (congrFun (hpre ⟨0, by decide⟩) _)
  refine ⟨fun c => Cert.Moe.refArray m c, ?_, ?_⟩
  · refine (θ_run Cert.MoeKernelIdeal.defs _ _).mono (fun _ h c => ⟨?_, (h.1 c).2⟩) (Cert.Moe.run_all (F := Ideal) m ρ hR)
    rw [(h.1 c).1]
    exact Cert.Moe.arrays_eq hR m c (Cert.Moe.at_of m)
  · refine (θ_run Cert.MoeReferenceIdeal.defs _ _).mono (fun _ h c => ⟨?_, (h c).2⟩) (Cert.MoeReferenceIdeal.Value.run (F := Ideal) m' ρ')
    rw [(h c).1, Cert.MoeReferenceIdeal.Read.val_main_v76_eq]
    obtain ⟨h0, h1, h2, h3, h4, h5, h6, h7, h8⟩ := hagree c
    rw [h0, h1, h2, h3, h4, h5, h6, h7, h8]

theorem frame_merge_kernel : Cert.quiescent_MergeKernel := by
  intro m ρ _
  rw [Cert.Merge.defs_same, Cert.Merge.main_same]
  exact (θ_run Cert.MergeKernelIdeal.defs _ _).mono (fun _ h => ⟨fun c => (h.1 c).2, h.2⟩) (Cert.Merge.run_all (F := Bits) m ρ)

theorem frame_merge_ideal : Cert.quiescent_MergeKernelIdeal := fun m ρ _ =>
  (θ_run Cert.MergeKernelIdeal.defs _ _).mono (fun _ h => ⟨fun c => (h.1 c).2, h.2⟩) (Cert.Merge.run_all (F := Ideal) m ρ)

theorem frame_merge_reference : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem value_merge : Cert.algebraic_MergeKernelIdeal_MergeReferenceIdeal := by
  intro m ρ m' ρ' _ hagree
  refine ⟨fun c => Cert.Merge.refArray m c, ?_, ?_⟩
  · refine (θ_run Cert.MergeKernelIdeal.defs _ _).mono (fun _ h c => ⟨?_, (h.1 c).2⟩) (Cert.Merge.run_all (F := Ideal) m ρ)
    rw [(h.1 c).1]
    exact Cert.Merge.arrays_eq m c
  · refine (θ_run Cert.MergeReferenceIdeal.defs _ _).mono (fun _ h c => ⟨?_, (h c).2⟩) (Cert.MergeReferenceIdeal.Value.run (F := Ideal) m' ρ')
    rw [(h c).1, Cert.MergeReferenceIdeal.Read.val_main_v51_eq]
    obtain ⟨h0, h1, h2, h3, h4, h5, h6, h7, h8, -⟩ := hagree c
    rw [h0, h1, h2, h3, h4, h5, h6, h7, h8]

theorem frame_proj_reference : Cert.quiescent_ProjReferenceIdeal := fun m ρ _ =>
  (θ_run Cert.ProjReferenceIdeal.defs _ _).mono
    (fun r h => ⟨fun c => (h c).2.2.2.2.2.2.2, sem_eq_zero_of_no_sems (by decide) r.2⟩)
    (Cert.ProjReferenceIdeal.Value.run (F := Ideal) m ρ)

theorem value_proj : Cert.algebraic_ProjKernelIdeal_ProjReferenceIdeal := by
  intro m ρ m' ρ' _ hagree
  refine ⟨fun c => Cert.Proj.ref7 m c, fun c => Cert.Proj.ref8 m c, fun c => Cert.Proj.ref9 m c, fun c => Cert.Proj.ref10 m c,
    fun c => Cert.Proj.ref11 m c, fun c => Cert.Proj.ref12 m c, fun c => Cert.Proj.ref13 m c, ?_, ?_⟩
  · refine (θ_run Cert.ProjKernelIdeal.defs _ _).mono (fun _ h c => ?_) (Cert.ProjKernelIdeal.Value.run_blocks (F := Ideal) m ρ)
    obtain ⟨-, h7, h8, h9, h10, h11, h12, h13, hargs⟩ := h c
    exact ⟨h7.trans (Cert.Proj.array7 m c), h8.trans (Cert.Proj.array8 m c), h9.trans (Cert.Proj.array9 m c),
      h10.trans (Cert.Proj.array10 m c), h11.trans (Cert.Proj.array11 m c), h12.trans (Cert.Proj.array12 m c),
      h13.trans (Cert.Proj.array13 m c), hargs⟩
  · refine (θ_run Cert.ProjReferenceIdeal.defs _ _).mono (fun _ h c => ?_) (Cert.ProjReferenceIdeal.Value.run (F := Ideal) m' ρ')
    obtain ⟨h7, h8, h9, h10, h11, h12, h13, hargs⟩ := h c
    obtain ⟨e0, e1, e2, e3, e4, -⟩ := hagree c
    have h7' := h7.trans (Cert.ProjReferenceIdeal.Read.val_main_v48_eq _ _)
    rw [e0, e1] at h7'
    have h8' := h8.trans (Cert.ProjReferenceIdeal.Read.val_main_v49_eq _ _ _)
    rw [e0, e1, e2] at h8'
    have h9' := h9.trans (Cert.ProjReferenceIdeal.Read.val_main_v50_eq _ _ _ _)
    rw [e0, e1, e3, e4] at h9'
    have h10' := h10.trans (Cert.ProjReferenceIdeal.Read.val_main_v5_eq _ _)
    rw [e0, e1] at h10'
    have h11' := h11.trans (Cert.ProjReferenceIdeal.Read.val_main_v51_eq _ _)
    rw [e0, e1] at h11'
    have h12' := h12.trans (Cert.ProjReferenceIdeal.Read.val_main_v52_eq _ _)
    rw [e0, e1] at h12'
    have h13' := h13.trans (Cert.ProjReferenceIdeal.Read.val_main_v53_eq _ _)
    rw [e0, e1] at h13'
    exact ⟨h7', h8', h9', h10', h11', h12', h13', hargs⟩

theorem claim : Cert.Claim := ⟨Cert.Kernel.Gen.facts, Cert.KernelIdeal.Gen.facts, Cert.ReferenceIdeal.Gen.facts,
  Cert.MoeKernel.Gen.facts, Cert.MoeKernelIdeal.Gen.facts, Cert.MoeReferenceIdeal.Gen.facts,
  Cert.MergeKernel.Gen.facts, Cert.MergeKernelIdeal.Gen.facts, Cert.MergeReferenceIdeal.Gen.facts,
  Cert.ProjKernel.Gen.facts, Cert.ProjKernelIdeal.Gen.facts, Cert.ProjReferenceIdeal.Gen.facts, Cert.Pre_finite.Gen.facts, Cert.Pre_routed.Gen.facts,
  fun m ρ _ => Cert.Kernel.Gen.frame m ρ, fun m ρ _ => Cert.KernelIdeal.Gen.frame m ρ, fun m ρ _ => Cert.KernelIdeal.Gen.frame m ρ,
  frame_reference, frame_reference_finite, frame_moe_kernel, frame_moe_ideal, frame_moe_reference,
  frame_merge_kernel, frame_merge_ideal, frame_merge_reference,
  fun m ρ _ => Cert.ProjKernel.Gen.frame m ρ, fun m ρ _ => Cert.ProjKernelIdeal.Gen.frame m ρ, frame_proj_reference,
  (trivial : preserves_Kernel_KernelIdeal), value, (trivial : preserves_MoeKernel_MoeKernelIdeal), value_moe,
  (trivial : preserves_MergeKernel_MergeKernelIdeal), value_merge,
  (trivial : preserves_ProjKernel_ProjKernelIdeal), value_proj⟩

end Cert.Proof

end
